-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x192x25088 : Shape := ⟨3, ![4, 192, 25088]⟩
abbrev S4x192x100352 : Shape := ⟨3, ![4, 192, 100352]⟩
abbrev S8x896 : Shape := ⟨2, ![8, 896]⟩
abbrev S8x3584 : Shape := ⟨2, ![8, 3584]⟩
abbrev S_ : Shape := ⟨0, ![]⟩
abbrev S16 : Shape := ⟨1, ![16]⟩
abbrev S1x8x896 : Shape := ⟨3, ![1, 8, 896]⟩
abbrev S1x8x3584 : Shape := ⟨3, ![1, 8, 3584]⟩
abbrev S1x16 : Shape := ⟨2, ![1, 16]⟩

abbrev nBuf : Table → Nat
  | .hbm => 2
  | .local .scVector .vmem => 4
  | _ => 0

abbrev bufTy : (tb : Table) → Fin (nBuf tb) → BufTy
  | .hbm, ⟨0, _⟩ => ⟨S4x192x25088, .f32⟩
  | .hbm, ⟨1, _⟩ => ⟨S4x192x100352, .f32⟩
  | .local .scVector .vmem, ⟨0, _⟩ => ⟨S8x896, .f32⟩
  | .local .scVector .vmem, ⟨1, _⟩ => ⟨S8x896, .f32⟩
  | .local .scVector .vmem, ⟨2, _⟩ => ⟨S8x3584, .f32⟩
  | .local .scVector .vmem, ⟨3, _⟩ => ⟨S8x3584, .f32⟩
  | _, _ => ⟨S4x192x25088, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c84_i32 : BitVec 32 := 84#32
  let v2 : BitVec 32 := Scalar.muli v1 c84_i32
  let v6 : BitVec 32 := Scalar.addi v2 c0_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c672_i32 : BitVec 32 := 672#32
  let c0_i32_2 : BitVec 32 := 0#32
  let v13 : BitVec 1 := Scalar.cmpi .sgt c672_i32 c0_i32_2
  let v14 : BitVec 32 := Scalar.extui v13
  let c0_i32_3 : BitVec 32 := 0#32
  let v15 : BitVec 1 := Scalar.cmpi .slt c672_i32 c0_i32_3
  let v16 : BitVec 32 := Scalar.extui v15
  let v17 : BitVec 32 := Scalar.subi v14 v16
  let v18 : BitVec 1 := Scalar.cmpi .ne v12 v17
  let v19 : BitVec 32 := Scalar.remsi v6 c672_i32
  let c0_i32_4 : BitVec 32 := 0#32
  let v20 : BitVec 1 := Scalar.cmpi .ne v19 c0_i32_4
  let v21 : BitVec 1 := Scalar.andi v18 v20
  let v7 : BitVec 32 := Scalar.divsi v6 c672_i32
  let c1_i32_5 : BitVec 32 := 1#32
  let v22 : BitVec 32 := Scalar.subi v7 c1_i32_5
  let v23 : BitVec 32 := Scalar.select v21 v22 v7
  let c8_i32 : BitVec 32 := 8#32
  let c672_i32_6 : BitVec 32 := 672#32
  let c0_i32_7 : BitVec 32 := 0#32
  let v24 : BitVec 1 := Scalar.cmpi .eq c672_i32_6 c0_i32_7
  let c1_i32_8 : BitVec 32 := 1#32
  let v25 : BitVec 32 := Scalar.select v24 c1_i32_8 c672_i32_6
  let v26 : BitVec 32 := Scalar.remsi v6 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c28_i32 : BitVec 32 := 28#32
  let c0_i32_14 : BitVec 32 := 0#32
  let v40 : BitVec 1 := Scalar.cmpi .sgt c28_i32 c0_i32_14
  let v41 : BitVec 32 := Scalar.extui v40
  let c0_i32_15 : BitVec 32 := 0#32
  let v42 : BitVec 1 := Scalar.cmpi .slt c28_i32 c0_i32_15
  let v43 : BitVec 32 := Scalar.extui v42
  let v44 : BitVec 32 := Scalar.subi v41 v43
  let v45 : BitVec 1 := Scalar.cmpi .ne v39 v44
  let v46 : BitVec 32 := Scalar.remsi v33 c28_i32
  let c0_i32_16 : BitVec 32 := 0#32
  let v47 : BitVec 1 := Scalar.cmpi .ne v46 c0_i32_16
  let v48 : BitVec 1 := Scalar.andi v45 v47
  let v34 : BitVec 32 := Scalar.divsi v33 c28_i32
  let c1_i32_17 : BitVec 32 := 1#32
  let v49 : BitVec 32 := Scalar.subi v34 c1_i32_17
  let v50 : BitVec 32 := Scalar.select v48 v49 v34
  let v88 : BitVec 32 := Scalar.muli c8_i32 v50
  let c6272_i32 : BitVec 32 := 6272#32
  let c28_i32_18 : BitVec 32 := 28#32
  let c0_i32_19 : BitVec 32 := 0#32
  let v51 : BitVec 1 := Scalar.cmpi .eq c28_i32_18 c0_i32_19
  let c1_i32_20 : BitVec 32 := 1#32
  let v52 : BitVec 32 := Scalar.select v51 c1_i32_20 c28_i32_18
  let v53 : BitVec 32 := Scalar.remsi v33 v52
  let c0_i32_22 : BitVec 32 := 0#32
  let v55 : BitVec 1 := Scalar.cmpi .slt v53 c0_i32_22
  let c0_i32_23 : BitVec 32 := 0#32
  let v56 : BitVec 1 := Scalar.cmpi .slt v52 c0_i32_23
  let v57 : BitVec 1 := Scalar.xori v55 v56
  let c0_i32_21 : BitVec 32 := 0#32
  let v54 : BitVec 1 := Scalar.cmpi .ne v53 c0_i32_21
  let v58 : BitVec 1 := Scalar.andi v57 v54
  let v59 : BitVec 32 := Scalar.addi v53 v52
  let v60 : BitVec 32 := Scalar.select v58 v59 v53
  let c0_i32_24 : BitVec 32 := 0#32
  let v62 : BitVec 1 := Scalar.cmpi .sgt v60 c0_i32_24
  let v63 : BitVec 32 := Scalar.extui v62
  let c0_i32_25 : BitVec 32 := 0#32
  let v64 : BitVec 1 := Scalar.cmpi .slt v60 c0_i32_25
  let v65 : BitVec 32 := Scalar.extui v64
  let v66 : BitVec 32 := Scalar.subi v63 v65
  let c7_i32 : BitVec 32 := 7#32
  let c0_i32_26 : BitVec 32 := 0#32
  let v67 : BitVec 1 := Scalar.cmpi .sgt c7_i32 c0_i32_26
  let v68 : BitVec 32 := Scalar.extui v67
  let c0_i32_27 : BitVec 32 := 0#32
  let v69 : BitVec 1 := Scalar.cmpi .slt c7_i32 c0_i32_27
  let v70 : BitVec 32 := Scalar.extui v69
  let v71 : BitVec 32 := Scalar.subi v68 v70
  let v72 : BitVec 1 := Scalar.cmpi .ne v66 v71
  let v73 : BitVec 32 := Scalar.remsi v60 c7_i32
  let c0_i32_28 : BitVec 32 := 0#32
  let v74 : BitVec 1 := Scalar.cmpi .ne v73 c0_i32_28
  let v75 : BitVec 1 := Scalar.andi v72 v74
  let v61 : BitVec 32 := Scalar.divsi v60 c7_i32
  let c1_i32_29 : BitVec 32 := 1#32
  let v76 : BitVec 32 := Scalar.subi v61 c1_i32_29
  let v77 : BitVec 32 := Scalar.select v75 v76 v61
  let v89 : BitVec 32 := Scalar.muli c6272_i32 v77
  let c896_i32 : BitVec 32 := 896#32
  let c7_i32_30 : BitVec 32 := 7#32
  let c0_i32_31 : BitVec 32 := 0#32
  let v78 : BitVec 1 := Scalar.cmpi .eq c7_i32_30 c0_i32_31
  let c1_i32_32 : BitVec 32 := 1#32
  let v79 : BitVec 32 := Scalar.select v78 c1_i32_32 c7_i32_30
  let v80 : BitVec 32 := Scalar.remsi v60 v79
  let c0_i32_34 : BitVec 32 := 0#32
  let v82 : BitVec 1 := Scalar.cmpi .slt v80 c0_i32_34
  let c0_i32_35 : BitVec 32 := 0#32
  let v83 : BitVec 1 := Scalar.cmpi .slt v79 c0_i32_35
  let v84 : BitVec 1 := Scalar.xori v82 v83
  let c0_i32_33 : BitVec 32 := 0#32
  let v81 : BitVec 1 := Scalar.cmpi .ne v80 c0_i32_33
  let v85 : BitVec 1 := Scalar.andi v84 v81
  let v86 : BitVec 32 := Scalar.addi v80 v79
  let v87 : BitVec 32 := Scalar.select v85 v86 v80
  let v90 : BitVec 32 := Scalar.muli c896_i32 v87
  let v91 : BitVec 32 := Scalar.addi v89 v90
  ![v23.toNat, v88.toNat, v91.toNat]
@[reducible] def k0_t1_loop : Scf.Loop 32 :=
  let c0_i32_82 : BitVec 32 := 0#32
  let c42_i32 : BitVec 32 := 42#32
  let v192 : BitVec 32 := Scalar.addi c0_i32_82 c42_i32
  let c1_i32_83 : BitVec 32 := 1#32
  ⟨c0_i32_82, v192, c1_i32_83⟩
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c84_i32 : BitVec 32 := 84#32
  let v2 : BitVec 32 := Scalar.muli v1 c84_i32
  let c0_i32_82 : BitVec 32 := 0#32
  let c1_i32_83 : BitVec 32 := 1#32
  let arg12 : BitVec 32 := Scf.iv c0_i32_82 c1_i32_83 k0_t1
  let c2_i32_173 : BitVec 32 := 2#32
  let v379 : BitVec 32 := Scalar.muli arg12 c2_i32_173
  let c0_i32_174 : BitVec 32 := 0#32
  let v380 : BitVec 32 := Scalar.addi v379 c0_i32_174
  let v381 : BitVec 32 := Scalar.addi v2 v380
  let c0_i32_176 : BitVec 32 := 0#32
  let v383 : BitVec 1 := Scalar.cmpi .sgt v381 c0_i32_176
  let v384 : BitVec 32 := Scalar.extui v383
  let c0_i32_177 : BitVec 32 := 0#32
  let v385 : BitVec 1 := Scalar.cmpi .slt v381 c0_i32_177
  let v386 : BitVec 32 := Scalar.extui v385
  let v387 : BitVec 32 := Scalar.subi v384 v386
  let c672_i32_175 : BitVec 32 := 672#32
  let c0_i32_178 : BitVec 32 := 0#32
  let v388 : BitVec 1 := Scalar.cmpi .sgt c672_i32_175 c0_i32_178
  let v389 : BitVec 32 := Scalar.extui v388
  let c0_i32_179 : BitVec 32 := 0#32
  let v390 : BitVec 1 := Scalar.cmpi .slt c672_i32_175 c0_i32_179
  let v391 : BitVec 32 := Scalar.extui v390
  let v392 : BitVec 32 := Scalar.subi v389 v391
  let v393 : BitVec 1 := Scalar.cmpi .ne v387 v392
  let v394 : BitVec 32 := Scalar.remsi v381 c672_i32_175
  let c0_i32_180 : BitVec 32 := 0#32
  let v395 : BitVec 1 := Scalar.cmpi .ne v394 c0_i32_180
  let v396 : BitVec 1 := Scalar.andi v393 v395
  let v382 : BitVec 32 := Scalar.divsi v381 c672_i32_175
  let c1_i32_181 : BitVec 32 := 1#32
  let v397 : BitVec 32 := Scalar.subi v382 c1_i32_181
  let v398 : BitVec 32 := Scalar.select v396 v397 v382
  let c8_i32_214 : BitVec 32 := 8#32
  let c672_i32_182 : BitVec 32 := 672#32
  let c0_i32_183 : BitVec 32 := 0#32
  let v399 : BitVec 1 := Scalar.cmpi .eq c672_i32_182 c0_i32_183
  let c1_i32_184 : BitVec 32 := 1#32
  let v400 : BitVec 32 := Scalar.select v399 c1_i32_184 c672_i32_182
  let v401 : BitVec 32 := Scalar.remsi v381 v400
  let c0_i32_186 : BitVec 32 := 0#32
  let v403 : BitVec 1 := Scalar.cmpi .slt v401 c0_i32_186
  let c0_i32_187 : BitVec 32 := 0#32
  let v404 : BitVec 1 := Scalar.cmpi .slt v400 c0_i32_187
  let v405 : BitVec 1 := Scalar.xori v403 v404
  let c0_i32_185 : BitVec 32 := 0#32
  let v402 : BitVec 1 := Scalar.cmpi .ne v401 c0_i32_185
  let v406 : BitVec 1 := Scalar.andi v405 v402
  let v407 : BitVec 32 := Scalar.addi v401 v400
  let v408 : BitVec 32 := Scalar.select v406 v407 v401
  let c0_i32_189 : BitVec 32 := 0#32
  let v410 : BitVec 1 := Scalar.cmpi .sgt v408 c0_i32_189
  let v411 : BitVec 32 := Scalar.extui v410
  let c0_i32_190 : BitVec 32 := 0#32
  let v412 : BitVec 1 := Scalar.cmpi .slt v408 c0_i32_190
  let v413 : BitVec 32 := Scalar.extui v412
  let v414 : BitVec 32 := Scalar.subi v411 v413
  let c28_i32_188 : BitVec 32 := 28#32
  let c0_i32_191 : BitVec 32 := 0#32
  let v415 : BitVec 1 := Scalar.cmpi .sgt c28_i32_188 c0_i32_191
  let v416 : BitVec 32 := Scalar.extui v415
  let c0_i32_192 : BitVec 32 := 0#32
  let v417 : BitVec 1 := Scalar.cmpi .slt c28_i32_188 c0_i32_192
  let v418 : BitVec 32 := Scalar.extui v417
  let v419 : BitVec 32 := Scalar.subi v416 v418
  let v420 : BitVec 1 := Scalar.cmpi .ne v414 v419
  let v421 : BitVec 32 := Scalar.remsi v408 c28_i32_188
  let c0_i32_193 : BitVec 32 := 0#32
  let v422 : BitVec 1 := Scalar.cmpi .ne v421 c0_i32_193
  let v423 : BitVec 1 := Scalar.andi v420 v422
  let v409 : BitVec 32 := Scalar.divsi v408 c28_i32_188
  let c1_i32_194 : BitVec 32 := 1#32
  let v424 : BitVec 32 := Scalar.subi v409 c1_i32_194
  let v425 : BitVec 32 := Scalar.select v423 v424 v409
  let v463 : BitVec 32 := Scalar.muli c8_i32_214 v425
  let c6272_i32_215 : BitVec 32 := 6272#32
  let c28_i32_195 : BitVec 32 := 28#32
  let c0_i32_196 : BitVec 32 := 0#32
  let v426 : BitVec 1 := Scalar.cmpi .eq c28_i32_195 c0_i32_196
  let c1_i32_197 : BitVec 32 := 1#32
  let v427 : BitVec 32 := Scalar.select v426 c1_i32_197 c28_i32_195
  let v428 : BitVec 32 := Scalar.remsi v408 v427
  let c0_i32_199 : BitVec 32 := 0#32
  let v430 : BitVec 1 := Scalar.cmpi .slt v428 c0_i32_199
  let c0_i32_200 : BitVec 32 := 0#32
  let v431 : BitVec 1 := Scalar.cmpi .slt v427 c0_i32_200
  let v432 : BitVec 1 := Scalar.xori v430 v431
  let c0_i32_198 : BitVec 32 := 0#32
  let v429 : BitVec 1 := Scalar.cmpi .ne v428 c0_i32_198
  let v433 : BitVec 1 := Scalar.andi v432 v429
  let v434 : BitVec 32 := Scalar.addi v428 v427
  let v435 : BitVec 32 := Scalar.select v433 v434 v428
  let c0_i32_202 : BitVec 32 := 0#32
  let v437 : BitVec 1 := Scalar.cmpi .sgt v435 c0_i32_202
  let v438 : BitVec 32 := Scalar.extui v437
  let c0_i32_203 : BitVec 32 := 0#32
  let v439 : BitVec 1 := Scalar.cmpi .slt v435 c0_i32_203
  let v440 : BitVec 32 := Scalar.extui v439
  let v441 : BitVec 32 := Scalar.subi v438 v440
  let c7_i32_201 : BitVec 32 := 7#32
  let c0_i32_204 : BitVec 32 := 0#32
  let v442 : BitVec 1 := Scalar.cmpi .sgt c7_i32_201 c0_i32_204
  let v443 : BitVec 32 := Scalar.extui v442
  let c0_i32_205 : BitVec 32 := 0#32
  let v444 : BitVec 1 := Scalar.cmpi .slt c7_i32_201 c0_i32_205
  let v445 : BitVec 32 := Scalar.extui v444
  let v446 : BitVec 32 := Scalar.subi v443 v445
  let v447 : BitVec 1 := Scalar.cmpi .ne v441 v446
  let v448 : BitVec 32 := Scalar.remsi v435 c7_i32_201
  let c0_i32_206 : BitVec 32 := 0#32
  let v449 : BitVec 1 := Scalar.cmpi .ne v448 c0_i32_206
  let v450 : BitVec 1 := Scalar.andi v447 v449
  let v436 : BitVec 32 := Scalar.divsi v435 c7_i32_201
  let c1_i32_207 : BitVec 32 := 1#32
  let v451 : BitVec 32 := Scalar.subi v436 c1_i32_207
  let v452 : BitVec 32 := Scalar.select v450 v451 v436
  let v464 : BitVec 32 := Scalar.muli c6272_i32_215 v452
  let c896_i32_216 : BitVec 32 := 896#32
  let c7_i32_208 : BitVec 32 := 7#32
  let c0_i32_209 : BitVec 32 := 0#32
  let v453 : BitVec 1 := Scalar.cmpi .eq c7_i32_208 c0_i32_209
  let c1_i32_210 : BitVec 32 := 1#32
  let v454 : BitVec 32 := Scalar.select v453 c1_i32_210 c7_i32_208
  let v455 : BitVec 32 := Scalar.remsi v435 v454
  let c0_i32_212 : BitVec 32 := 0#32
  let v457 : BitVec 1 := Scalar.cmpi .slt v455 c0_i32_212
  let c0_i32_213 : BitVec 32 := 0#32
  let v458 : BitVec 1 := Scalar.cmpi .slt v454 c0_i32_213
  let v459 : BitVec 1 := Scalar.xori v457 v458
  let c0_i32_211 : BitVec 32 := 0#32
  let v456 : BitVec 1 := Scalar.cmpi .ne v455 c0_i32_211
  let v460 : BitVec 1 := Scalar.andi v459 v456
  let v461 : BitVec 32 := Scalar.addi v455 v454
  let v462 : BitVec 32 := Scalar.select v460 v461 v455
  let v465 : BitVec 32 := Scalar.muli c896_i32_216 v462
  let v466 : BitVec 32 := Scalar.addi v464 v465
  ![v398.toNat, v463.toNat, v466.toNat]
def k0_cond1 (k0_t1 : Fin k0_t1_loop.trips) : BitVec 1 :=
  let c0_i32_82 : BitVec 32 := 0#32
  let c1_i32_83 : BitVec 32 := 1#32
  let arg12 : BitVec 32 := Scf.iv c0_i32_82 c1_i32_83 k0_t1
  let c2_i32_173 : BitVec 32 := 2#32
  let v379 : BitVec 32 := Scalar.muli arg12 c2_i32_173
  let c0_i32_219 : BitVec 32 := 0#32
  let v474 : BitVec 1 := Scalar.cmpi .sgt v379 c0_i32_219
  let v475 : BitVec 32 := Scalar.extui v474
  let c0_i32_220 : BitVec 32 := 0#32
  let v476 : BitVec 1 := Scalar.cmpi .ne v475 c0_i32_220
  v476

def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c84_i32 : BitVec 32 := 84#32
  let v2 : BitVec 32 := Scalar.muli v1 c84_i32
  let c0_i32_82 : BitVec 32 := 0#32
  let c1_i32_83 : BitVec 32 := 1#32
  let arg12 : BitVec 32 := Scf.iv c0_i32_82 c1_i32_83 k0_t1
  let c2_i32_173 : BitVec 32 := 2#32
  let v379 : BitVec 32 := Scalar.muli arg12 c2_i32_173
  let c0_i32_174 : BitVec 32 := 0#32
  let v380 : BitVec 32 := Scalar.addi v379 c0_i32_174
  let c2_i32_437 : BitVec 32 := 2#32
  let v800 : BitVec 32 := Scalar.subi v380 c2_i32_437
  let v801 : BitVec 32 := Scalar.addi v2 v800
  let c0_i32_439 : BitVec 32 := 0#32
  let v803 : BitVec 1 := Scalar.cmpi .sgt v801 c0_i32_439
  let v804 : BitVec 32 := Scalar.extui v803
  let c0_i32_440 : BitVec 32 := 0#32
  let v805 : BitVec 1 := Scalar.cmpi .slt v801 c0_i32_440
  let v806 : BitVec 32 := Scalar.extui v805
  let v807 : BitVec 32 := Scalar.subi v804 v806
  let c672_i32_438 : BitVec 32 := 672#32
  let c0_i32_441 : BitVec 32 := 0#32
  let v808 : BitVec 1 := Scalar.cmpi .sgt c672_i32_438 c0_i32_441
  let v809 : BitVec 32 := Scalar.extui v808
  let c0_i32_442 : BitVec 32 := 0#32
  let v810 : BitVec 1 := Scalar.cmpi .slt c672_i32_438 c0_i32_442
  let v811 : BitVec 32 := Scalar.extui v810
  let v812 : BitVec 32 := Scalar.subi v809 v811
  let v813 : BitVec 1 := Scalar.cmpi .ne v807 v812
  let v814 : BitVec 32 := Scalar.remsi v801 c672_i32_438
  let c0_i32_443 : BitVec 32 := 0#32
  let v815 : BitVec 1 := Scalar.cmpi .ne v814 c0_i32_443
  let v816 : BitVec 1 := Scalar.andi v813 v815
  let v802 : BitVec 32 := Scalar.divsi v801 c672_i32_438
  let c1_i32_444 : BitVec 32 := 1#32
  let v817 : BitVec 32 := Scalar.subi v802 c1_i32_444
  let v818 : BitVec 32 := Scalar.select v816 v817 v802
  let c8_i32_477 : BitVec 32 := 8#32
  let c672_i32_445 : BitVec 32 := 672#32
  let c0_i32_446 : BitVec 32 := 0#32
  let v819 : BitVec 1 := Scalar.cmpi .eq c672_i32_445 c0_i32_446
  let c1_i32_447 : BitVec 32 := 1#32
  let v820 : BitVec 32 := Scalar.select v819 c1_i32_447 c672_i32_445
  let v821 : BitVec 32 := Scalar.remsi v801 v820
  let c0_i32_449 : BitVec 32 := 0#32
  let v823 : BitVec 1 := Scalar.cmpi .slt v821 c0_i32_449
  let c0_i32_450 : BitVec 32 := 0#32
  let v824 : BitVec 1 := Scalar.cmpi .slt v820 c0_i32_450
  let v825 : BitVec 1 := Scalar.xori v823 v824
  let c0_i32_448 : BitVec 32 := 0#32
  let v822 : BitVec 1 := Scalar.cmpi .ne v821 c0_i32_448
  let v826 : BitVec 1 := Scalar.andi v825 v822
  let v827 : BitVec 32 := Scalar.addi v821 v820
  let v828 : BitVec 32 := Scalar.select v826 v827 v821
  let c0_i32_452 : BitVec 32 := 0#32
  let v830 : BitVec 1 := Scalar.cmpi .sgt v828 c0_i32_452
  let v831 : BitVec 32 := Scalar.extui v830
  let c0_i32_453 : BitVec 32 := 0#32
  let v832 : BitVec 1 := Scalar.cmpi .slt v828 c0_i32_453
  let v833 : BitVec 32 := Scalar.extui v832
  let v834 : BitVec 32 := Scalar.subi v831 v833
  let c28_i32_451 : BitVec 32 := 28#32
  let c0_i32_454 : BitVec 32 := 0#32
  let v835 : BitVec 1 := Scalar.cmpi .sgt c28_i32_451 c0_i32_454
  let v836 : BitVec 32 := Scalar.extui v835
  let c0_i32_455 : BitVec 32 := 0#32
  let v837 : BitVec 1 := Scalar.cmpi .slt c28_i32_451 c0_i32_455
  let v838 : BitVec 32 := Scalar.extui v837
  let v839 : BitVec 32 := Scalar.subi v836 v838
  let v840 : BitVec 1 := Scalar.cmpi .ne v834 v839
  let v841 : BitVec 32 := Scalar.remsi v828 c28_i32_451
  let c0_i32_456 : BitVec 32 := 0#32
  let v842 : BitVec 1 := Scalar.cmpi .ne v841 c0_i32_456
  let v843 : BitVec 1 := Scalar.andi v840 v842
  let v829 : BitVec 32 := Scalar.divsi v828 c28_i32_451
  let c1_i32_457 : BitVec 32 := 1#32
  let v844 : BitVec 32 := Scalar.subi v829 c1_i32_457
  let v845 : BitVec 32 := Scalar.select v843 v844 v829
  let v883 : BitVec 32 := Scalar.muli c8_i32_477 v845
  let c25088_i32_480 : BitVec 32 := 25088#32
  let c28_i32_458 : BitVec 32 := 28#32
  let c0_i32_459 : BitVec 32 := 0#32
  let v846 : BitVec 1 := Scalar.cmpi .eq c28_i32_458 c0_i32_459
  let c1_i32_460 : BitVec 32 := 1#32
  let v847 : BitVec 32 := Scalar.select v846 c1_i32_460 c28_i32_458
  let v848 : BitVec 32 := Scalar.remsi v828 v847
  let c0_i32_462 : BitVec 32 := 0#32
  let v850 : BitVec 1 := Scalar.cmpi .slt v848 c0_i32_462
  let c0_i32_463 : BitVec 32 := 0#32
  let v851 : BitVec 1 := Scalar.cmpi .slt v847 c0_i32_463
  let v852 : BitVec 1 := Scalar.xori v850 v851
  let c0_i32_461 : BitVec 32 := 0#32
  let v849 : BitVec 1 := Scalar.cmpi .ne v848 c0_i32_461
  let v853 : BitVec 1 := Scalar.andi v852 v849
  let v854 : BitVec 32 := Scalar.addi v848 v847
  let v855 : BitVec 32 := Scalar.select v853 v854 v848
  let c0_i32_465 : BitVec 32 := 0#32
  let v857 : BitVec 1 := Scalar.cmpi .sgt v855 c0_i32_465
  let v858 : BitVec 32 := Scalar.extui v857
  let c0_i32_466 : BitVec 32 := 0#32
  let v859 : BitVec 1 := Scalar.cmpi .slt v855 c0_i32_466
  let v860 : BitVec 32 := Scalar.extui v859
  let v861 : BitVec 32 := Scalar.subi v858 v860
  let c7_i32_464 : BitVec 32 := 7#32
  let c0_i32_467 : BitVec 32 := 0#32
  let v862 : BitVec 1 := Scalar.cmpi .sgt c7_i32_464 c0_i32_467
  let v863 : BitVec 32 := Scalar.extui v862
  let c0_i32_468 : BitVec 32 := 0#32
  let v864 : BitVec 1 := Scalar.cmpi .slt c7_i32_464 c0_i32_468
  let v865 : BitVec 32 := Scalar.extui v864
  let v866 : BitVec 32 := Scalar.subi v863 v865
  let v867 : BitVec 1 := Scalar.cmpi .ne v861 v866
  let v868 : BitVec 32 := Scalar.remsi v855 c7_i32_464
  let c0_i32_469 : BitVec 32 := 0#32
  let v869 : BitVec 1 := Scalar.cmpi .ne v868 c0_i32_469
  let v870 : BitVec 1 := Scalar.andi v867 v869
  let v856 : BitVec 32 := Scalar.divsi v855 c7_i32_464
  let c1_i32_470 : BitVec 32 := 1#32
  let v871 : BitVec 32 := Scalar.subi v856 c1_i32_470
  let v872 : BitVec 32 := Scalar.select v870 v871 v856
  let v887 : BitVec 32 := Scalar.muli c25088_i32_480 v872
  let c3584_i32_481 : BitVec 32 := 3584#32
  let c7_i32_471 : BitVec 32 := 7#32
  let c0_i32_472 : BitVec 32 := 0#32
  let v873 : BitVec 1 := Scalar.cmpi .eq c7_i32_471 c0_i32_472
  let c1_i32_473 : BitVec 32 := 1#32
  let v874 : BitVec 32 := Scalar.select v873 c1_i32_473 c7_i32_471
  let v875 : BitVec 32 := Scalar.remsi v855 v874
  let c0_i32_475 : BitVec 32 := 0#32
  let v877 : BitVec 1 := Scalar.cmpi .slt v875 c0_i32_475
  let c0_i32_476 : BitVec 32 := 0#32
  let v878 : BitVec 1 := Scalar.cmpi .slt v874 c0_i32_476
  let v879 : BitVec 1 := Scalar.xori v877 v878
  let c0_i32_474 : BitVec 32 := 0#32
  let v876 : BitVec 1 := Scalar.cmpi .ne v875 c0_i32_474
  let v880 : BitVec 1 := Scalar.andi v879 v876
  let v881 : BitVec 32 := Scalar.addi v875 v874
  let v882 : BitVec 32 := Scalar.select v880 v881 v875
  let v888 : BitVec 32 := Scalar.muli c3584_i32_481 v882
  let v889 : BitVec 32 := Scalar.addi v887 v888
  ![v818.toNat, v883.toNat, v889.toNat]
@[reducible] def k0_t2_loop : Scf.Loop 32 :=
  let c0_i32_222 : BitVec 32 := 0#32
  let c16_i32 : BitVec 32 := 16#32
  let v478 : BitVec 32 := Scalar.addi c0_i32_222 c16_i32
  let c1_i32_223 : BitVec 32 := 1#32
  ⟨c0_i32_222, v478, c1_i32_223⟩

def k0_chk1 (v477 : IVec S16 32) (v806 : IVec S16 32) : Prop :=
  (∀ a x, ((![v477, v806] : Fin 2 → IVec S16 32) a x).toNat < S8x896.size a)
theorem k0_idx1_inb : ∀ (v477 : IVec S16 32) (v806 : IVec S16 32) (k0_hw1 : k0_chk1 v477 v806), ∀ a x, ((![v477, v806] : Fin 2 → IVec S16 32) a x).toNat < S8x896.size a := fun v477 v806 k0_hw1 => k0_hw1
def k0_off4 (k0_t2 : Fin k0_t2_loop.trips) : Fin 2 → Nat :=
  let c0_i32_441 : BitVec 32 := 0#32
  let v809 : Index := Scalar.indexCast c0_i32_441
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![0, v810.toNat]
def k0_off5 (k0_t2 : Fin k0_t2_loop.trips) : Fin 2 → Nat :=
  let c0_i32_443 : BitVec 32 := 0#32
  let v814 : Index := Scalar.indexCast c0_i32_443
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![0, v815.toNat]

def k0_chk2 (v477 : IVec S16 32) (v820 : IVec S16 32) : Prop :=
  (∀ a x, ((![v477, v820] : Fin 2 → IVec S16 32) a x).toNat < S8x896.size a)
theorem k0_idx2_inb : ∀ (v477 : IVec S16 32) (v820 : IVec S16 32) (k0_hw2 : k0_chk2 v477 v820), ∀ a x, ((![v477, v820] : Fin 2 → IVec S16 32) a x).toNat < S8x896.size a := fun v477 v820 k0_hw2 => k0_hw2
def k0_off6 (k0_t2 : Fin k0_t2_loop.trips) : Fin 2 → Nat :=
  let c0_i32_447 : BitVec 32 := 0#32
  let v823 : Index := Scalar.indexCast c0_i32_447
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![0, v824.toNat]
def k0_off7 (k0_t2 : Fin k0_t2_loop.trips) : Fin 2 → Nat :=
  let c0_i32_450 : BitVec 32 := 0#32
  let v828 : Index := Scalar.indexCast c0_i32_450
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![0, v829.toNat]

def k0_chk3 (v477 : IVec S16 32) (v834 : IVec S16 32) : Prop :=
  (∀ a x, ((![v477, v834] : Fin 2 → IVec S16 32) a x).toNat < S8x896.size a)
theorem k0_idx3_inb : ∀ (v477 : IVec S16 32) (v834 : IVec S16 32) (k0_hw3 : k0_chk3 v477 v834), ∀ a x, ((![v477, v834] : Fin 2 → IVec S16 32) a x).toNat < S8x896.size a := fun v477 v834 k0_hw3 => k0_hw3
def k0_off8 (k0_t2 : Fin k0_t2_loop.trips) : Fin 2 → Nat :=
  let c0_i32_453 : BitVec 32 := 0#32
  let v837 : Index := Scalar.indexCast c0_i32_453
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![0, v838.toNat]
def k0_off9 (k0_t2 : Fin k0_t2_loop.trips) : Fin 2 → Nat :=
  let c0_i32_456 : BitVec 32 := 0#32
  let v842 : Index := Scalar.indexCast c0_i32_456
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![0, v843.toNat]

def k0_chk4 (v477 : IVec S16 32) (v848 : IVec S16 32) : Prop :=
  (∀ a x, ((![v477, v848] : Fin 2 → IVec S16 32) a x).toNat < S8x896.size a)
theorem k0_idx4_inb : ∀ (v477 : IVec S16 32) (v848 : IVec S16 32) (k0_hw4 : k0_chk4 v477 v848), ∀ a x, ((![v477, v848] : Fin 2 → IVec S16 32) a x).toNat < S8x896.size a := fun v477 v848 k0_hw4 => k0_hw4
def k0_off10 (k0_t2 : Fin k0_t2_loop.trips) : Fin 2 → Nat :=
  let c0_i32_458 : BitVec 32 := 0#32
  let v851 : Index := Scalar.indexCast c0_i32_458
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![0, v852.toNat]
def k0_off11 (k0_t2 : Fin k0_t2_loop.trips) : Fin 2 → Nat :=
  let c0_i32_461 : BitVec 32 := 0#32
  let v856 : Index := Scalar.indexCast c0_i32_461
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![0, v857.toNat]

def k0_chk5 (v477 : IVec S16 32) (v862 : IVec S16 32) : Prop :=
  (∀ a x, ((![v477, v862] : Fin 2 → IVec S16 32) a x).toNat < S8x896.size a)
theorem k0_idx5_inb : ∀ (v477 : IVec S16 32) (v862 : IVec S16 32) (k0_hw5 : k0_chk5 v477 v862), ∀ a x, ((![v477, v862] : Fin 2 → IVec S16 32) a x).toNat < S8x896.size a := fun v477 v862 k0_hw5 => k0_hw5
def k0_off12 (k0_t2 : Fin k0_t2_loop.trips) : Fin 2 → Nat :=
  let c0_i32_464 : BitVec 32 := 0#32
  let v865 : Index := Scalar.indexCast c0_i32_464
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![0, v866.toNat]
def k0_off13 (k0_t2 : Fin k0_t2_loop.trips) : Fin 2 → Nat :=
  let c0_i32_467 : BitVec 32 := 0#32
  let v870 : Index := Scalar.indexCast c0_i32_467
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![0, v871.toNat]

def k0_chk6 (v477 : IVec S16 32) (v876 : IVec S16 32) : Prop :=
  (∀ a x, ((![v477, v876] : Fin 2 → IVec S16 32) a x).toNat < S8x896.size a)
theorem k0_idx6_inb : ∀ (v477 : IVec S16 32) (v876 : IVec S16 32) (k0_hw6 : k0_chk6 v477 v876), ∀ a x, ((![v477, v876] : Fin 2 → IVec S16 32) a x).toNat < S8x896.size a := fun v477 v876 k0_hw6 => k0_hw6
def k0_off14 (k0_t2 : Fin k0_t2_loop.trips) : Fin 2 → Nat :=
  let c0_i32_469 : BitVec 32 := 0#32
  let v879 : Index := Scalar.indexCast c0_i32_469
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![0, v880.toNat]
def k0_off15 (k0_t2 : Fin k0_t2_loop.trips) : Fin 2 → Nat :=
  let c0_i32_472 : BitVec 32 := 0#32
  let v884 : Index := Scalar.indexCast c0_i32_472
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![0, v885.toNat]

def k0_chk7 (v477 : IVec S16 32) (v890 : IVec S16 32) : Prop :=
  (∀ a x, ((![v477, v890] : Fin 2 → IVec S16 32) a x).toNat < S8x896.size a)
theorem k0_idx7_inb : ∀ (v477 : IVec S16 32) (v890 : IVec S16 32) (k0_hw7 : k0_chk7 v477 v890), ∀ a x, ((![v477, v890] : Fin 2 → IVec S16 32) a x).toNat < S8x896.size a := fun v477 v890 k0_hw7 => k0_hw7
def k0_off16 (k0_t2 : Fin k0_t2_loop.trips) : Fin 2 → Nat :=
  let c0_i32_475 : BitVec 32 := 0#32
  let v893 : Index := Scalar.indexCast c0_i32_475
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![0, v894.toNat]
def k0_off17 (k0_t2 : Fin k0_t2_loop.trips) : Fin 2 → Nat :=
  let c0_i32_478 : BitVec 32 := 0#32
  let v898 : Index := Scalar.indexCast c0_i32_478
  let c224_i32 : BitVec 32 := 224#32
  let c0_i32_438 : BitVec 32 := 0#32
  let c0_i32_222 : BitVec 32 := 0#32
  let c1_i32_223 : BitVec 32 := 1#32
  let arg13 : BitVec 32 := Scf.iv c0_i32_222 c1_i32_223 k0_t2
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![0, v899.toNat]
@[reducible] def k0_t3_loop : Scf.Loop 32 :=
  let c0_i32_226 : BitVec 32 := 0#32
  let c16_i32_227 : BitVec 32 := 16#32
  let v480 : BitVec 32 := Scalar.addi c0_i32_226 c16_i32_227
  let c1_i32_228 : BitVec 32 := 1#32
  ⟨c0_i32_226, v480, c1_i32_228⟩

def k0_chk8 (v479 : IVec S16 32) (v806 : IVec S16 32) : Prop :=
  (∀ a x, ((![v479, v806] : Fin 2 → IVec S16 32) a x).toNat < S8x896.size a)
theorem k0_idx8_inb : ∀ (v479 : IVec S16 32) (v806 : IVec S16 32) (k0_hw8 : k0_chk8 v479 v806), ∀ a x, ((![v479, v806] : Fin 2 → IVec S16 32) a x).toNat < S8x896.size a := fun v479 v806 k0_hw8 => k0_hw8
def k0_off18 (k0_t3 : Fin k0_t3_loop.trips) : Fin 2 → Nat :=
  let c1_i32_441 : BitVec 32 := 1#32
  let v809 : Index := Scalar.indexCast c1_i32_441
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![1, v810.toNat]
def k0_off19 (k0_t3 : Fin k0_t3_loop.trips) : Fin 2 → Nat :=
  let c1_i32_443 : BitVec 32 := 1#32
  let v814 : Index := Scalar.indexCast c1_i32_443
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![1, v815.toNat]

def k0_chk9 (v479 : IVec S16 32) (v820 : IVec S16 32) : Prop :=
  (∀ a x, ((![v479, v820] : Fin 2 → IVec S16 32) a x).toNat < S8x896.size a)
theorem k0_idx9_inb : ∀ (v479 : IVec S16 32) (v820 : IVec S16 32) (k0_hw9 : k0_chk9 v479 v820), ∀ a x, ((![v479, v820] : Fin 2 → IVec S16 32) a x).toNat < S8x896.size a := fun v479 v820 k0_hw9 => k0_hw9
def k0_off20 (k0_t3 : Fin k0_t3_loop.trips) : Fin 2 → Nat :=
  let c1_i32_447 : BitVec 32 := 1#32
  let v823 : Index := Scalar.indexCast c1_i32_447
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![1, v824.toNat]
def k0_off21 (k0_t3 : Fin k0_t3_loop.trips) : Fin 2 → Nat :=
  let c1_i32_450 : BitVec 32 := 1#32
  let v828 : Index := Scalar.indexCast c1_i32_450
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![1, v829.toNat]

def k0_chk10 (v479 : IVec S16 32) (v834 : IVec S16 32) : Prop :=
  (∀ a x, ((![v479, v834] : Fin 2 → IVec S16 32) a x).toNat < S8x896.size a)
theorem k0_idx10_inb : ∀ (v479 : IVec S16 32) (v834 : IVec S16 32) (k0_hw10 : k0_chk10 v479 v834), ∀ a x, ((![v479, v834] : Fin 2 → IVec S16 32) a x).toNat < S8x896.size a := fun v479 v834 k0_hw10 => k0_hw10
def k0_off22 (k0_t3 : Fin k0_t3_loop.trips) : Fin 2 → Nat :=
  let c1_i32_453 : BitVec 32 := 1#32
  let v837 : Index := Scalar.indexCast c1_i32_453
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![1, v838.toNat]
def k0_off23 (k0_t3 : Fin k0_t3_loop.trips) : Fin 2 → Nat :=
  let c1_i32_456 : BitVec 32 := 1#32
  let v842 : Index := Scalar.indexCast c1_i32_456
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![1, v843.toNat]

def k0_chk11 (v479 : IVec S16 32) (v848 : IVec S16 32) : Prop :=
  (∀ a x, ((![v479, v848] : Fin 2 → IVec S16 32) a x).toNat < S8x896.size a)
theorem k0_idx11_inb : ∀ (v479 : IVec S16 32) (v848 : IVec S16 32) (k0_hw11 : k0_chk11 v479 v848), ∀ a x, ((![v479, v848] : Fin 2 → IVec S16 32) a x).toNat < S8x896.size a := fun v479 v848 k0_hw11 => k0_hw11
def k0_off24 (k0_t3 : Fin k0_t3_loop.trips) : Fin 2 → Nat :=
  let c1_i32_458 : BitVec 32 := 1#32
  let v851 : Index := Scalar.indexCast c1_i32_458
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![1, v852.toNat]
def k0_off25 (k0_t3 : Fin k0_t3_loop.trips) : Fin 2 → Nat :=
  let c1_i32_461 : BitVec 32 := 1#32
  let v856 : Index := Scalar.indexCast c1_i32_461
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![1, v857.toNat]

def k0_chk12 (v479 : IVec S16 32) (v862 : IVec S16 32) : Prop :=
  (∀ a x, ((![v479, v862] : Fin 2 → IVec S16 32) a x).toNat < S8x896.size a)
theorem k0_idx12_inb : ∀ (v479 : IVec S16 32) (v862 : IVec S16 32) (k0_hw12 : k0_chk12 v479 v862), ∀ a x, ((![v479, v862] : Fin 2 → IVec S16 32) a x).toNat < S8x896.size a := fun v479 v862 k0_hw12 => k0_hw12
def k0_off26 (k0_t3 : Fin k0_t3_loop.trips) : Fin 2 → Nat :=
  let c1_i32_464 : BitVec 32 := 1#32
  let v865 : Index := Scalar.indexCast c1_i32_464
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![1, v866.toNat]
def k0_off27 (k0_t3 : Fin k0_t3_loop.trips) : Fin 2 → Nat :=
  let c1_i32_467 : BitVec 32 := 1#32
  let v870 : Index := Scalar.indexCast c1_i32_467
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![1, v871.toNat]

def k0_chk13 (v479 : IVec S16 32) (v876 : IVec S16 32) : Prop :=
  (∀ a x, ((![v479, v876] : Fin 2 → IVec S16 32) a x).toNat < S8x896.size a)
theorem k0_idx13_inb : ∀ (v479 : IVec S16 32) (v876 : IVec S16 32) (k0_hw13 : k0_chk13 v479 v876), ∀ a x, ((![v479, v876] : Fin 2 → IVec S16 32) a x).toNat < S8x896.size a := fun v479 v876 k0_hw13 => k0_hw13
def k0_off28 (k0_t3 : Fin k0_t3_loop.trips) : Fin 2 → Nat :=
  let c1_i32_469 : BitVec 32 := 1#32
  let v879 : Index := Scalar.indexCast c1_i32_469
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![1, v880.toNat]
def k0_off29 (k0_t3 : Fin k0_t3_loop.trips) : Fin 2 → Nat :=
  let c1_i32_472 : BitVec 32 := 1#32
  let v884 : Index := Scalar.indexCast c1_i32_472
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![1, v885.toNat]

def k0_chk14 (v479 : IVec S16 32) (v890 : IVec S16 32) : Prop :=
  (∀ a x, ((![v479, v890] : Fin 2 → IVec S16 32) a x).toNat < S8x896.size a)
theorem k0_idx14_inb : ∀ (v479 : IVec S16 32) (v890 : IVec S16 32) (k0_hw14 : k0_chk14 v479 v890), ∀ a x, ((![v479, v890] : Fin 2 → IVec S16 32) a x).toNat < S8x896.size a := fun v479 v890 k0_hw14 => k0_hw14
def k0_off30 (k0_t3 : Fin k0_t3_loop.trips) : Fin 2 → Nat :=
  let c1_i32_475 : BitVec 32 := 1#32
  let v893 : Index := Scalar.indexCast c1_i32_475
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![1, v894.toNat]
def k0_off31 (k0_t3 : Fin k0_t3_loop.trips) : Fin 2 → Nat :=
  let c1_i32_478 : BitVec 32 := 1#32
  let v898 : Index := Scalar.indexCast c1_i32_478
  let c224_i32 : BitVec 32 := 224#32
  let c0_i32_438 : BitVec 32 := 0#32
  let c0_i32_226 : BitVec 32 := 0#32
  let c1_i32_228 : BitVec 32 := 1#32
  let arg13 : BitVec 32 := Scf.iv c0_i32_226 c1_i32_228 k0_t3
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![1, v899.toNat]
@[reducible] def k0_t4_loop : Scf.Loop 32 :=
  let c0_i32_231 : BitVec 32 := 0#32
  let c16_i32_232 : BitVec 32 := 16#32
  let v482 : BitVec 32 := Scalar.addi c0_i32_231 c16_i32_232
  let c1_i32_233 : BitVec 32 := 1#32
  ⟨c0_i32_231, v482, c1_i32_233⟩

def k0_chk15 (v481 : IVec S16 32) (v806 : IVec S16 32) : Prop :=
  (∀ a x, ((![v481, v806] : Fin 2 → IVec S16 32) a x).toNat < S8x896.size a)
theorem k0_idx15_inb : ∀ (v481 : IVec S16 32) (v806 : IVec S16 32) (k0_hw15 : k0_chk15 v481 v806), ∀ a x, ((![v481, v806] : Fin 2 → IVec S16 32) a x).toNat < S8x896.size a := fun v481 v806 k0_hw15 => k0_hw15
def k0_off32 (k0_t4 : Fin k0_t4_loop.trips) : Fin 2 → Nat :=
  let c2_i32_441 : BitVec 32 := 2#32
  let v809 : Index := Scalar.indexCast c2_i32_441
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![2, v810.toNat]
def k0_off33 (k0_t4 : Fin k0_t4_loop.trips) : Fin 2 → Nat :=
  let c2_i32_443 : BitVec 32 := 2#32
  let v814 : Index := Scalar.indexCast c2_i32_443
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![2, v815.toNat]

def k0_chk16 (v481 : IVec S16 32) (v820 : IVec S16 32) : Prop :=
  (∀ a x, ((![v481, v820] : Fin 2 → IVec S16 32) a x).toNat < S8x896.size a)
theorem k0_idx16_inb : ∀ (v481 : IVec S16 32) (v820 : IVec S16 32) (k0_hw16 : k0_chk16 v481 v820), ∀ a x, ((![v481, v820] : Fin 2 → IVec S16 32) a x).toNat < S8x896.size a := fun v481 v820 k0_hw16 => k0_hw16
def k0_off34 (k0_t4 : Fin k0_t4_loop.trips) : Fin 2 → Nat :=
  let c2_i32_447 : BitVec 32 := 2#32
  let v823 : Index := Scalar.indexCast c2_i32_447
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![2, v824.toNat]
def k0_off35 (k0_t4 : Fin k0_t4_loop.trips) : Fin 2 → Nat :=
  let c2_i32_450 : BitVec 32 := 2#32
  let v828 : Index := Scalar.indexCast c2_i32_450
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![2, v829.toNat]

def k0_chk17 (v481 : IVec S16 32) (v834 : IVec S16 32) : Prop :=
  (∀ a x, ((![v481, v834] : Fin 2 → IVec S16 32) a x).toNat < S8x896.size a)
theorem k0_idx17_inb : ∀ (v481 : IVec S16 32) (v834 : IVec S16 32) (k0_hw17 : k0_chk17 v481 v834), ∀ a x, ((![v481, v834] : Fin 2 → IVec S16 32) a x).toNat < S8x896.size a := fun v481 v834 k0_hw17 => k0_hw17
def k0_off36 (k0_t4 : Fin k0_t4_loop.trips) : Fin 2 → Nat :=
  let c2_i32_453 : BitVec 32 := 2#32
  let v837 : Index := Scalar.indexCast c2_i32_453
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![2, v838.toNat]
def k0_off37 (k0_t4 : Fin k0_t4_loop.trips) : Fin 2 → Nat :=
  let c2_i32_456 : BitVec 32 := 2#32
  let v842 : Index := Scalar.indexCast c2_i32_456
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![2, v843.toNat]

def k0_chk18 (v481 : IVec S16 32) (v848 : IVec S16 32) : Prop :=
  (∀ a x, ((![v481, v848] : Fin 2 → IVec S16 32) a x).toNat < S8x896.size a)
theorem k0_idx18_inb : ∀ (v481 : IVec S16 32) (v848 : IVec S16 32) (k0_hw18 : k0_chk18 v481 v848), ∀ a x, ((![v481, v848] : Fin 2 → IVec S16 32) a x).toNat < S8x896.size a := fun v481 v848 k0_hw18 => k0_hw18
def k0_off38 (k0_t4 : Fin k0_t4_loop.trips) : Fin 2 → Nat :=
  let c2_i32_458 : BitVec 32 := 2#32
  let v851 : Index := Scalar.indexCast c2_i32_458
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![2, v852.toNat]
def k0_off39 (k0_t4 : Fin k0_t4_loop.trips) : Fin 2 → Nat :=
  let c2_i32_461 : BitVec 32 := 2#32
  let v856 : Index := Scalar.indexCast c2_i32_461
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![2, v857.toNat]

def k0_chk19 (v481 : IVec S16 32) (v862 : IVec S16 32) : Prop :=
  (∀ a x, ((![v481, v862] : Fin 2 → IVec S16 32) a x).toNat < S8x896.size a)
theorem k0_idx19_inb : ∀ (v481 : IVec S16 32) (v862 : IVec S16 32) (k0_hw19 : k0_chk19 v481 v862), ∀ a x, ((![v481, v862] : Fin 2 → IVec S16 32) a x).toNat < S8x896.size a := fun v481 v862 k0_hw19 => k0_hw19
def k0_off40 (k0_t4 : Fin k0_t4_loop.trips) : Fin 2 → Nat :=
  let c2_i32_464 : BitVec 32 := 2#32
  let v865 : Index := Scalar.indexCast c2_i32_464
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![2, v866.toNat]
def k0_off41 (k0_t4 : Fin k0_t4_loop.trips) : Fin 2 → Nat :=
  let c2_i32_467 : BitVec 32 := 2#32
  let v870 : Index := Scalar.indexCast c2_i32_467
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![2, v871.toNat]

def k0_chk20 (v481 : IVec S16 32) (v876 : IVec S16 32) : Prop :=
  (∀ a x, ((![v481, v876] : Fin 2 → IVec S16 32) a x).toNat < S8x896.size a)
theorem k0_idx20_inb : ∀ (v481 : IVec S16 32) (v876 : IVec S16 32) (k0_hw20 : k0_chk20 v481 v876), ∀ a x, ((![v481, v876] : Fin 2 → IVec S16 32) a x).toNat < S8x896.size a := fun v481 v876 k0_hw20 => k0_hw20
def k0_off42 (k0_t4 : Fin k0_t4_loop.trips) : Fin 2 → Nat :=
  let c2_i32_469 : BitVec 32 := 2#32
  let v879 : Index := Scalar.indexCast c2_i32_469
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![2, v880.toNat]
def k0_off43 (k0_t4 : Fin k0_t4_loop.trips) : Fin 2 → Nat :=
  let c2_i32_472 : BitVec 32 := 2#32
  let v884 : Index := Scalar.indexCast c2_i32_472
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![2, v885.toNat]

def k0_chk21 (v481 : IVec S16 32) (v890 : IVec S16 32) : Prop :=
  (∀ a x, ((![v481, v890] : Fin 2 → IVec S16 32) a x).toNat < S8x896.size a)
theorem k0_idx21_inb : ∀ (v481 : IVec S16 32) (v890 : IVec S16 32) (k0_hw21 : k0_chk21 v481 v890), ∀ a x, ((![v481, v890] : Fin 2 → IVec S16 32) a x).toNat < S8x896.size a := fun v481 v890 k0_hw21 => k0_hw21
def k0_off44 (k0_t4 : Fin k0_t4_loop.trips) : Fin 2 → Nat :=
  let c2_i32_475 : BitVec 32 := 2#32
  let v893 : Index := Scalar.indexCast c2_i32_475
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![2, v894.toNat]
def k0_off45 (k0_t4 : Fin k0_t4_loop.trips) : Fin 2 → Nat :=
  let c2_i32_478 : BitVec 32 := 2#32
  let v898 : Index := Scalar.indexCast c2_i32_478
  let c224_i32 : BitVec 32 := 224#32
  let c0_i32_438 : BitVec 32 := 0#32
  let c0_i32_231 : BitVec 32 := 0#32
  let c1_i32_233 : BitVec 32 := 1#32
  let arg13 : BitVec 32 := Scf.iv c0_i32_231 c1_i32_233 k0_t4
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![2, v899.toNat]
@[reducible] def k0_t5_loop : Scf.Loop 32 :=
  let c0_i32_235 : BitVec 32 := 0#32
  let c16_i32_236 : BitVec 32 := 16#32
  let v484 : BitVec 32 := Scalar.addi c0_i32_235 c16_i32_236
  let c1_i32_237 : BitVec 32 := 1#32
  ⟨c0_i32_235, v484, c1_i32_237⟩

def k0_chk22 (v483 : IVec S16 32) (v806 : IVec S16 32) : Prop :=
  (∀ a x, ((![v483, v806] : Fin 2 → IVec S16 32) a x).toNat < S8x896.size a)
theorem k0_idx22_inb : ∀ (v483 : IVec S16 32) (v806 : IVec S16 32) (k0_hw22 : k0_chk22 v483 v806), ∀ a x, ((![v483, v806] : Fin 2 → IVec S16 32) a x).toNat < S8x896.size a := fun v483 v806 k0_hw22 => k0_hw22
def k0_off46 (k0_t5 : Fin k0_t5_loop.trips) : Fin 2 → Nat :=
  let c3_i32_441 : BitVec 32 := 3#32
  let v809 : Index := Scalar.indexCast c3_i32_441
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![3, v810.toNat]
def k0_off47 (k0_t5 : Fin k0_t5_loop.trips) : Fin 2 → Nat :=
  let c3_i32_443 : BitVec 32 := 3#32
  let v814 : Index := Scalar.indexCast c3_i32_443
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![3, v815.toNat]

def k0_chk23 (v483 : IVec S16 32) (v820 : IVec S16 32) : Prop :=
  (∀ a x, ((![v483, v820] : Fin 2 → IVec S16 32) a x).toNat < S8x896.size a)
theorem k0_idx23_inb : ∀ (v483 : IVec S16 32) (v820 : IVec S16 32) (k0_hw23 : k0_chk23 v483 v820), ∀ a x, ((![v483, v820] : Fin 2 → IVec S16 32) a x).toNat < S8x896.size a := fun v483 v820 k0_hw23 => k0_hw23
def k0_off48 (k0_t5 : Fin k0_t5_loop.trips) : Fin 2 → Nat :=
  let c3_i32_447 : BitVec 32 := 3#32
  let v823 : Index := Scalar.indexCast c3_i32_447
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![3, v824.toNat]
def k0_off49 (k0_t5 : Fin k0_t5_loop.trips) : Fin 2 → Nat :=
  let c3_i32_450 : BitVec 32 := 3#32
  let v828 : Index := Scalar.indexCast c3_i32_450
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![3, v829.toNat]

def k0_chk24 (v483 : IVec S16 32) (v834 : IVec S16 32) : Prop :=
  (∀ a x, ((![v483, v834] : Fin 2 → IVec S16 32) a x).toNat < S8x896.size a)
theorem k0_idx24_inb : ∀ (v483 : IVec S16 32) (v834 : IVec S16 32) (k0_hw24 : k0_chk24 v483 v834), ∀ a x, ((![v483, v834] : Fin 2 → IVec S16 32) a x).toNat < S8x896.size a := fun v483 v834 k0_hw24 => k0_hw24
def k0_off50 (k0_t5 : Fin k0_t5_loop.trips) : Fin 2 → Nat :=
  let c3_i32_453 : BitVec 32 := 3#32
  let v837 : Index := Scalar.indexCast c3_i32_453
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![3, v838.toNat]
def k0_off51 (k0_t5 : Fin k0_t5_loop.trips) : Fin 2 → Nat :=
  let c3_i32_456 : BitVec 32 := 3#32
  let v842 : Index := Scalar.indexCast c3_i32_456
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![3, v843.toNat]

def k0_chk25 (v483 : IVec S16 32) (v848 : IVec S16 32) : Prop :=
  (∀ a x, ((![v483, v848] : Fin 2 → IVec S16 32) a x).toNat < S8x896.size a)
theorem k0_idx25_inb : ∀ (v483 : IVec S16 32) (v848 : IVec S16 32) (k0_hw25 : k0_chk25 v483 v848), ∀ a x, ((![v483, v848] : Fin 2 → IVec S16 32) a x).toNat < S8x896.size a := fun v483 v848 k0_hw25 => k0_hw25
def k0_off52 (k0_t5 : Fin k0_t5_loop.trips) : Fin 2 → Nat :=
  let c3_i32_458 : BitVec 32 := 3#32
  let v851 : Index := Scalar.indexCast c3_i32_458
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![3, v852.toNat]
def k0_off53 (k0_t5 : Fin k0_t5_loop.trips) : Fin 2 → Nat :=
  let c3_i32_461 : BitVec 32 := 3#32
  let v856 : Index := Scalar.indexCast c3_i32_461
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![3, v857.toNat]

def k0_chk26 (v483 : IVec S16 32) (v862 : IVec S16 32) : Prop :=
  (∀ a x, ((![v483, v862] : Fin 2 → IVec S16 32) a x).toNat < S8x896.size a)
theorem k0_idx26_inb : ∀ (v483 : IVec S16 32) (v862 : IVec S16 32) (k0_hw26 : k0_chk26 v483 v862), ∀ a x, ((![v483, v862] : Fin 2 → IVec S16 32) a x).toNat < S8x896.size a := fun v483 v862 k0_hw26 => k0_hw26
def k0_off54 (k0_t5 : Fin k0_t5_loop.trips) : Fin 2 → Nat :=
  let c3_i32_464 : BitVec 32 := 3#32
  let v865 : Index := Scalar.indexCast c3_i32_464
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![3, v866.toNat]
def k0_off55 (k0_t5 : Fin k0_t5_loop.trips) : Fin 2 → Nat :=
  let c3_i32_467 : BitVec 32 := 3#32
  let v870 : Index := Scalar.indexCast c3_i32_467
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![3, v871.toNat]

def k0_chk27 (v483 : IVec S16 32) (v876 : IVec S16 32) : Prop :=
  (∀ a x, ((![v483, v876] : Fin 2 → IVec S16 32) a x).toNat < S8x896.size a)
theorem k0_idx27_inb : ∀ (v483 : IVec S16 32) (v876 : IVec S16 32) (k0_hw27 : k0_chk27 v483 v876), ∀ a x, ((![v483, v876] : Fin 2 → IVec S16 32) a x).toNat < S8x896.size a := fun v483 v876 k0_hw27 => k0_hw27
def k0_off56 (k0_t5 : Fin k0_t5_loop.trips) : Fin 2 → Nat :=
  let c3_i32_469 : BitVec 32 := 3#32
  let v879 : Index := Scalar.indexCast c3_i32_469
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![3, v880.toNat]
def k0_off57 (k0_t5 : Fin k0_t5_loop.trips) : Fin 2 → Nat :=
  let c3_i32_472 : BitVec 32 := 3#32
  let v884 : Index := Scalar.indexCast c3_i32_472
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![3, v885.toNat]

def k0_chk28 (v483 : IVec S16 32) (v890 : IVec S16 32) : Prop :=
  (∀ a x, ((![v483, v890] : Fin 2 → IVec S16 32) a x).toNat < S8x896.size a)
theorem k0_idx28_inb : ∀ (v483 : IVec S16 32) (v890 : IVec S16 32) (k0_hw28 : k0_chk28 v483 v890), ∀ a x, ((![v483, v890] : Fin 2 → IVec S16 32) a x).toNat < S8x896.size a := fun v483 v890 k0_hw28 => k0_hw28
def k0_off58 (k0_t5 : Fin k0_t5_loop.trips) : Fin 2 → Nat :=
  let c3_i32_475 : BitVec 32 := 3#32
  let v893 : Index := Scalar.indexCast c3_i32_475
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![3, v894.toNat]
def k0_off59 (k0_t5 : Fin k0_t5_loop.trips) : Fin 2 → Nat :=
  let c3_i32_478 : BitVec 32 := 3#32
  let v898 : Index := Scalar.indexCast c3_i32_478
  let c224_i32 : BitVec 32 := 224#32
  let c0_i32_438 : BitVec 32 := 0#32
  let c0_i32_235 : BitVec 32 := 0#32
  let c1_i32_237 : BitVec 32 := 1#32
  let arg13 : BitVec 32 := Scf.iv c0_i32_235 c1_i32_237 k0_t5
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![3, v899.toNat]
@[reducible] def k0_t6_loop : Scf.Loop 32 :=
  let c0_i32_239 : BitVec 32 := 0#32
  let c16_i32_240 : BitVec 32 := 16#32
  let v486 : BitVec 32 := Scalar.addi c0_i32_239 c16_i32_240
  let c1_i32_241 : BitVec 32 := 1#32
  ⟨c0_i32_239, v486, c1_i32_241⟩

def k0_chk29 (v485 : IVec S16 32) (v806 : IVec S16 32) : Prop :=
  (∀ a x, ((![v485, v806] : Fin 2 → IVec S16 32) a x).toNat < S8x896.size a)
theorem k0_idx29_inb : ∀ (v485 : IVec S16 32) (v806 : IVec S16 32) (k0_hw29 : k0_chk29 v485 v806), ∀ a x, ((![v485, v806] : Fin 2 → IVec S16 32) a x).toNat < S8x896.size a := fun v485 v806 k0_hw29 => k0_hw29
def k0_off60 (k0_t6 : Fin k0_t6_loop.trips) : Fin 2 → Nat :=
  let c4_i32_441 : BitVec 32 := 4#32
  let v809 : Index := Scalar.indexCast c4_i32_441
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![4, v810.toNat]
def k0_off61 (k0_t6 : Fin k0_t6_loop.trips) : Fin 2 → Nat :=
  let c4_i32_443 : BitVec 32 := 4#32
  let v814 : Index := Scalar.indexCast c4_i32_443
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![4, v815.toNat]

def k0_chk30 (v485 : IVec S16 32) (v820 : IVec S16 32) : Prop :=
  (∀ a x, ((![v485, v820] : Fin 2 → IVec S16 32) a x).toNat < S8x896.size a)
theorem k0_idx30_inb : ∀ (v485 : IVec S16 32) (v820 : IVec S16 32) (k0_hw30 : k0_chk30 v485 v820), ∀ a x, ((![v485, v820] : Fin 2 → IVec S16 32) a x).toNat < S8x896.size a := fun v485 v820 k0_hw30 => k0_hw30
def k0_off62 (k0_t6 : Fin k0_t6_loop.trips) : Fin 2 → Nat :=
  let c4_i32_447 : BitVec 32 := 4#32
  let v823 : Index := Scalar.indexCast c4_i32_447
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![4, v824.toNat]
def k0_off63 (k0_t6 : Fin k0_t6_loop.trips) : Fin 2 → Nat :=
  let c4_i32_450 : BitVec 32 := 4#32
  let v828 : Index := Scalar.indexCast c4_i32_450
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![4, v829.toNat]

def k0_chk31 (v485 : IVec S16 32) (v834 : IVec S16 32) : Prop :=
  (∀ a x, ((![v485, v834] : Fin 2 → IVec S16 32) a x).toNat < S8x896.size a)
theorem k0_idx31_inb : ∀ (v485 : IVec S16 32) (v834 : IVec S16 32) (k0_hw31 : k0_chk31 v485 v834), ∀ a x, ((![v485, v834] : Fin 2 → IVec S16 32) a x).toNat < S8x896.size a := fun v485 v834 k0_hw31 => k0_hw31
def k0_off64 (k0_t6 : Fin k0_t6_loop.trips) : Fin 2 → Nat :=
  let c4_i32_453 : BitVec 32 := 4#32
  let v837 : Index := Scalar.indexCast c4_i32_453
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![4, v838.toNat]
def k0_off65 (k0_t6 : Fin k0_t6_loop.trips) : Fin 2 → Nat :=
  let c4_i32_456 : BitVec 32 := 4#32
  let v842 : Index := Scalar.indexCast c4_i32_456
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![4, v843.toNat]

def k0_chk32 (v485 : IVec S16 32) (v848 : IVec S16 32) : Prop :=
  (∀ a x, ((![v485, v848] : Fin 2 → IVec S16 32) a x).toNat < S8x896.size a)
theorem k0_idx32_inb : ∀ (v485 : IVec S16 32) (v848 : IVec S16 32) (k0_hw32 : k0_chk32 v485 v848), ∀ a x, ((![v485, v848] : Fin 2 → IVec S16 32) a x).toNat < S8x896.size a := fun v485 v848 k0_hw32 => k0_hw32
def k0_off66 (k0_t6 : Fin k0_t6_loop.trips) : Fin 2 → Nat :=
  let c4_i32_458 : BitVec 32 := 4#32
  let v851 : Index := Scalar.indexCast c4_i32_458
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![4, v852.toNat]
def k0_off67 (k0_t6 : Fin k0_t6_loop.trips) : Fin 2 → Nat :=
  let c4_i32_461 : BitVec 32 := 4#32
  let v856 : Index := Scalar.indexCast c4_i32_461
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![4, v857.toNat]

def k0_chk33 (v485 : IVec S16 32) (v862 : IVec S16 32) : Prop :=
  (∀ a x, ((![v485, v862] : Fin 2 → IVec S16 32) a x).toNat < S8x896.size a)
theorem k0_idx33_inb : ∀ (v485 : IVec S16 32) (v862 : IVec S16 32) (k0_hw33 : k0_chk33 v485 v862), ∀ a x, ((![v485, v862] : Fin 2 → IVec S16 32) a x).toNat < S8x896.size a := fun v485 v862 k0_hw33 => k0_hw33
def k0_off68 (k0_t6 : Fin k0_t6_loop.trips) : Fin 2 → Nat :=
  let c4_i32_464 : BitVec 32 := 4#32
  let v865 : Index := Scalar.indexCast c4_i32_464
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![4, v866.toNat]
def k0_off69 (k0_t6 : Fin k0_t6_loop.trips) : Fin 2 → Nat :=
  let c4_i32_467 : BitVec 32 := 4#32
  let v870 : Index := Scalar.indexCast c4_i32_467
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![4, v871.toNat]

def k0_chk34 (v485 : IVec S16 32) (v876 : IVec S16 32) : Prop :=
  (∀ a x, ((![v485, v876] : Fin 2 → IVec S16 32) a x).toNat < S8x896.size a)
theorem k0_idx34_inb : ∀ (v485 : IVec S16 32) (v876 : IVec S16 32) (k0_hw34 : k0_chk34 v485 v876), ∀ a x, ((![v485, v876] : Fin 2 → IVec S16 32) a x).toNat < S8x896.size a := fun v485 v876 k0_hw34 => k0_hw34
def k0_off70 (k0_t6 : Fin k0_t6_loop.trips) : Fin 2 → Nat :=
  let c4_i32_469 : BitVec 32 := 4#32
  let v879 : Index := Scalar.indexCast c4_i32_469
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![4, v880.toNat]
def k0_off71 (k0_t6 : Fin k0_t6_loop.trips) : Fin 2 → Nat :=
  let c4_i32_472 : BitVec 32 := 4#32
  let v884 : Index := Scalar.indexCast c4_i32_472
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![4, v885.toNat]

def k0_chk35 (v485 : IVec S16 32) (v890 : IVec S16 32) : Prop :=
  (∀ a x, ((![v485, v890] : Fin 2 → IVec S16 32) a x).toNat < S8x896.size a)
theorem k0_idx35_inb : ∀ (v485 : IVec S16 32) (v890 : IVec S16 32) (k0_hw35 : k0_chk35 v485 v890), ∀ a x, ((![v485, v890] : Fin 2 → IVec S16 32) a x).toNat < S8x896.size a := fun v485 v890 k0_hw35 => k0_hw35
def k0_off72 (k0_t6 : Fin k0_t6_loop.trips) : Fin 2 → Nat :=
  let c4_i32_475 : BitVec 32 := 4#32
  let v893 : Index := Scalar.indexCast c4_i32_475
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![4, v894.toNat]
def k0_off73 (k0_t6 : Fin k0_t6_loop.trips) : Fin 2 → Nat :=
  let c4_i32_478 : BitVec 32 := 4#32
  let v898 : Index := Scalar.indexCast c4_i32_478
  let c224_i32 : BitVec 32 := 224#32
  let c0_i32_438 : BitVec 32 := 0#32
  let c0_i32_239 : BitVec 32 := 0#32
  let c1_i32_241 : BitVec 32 := 1#32
  let arg13 : BitVec 32 := Scf.iv c0_i32_239 c1_i32_241 k0_t6
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![4, v899.toNat]
@[reducible] def k0_t7_loop : Scf.Loop 32 :=
  let c0_i32_243 : BitVec 32 := 0#32
  let c16_i32_244 : BitVec 32 := 16#32
  let v488 : BitVec 32 := Scalar.addi c0_i32_243 c16_i32_244
  let c1_i32_245 : BitVec 32 := 1#32
  ⟨c0_i32_243, v488, c1_i32_245⟩

def k0_chk36 (v487 : IVec S16 32) (v806 : IVec S16 32) : Prop :=
  (∀ a x, ((![v487, v806] : Fin 2 → IVec S16 32) a x).toNat < S8x896.size a)
theorem k0_idx36_inb : ∀ (v487 : IVec S16 32) (v806 : IVec S16 32) (k0_hw36 : k0_chk36 v487 v806), ∀ a x, ((![v487, v806] : Fin 2 → IVec S16 32) a x).toNat < S8x896.size a := fun v487 v806 k0_hw36 => k0_hw36
def k0_off74 (k0_t7 : Fin k0_t7_loop.trips) : Fin 2 → Nat :=
  let c5_i32_441 : BitVec 32 := 5#32
  let v809 : Index := Scalar.indexCast c5_i32_441
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![5, v810.toNat]
def k0_off75 (k0_t7 : Fin k0_t7_loop.trips) : Fin 2 → Nat :=
  let c5_i32_443 : BitVec 32 := 5#32
  let v814 : Index := Scalar.indexCast c5_i32_443
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![5, v815.toNat]

def k0_chk37 (v487 : IVec S16 32) (v820 : IVec S16 32) : Prop :=
  (∀ a x, ((![v487, v820] : Fin 2 → IVec S16 32) a x).toNat < S8x896.size a)
theorem k0_idx37_inb : ∀ (v487 : IVec S16 32) (v820 : IVec S16 32) (k0_hw37 : k0_chk37 v487 v820), ∀ a x, ((![v487, v820] : Fin 2 → IVec S16 32) a x).toNat < S8x896.size a := fun v487 v820 k0_hw37 => k0_hw37
def k0_off76 (k0_t7 : Fin k0_t7_loop.trips) : Fin 2 → Nat :=
  let c5_i32_447 : BitVec 32 := 5#32
  let v823 : Index := Scalar.indexCast c5_i32_447
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![5, v824.toNat]
def k0_off77 (k0_t7 : Fin k0_t7_loop.trips) : Fin 2 → Nat :=
  let c5_i32_450 : BitVec 32 := 5#32
  let v828 : Index := Scalar.indexCast c5_i32_450
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![5, v829.toNat]

def k0_chk38 (v487 : IVec S16 32) (v834 : IVec S16 32) : Prop :=
  (∀ a x, ((![v487, v834] : Fin 2 → IVec S16 32) a x).toNat < S8x896.size a)
theorem k0_idx38_inb : ∀ (v487 : IVec S16 32) (v834 : IVec S16 32) (k0_hw38 : k0_chk38 v487 v834), ∀ a x, ((![v487, v834] : Fin 2 → IVec S16 32) a x).toNat < S8x896.size a := fun v487 v834 k0_hw38 => k0_hw38
def k0_off78 (k0_t7 : Fin k0_t7_loop.trips) : Fin 2 → Nat :=
  let c5_i32_453 : BitVec 32 := 5#32
  let v837 : Index := Scalar.indexCast c5_i32_453
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![5, v838.toNat]
def k0_off79 (k0_t7 : Fin k0_t7_loop.trips) : Fin 2 → Nat :=
  let c5_i32_456 : BitVec 32 := 5#32
  let v842 : Index := Scalar.indexCast c5_i32_456
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![5, v843.toNat]

def k0_chk39 (v487 : IVec S16 32) (v848 : IVec S16 32) : Prop :=
  (∀ a x, ((![v487, v848] : Fin 2 → IVec S16 32) a x).toNat < S8x896.size a)
theorem k0_idx39_inb : ∀ (v487 : IVec S16 32) (v848 : IVec S16 32) (k0_hw39 : k0_chk39 v487 v848), ∀ a x, ((![v487, v848] : Fin 2 → IVec S16 32) a x).toNat < S8x896.size a := fun v487 v848 k0_hw39 => k0_hw39
def k0_off80 (k0_t7 : Fin k0_t7_loop.trips) : Fin 2 → Nat :=
  let c5_i32_458 : BitVec 32 := 5#32
  let v851 : Index := Scalar.indexCast c5_i32_458
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![5, v852.toNat]
def k0_off81 (k0_t7 : Fin k0_t7_loop.trips) : Fin 2 → Nat :=
  let c5_i32_461 : BitVec 32 := 5#32
  let v856 : Index := Scalar.indexCast c5_i32_461
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![5, v857.toNat]

def k0_chk40 (v487 : IVec S16 32) (v862 : IVec S16 32) : Prop :=
  (∀ a x, ((![v487, v862] : Fin 2 → IVec S16 32) a x).toNat < S8x896.size a)
theorem k0_idx40_inb : ∀ (v487 : IVec S16 32) (v862 : IVec S16 32) (k0_hw40 : k0_chk40 v487 v862), ∀ a x, ((![v487, v862] : Fin 2 → IVec S16 32) a x).toNat < S8x896.size a := fun v487 v862 k0_hw40 => k0_hw40
def k0_off82 (k0_t7 : Fin k0_t7_loop.trips) : Fin 2 → Nat :=
  let c5_i32_464 : BitVec 32 := 5#32
  let v865 : Index := Scalar.indexCast c5_i32_464
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![5, v866.toNat]
def k0_off83 (k0_t7 : Fin k0_t7_loop.trips) : Fin 2 → Nat :=
  let c5_i32_467 : BitVec 32 := 5#32
  let v870 : Index := Scalar.indexCast c5_i32_467
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![5, v871.toNat]

def k0_chk41 (v487 : IVec S16 32) (v876 : IVec S16 32) : Prop :=
  (∀ a x, ((![v487, v876] : Fin 2 → IVec S16 32) a x).toNat < S8x896.size a)
theorem k0_idx41_inb : ∀ (v487 : IVec S16 32) (v876 : IVec S16 32) (k0_hw41 : k0_chk41 v487 v876), ∀ a x, ((![v487, v876] : Fin 2 → IVec S16 32) a x).toNat < S8x896.size a := fun v487 v876 k0_hw41 => k0_hw41
def k0_off84 (k0_t7 : Fin k0_t7_loop.trips) : Fin 2 → Nat :=
  let c5_i32_469 : BitVec 32 := 5#32
  let v879 : Index := Scalar.indexCast c5_i32_469
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![5, v880.toNat]
def k0_off85 (k0_t7 : Fin k0_t7_loop.trips) : Fin 2 → Nat :=
  let c5_i32_472 : BitVec 32 := 5#32
  let v884 : Index := Scalar.indexCast c5_i32_472
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![5, v885.toNat]

def k0_chk42 (v487 : IVec S16 32) (v890 : IVec S16 32) : Prop :=
  (∀ a x, ((![v487, v890] : Fin 2 → IVec S16 32) a x).toNat < S8x896.size a)
theorem k0_idx42_inb : ∀ (v487 : IVec S16 32) (v890 : IVec S16 32) (k0_hw42 : k0_chk42 v487 v890), ∀ a x, ((![v487, v890] : Fin 2 → IVec S16 32) a x).toNat < S8x896.size a := fun v487 v890 k0_hw42 => k0_hw42
def k0_off86 (k0_t7 : Fin k0_t7_loop.trips) : Fin 2 → Nat :=
  let c5_i32_475 : BitVec 32 := 5#32
  let v893 : Index := Scalar.indexCast c5_i32_475
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![5, v894.toNat]
def k0_off87 (k0_t7 : Fin k0_t7_loop.trips) : Fin 2 → Nat :=
  let c5_i32_478 : BitVec 32 := 5#32
  let v898 : Index := Scalar.indexCast c5_i32_478
  let c224_i32 : BitVec 32 := 224#32
  let c0_i32_438 : BitVec 32 := 0#32
  let c0_i32_243 : BitVec 32 := 0#32
  let c1_i32_245 : BitVec 32 := 1#32
  let arg13 : BitVec 32 := Scf.iv c0_i32_243 c1_i32_245 k0_t7
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![5, v899.toNat]
@[reducible] def k0_t8_loop : Scf.Loop 32 :=
  let c0_i32_247 : BitVec 32 := 0#32
  let c16_i32_248 : BitVec 32 := 16#32
  let v490 : BitVec 32 := Scalar.addi c0_i32_247 c16_i32_248
  let c1_i32_249 : BitVec 32 := 1#32
  ⟨c0_i32_247, v490, c1_i32_249⟩

def k0_chk43 (v489 : IVec S16 32) (v806 : IVec S16 32) : Prop :=
  (∀ a x, ((![v489, v806] : Fin 2 → IVec S16 32) a x).toNat < S8x896.size a)
theorem k0_idx43_inb : ∀ (v489 : IVec S16 32) (v806 : IVec S16 32) (k0_hw43 : k0_chk43 v489 v806), ∀ a x, ((![v489, v806] : Fin 2 → IVec S16 32) a x).toNat < S8x896.size a := fun v489 v806 k0_hw43 => k0_hw43
def k0_off88 (k0_t8 : Fin k0_t8_loop.trips) : Fin 2 → Nat :=
  let c6_i32_441 : BitVec 32 := 6#32
  let v809 : Index := Scalar.indexCast c6_i32_441
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![6, v810.toNat]
def k0_off89 (k0_t8 : Fin k0_t8_loop.trips) : Fin 2 → Nat :=
  let c6_i32_443 : BitVec 32 := 6#32
  let v814 : Index := Scalar.indexCast c6_i32_443
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![6, v815.toNat]

def k0_chk44 (v489 : IVec S16 32) (v820 : IVec S16 32) : Prop :=
  (∀ a x, ((![v489, v820] : Fin 2 → IVec S16 32) a x).toNat < S8x896.size a)
theorem k0_idx44_inb : ∀ (v489 : IVec S16 32) (v820 : IVec S16 32) (k0_hw44 : k0_chk44 v489 v820), ∀ a x, ((![v489, v820] : Fin 2 → IVec S16 32) a x).toNat < S8x896.size a := fun v489 v820 k0_hw44 => k0_hw44
def k0_off90 (k0_t8 : Fin k0_t8_loop.trips) : Fin 2 → Nat :=
  let c6_i32_447 : BitVec 32 := 6#32
  let v823 : Index := Scalar.indexCast c6_i32_447
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![6, v824.toNat]
def k0_off91 (k0_t8 : Fin k0_t8_loop.trips) : Fin 2 → Nat :=
  let c6_i32_450 : BitVec 32 := 6#32
  let v828 : Index := Scalar.indexCast c6_i32_450
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![6, v829.toNat]

def k0_chk45 (v489 : IVec S16 32) (v834 : IVec S16 32) : Prop :=
  (∀ a x, ((![v489, v834] : Fin 2 → IVec S16 32) a x).toNat < S8x896.size a)
theorem k0_idx45_inb : ∀ (v489 : IVec S16 32) (v834 : IVec S16 32) (k0_hw45 : k0_chk45 v489 v834), ∀ a x, ((![v489, v834] : Fin 2 → IVec S16 32) a x).toNat < S8x896.size a := fun v489 v834 k0_hw45 => k0_hw45
def k0_off92 (k0_t8 : Fin k0_t8_loop.trips) : Fin 2 → Nat :=
  let c6_i32_453 : BitVec 32 := 6#32
  let v837 : Index := Scalar.indexCast c6_i32_453
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![6, v838.toNat]
def k0_off93 (k0_t8 : Fin k0_t8_loop.trips) : Fin 2 → Nat :=
  let c6_i32_456 : BitVec 32 := 6#32
  let v842 : Index := Scalar.indexCast c6_i32_456
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![6, v843.toNat]

def k0_chk46 (v489 : IVec S16 32) (v848 : IVec S16 32) : Prop :=
  (∀ a x, ((![v489, v848] : Fin 2 → IVec S16 32) a x).toNat < S8x896.size a)
theorem k0_idx46_inb : ∀ (v489 : IVec S16 32) (v848 : IVec S16 32) (k0_hw46 : k0_chk46 v489 v848), ∀ a x, ((![v489, v848] : Fin 2 → IVec S16 32) a x).toNat < S8x896.size a := fun v489 v848 k0_hw46 => k0_hw46
def k0_off94 (k0_t8 : Fin k0_t8_loop.trips) : Fin 2 → Nat :=
  let c6_i32_458 : BitVec 32 := 6#32
  let v851 : Index := Scalar.indexCast c6_i32_458
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![6, v852.toNat]
def k0_off95 (k0_t8 : Fin k0_t8_loop.trips) : Fin 2 → Nat :=
  let c6_i32_461 : BitVec 32 := 6#32
  let v856 : Index := Scalar.indexCast c6_i32_461
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![6, v857.toNat]

def k0_chk47 (v489 : IVec S16 32) (v862 : IVec S16 32) : Prop :=
  (∀ a x, ((![v489, v862] : Fin 2 → IVec S16 32) a x).toNat < S8x896.size a)
theorem k0_idx47_inb : ∀ (v489 : IVec S16 32) (v862 : IVec S16 32) (k0_hw47 : k0_chk47 v489 v862), ∀ a x, ((![v489, v862] : Fin 2 → IVec S16 32) a x).toNat < S8x896.size a := fun v489 v862 k0_hw47 => k0_hw47
def k0_off96 (k0_t8 : Fin k0_t8_loop.trips) : Fin 2 → Nat :=
  let c6_i32_464 : BitVec 32 := 6#32
  let v865 : Index := Scalar.indexCast c6_i32_464
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![6, v866.toNat]
def k0_off97 (k0_t8 : Fin k0_t8_loop.trips) : Fin 2 → Nat :=
  let c6_i32_467 : BitVec 32 := 6#32
  let v870 : Index := Scalar.indexCast c6_i32_467
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![6, v871.toNat]

def k0_chk48 (v489 : IVec S16 32) (v876 : IVec S16 32) : Prop :=
  (∀ a x, ((![v489, v876] : Fin 2 → IVec S16 32) a x).toNat < S8x896.size a)
theorem k0_idx48_inb : ∀ (v489 : IVec S16 32) (v876 : IVec S16 32) (k0_hw48 : k0_chk48 v489 v876), ∀ a x, ((![v489, v876] : Fin 2 → IVec S16 32) a x).toNat < S8x896.size a := fun v489 v876 k0_hw48 => k0_hw48
def k0_off98 (k0_t8 : Fin k0_t8_loop.trips) : Fin 2 → Nat :=
  let c6_i32_469 : BitVec 32 := 6#32
  let v879 : Index := Scalar.indexCast c6_i32_469
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![6, v880.toNat]
def k0_off99 (k0_t8 : Fin k0_t8_loop.trips) : Fin 2 → Nat :=
  let c6_i32_472 : BitVec 32 := 6#32
  let v884 : Index := Scalar.indexCast c6_i32_472
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![6, v885.toNat]

def k0_chk49 (v489 : IVec S16 32) (v890 : IVec S16 32) : Prop :=
  (∀ a x, ((![v489, v890] : Fin 2 → IVec S16 32) a x).toNat < S8x896.size a)
theorem k0_idx49_inb : ∀ (v489 : IVec S16 32) (v890 : IVec S16 32) (k0_hw49 : k0_chk49 v489 v890), ∀ a x, ((![v489, v890] : Fin 2 → IVec S16 32) a x).toNat < S8x896.size a := fun v489 v890 k0_hw49 => k0_hw49
def k0_off100 (k0_t8 : Fin k0_t8_loop.trips) : Fin 2 → Nat :=
  let c6_i32_475 : BitVec 32 := 6#32
  let v893 : Index := Scalar.indexCast c6_i32_475
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![6, v894.toNat]
def k0_off101 (k0_t8 : Fin k0_t8_loop.trips) : Fin 2 → Nat :=
  let c6_i32_478 : BitVec 32 := 6#32
  let v898 : Index := Scalar.indexCast c6_i32_478
  let c224_i32 : BitVec 32 := 224#32
  let c0_i32_438 : BitVec 32 := 0#32
  let c0_i32_247 : BitVec 32 := 0#32
  let c1_i32_249 : BitVec 32 := 1#32
  let arg13 : BitVec 32 := Scf.iv c0_i32_247 c1_i32_249 k0_t8
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![6, v899.toNat]
@[reducible] def k0_t9_loop : Scf.Loop 32 :=
  let c0_i32_252 : BitVec 32 := 0#32
  let c16_i32_253 : BitVec 32 := 16#32
  let v492 : BitVec 32 := Scalar.addi c0_i32_252 c16_i32_253
  let c1_i32_254 : BitVec 32 := 1#32
  ⟨c0_i32_252, v492, c1_i32_254⟩

def k0_chk50 (v491 : IVec S16 32) (v806 : IVec S16 32) : Prop :=
  (∀ a x, ((![v491, v806] : Fin 2 → IVec S16 32) a x).toNat < S8x896.size a)
theorem k0_idx50_inb : ∀ (v491 : IVec S16 32) (v806 : IVec S16 32) (k0_hw50 : k0_chk50 v491 v806), ∀ a x, ((![v491, v806] : Fin 2 → IVec S16 32) a x).toNat < S8x896.size a := fun v491 v806 k0_hw50 => k0_hw50
def k0_off102 (k0_t9 : Fin k0_t9_loop.trips) : Fin 2 → Nat :=
  let c7_i32_441 : BitVec 32 := 7#32
  let v809 : Index := Scalar.indexCast c7_i32_441
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![7, v810.toNat]
def k0_off103 (k0_t9 : Fin k0_t9_loop.trips) : Fin 2 → Nat :=
  let c7_i32_443 : BitVec 32 := 7#32
  let v814 : Index := Scalar.indexCast c7_i32_443
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![7, v815.toNat]

def k0_chk51 (v491 : IVec S16 32) (v820 : IVec S16 32) : Prop :=
  (∀ a x, ((![v491, v820] : Fin 2 → IVec S16 32) a x).toNat < S8x896.size a)
theorem k0_idx51_inb : ∀ (v491 : IVec S16 32) (v820 : IVec S16 32) (k0_hw51 : k0_chk51 v491 v820), ∀ a x, ((![v491, v820] : Fin 2 → IVec S16 32) a x).toNat < S8x896.size a := fun v491 v820 k0_hw51 => k0_hw51
def k0_off104 (k0_t9 : Fin k0_t9_loop.trips) : Fin 2 → Nat :=
  let c7_i32_447 : BitVec 32 := 7#32
  let v823 : Index := Scalar.indexCast c7_i32_447
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![7, v824.toNat]
def k0_off105 (k0_t9 : Fin k0_t9_loop.trips) : Fin 2 → Nat :=
  let c7_i32_450 : BitVec 32 := 7#32
  let v828 : Index := Scalar.indexCast c7_i32_450
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![7, v829.toNat]

def k0_chk52 (v491 : IVec S16 32) (v834 : IVec S16 32) : Prop :=
  (∀ a x, ((![v491, v834] : Fin 2 → IVec S16 32) a x).toNat < S8x896.size a)
theorem k0_idx52_inb : ∀ (v491 : IVec S16 32) (v834 : IVec S16 32) (k0_hw52 : k0_chk52 v491 v834), ∀ a x, ((![v491, v834] : Fin 2 → IVec S16 32) a x).toNat < S8x896.size a := fun v491 v834 k0_hw52 => k0_hw52
def k0_off106 (k0_t9 : Fin k0_t9_loop.trips) : Fin 2 → Nat :=
  let c7_i32_453 : BitVec 32 := 7#32
  let v837 : Index := Scalar.indexCast c7_i32_453
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![7, v838.toNat]
def k0_off107 (k0_t9 : Fin k0_t9_loop.trips) : Fin 2 → Nat :=
  let c7_i32_456 : BitVec 32 := 7#32
  let v842 : Index := Scalar.indexCast c7_i32_456
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![7, v843.toNat]

def k0_chk53 (v491 : IVec S16 32) (v848 : IVec S16 32) : Prop :=
  (∀ a x, ((![v491, v848] : Fin 2 → IVec S16 32) a x).toNat < S8x896.size a)
theorem k0_idx53_inb : ∀ (v491 : IVec S16 32) (v848 : IVec S16 32) (k0_hw53 : k0_chk53 v491 v848), ∀ a x, ((![v491, v848] : Fin 2 → IVec S16 32) a x).toNat < S8x896.size a := fun v491 v848 k0_hw53 => k0_hw53
def k0_off108 (k0_t9 : Fin k0_t9_loop.trips) : Fin 2 → Nat :=
  let c7_i32_458 : BitVec 32 := 7#32
  let v851 : Index := Scalar.indexCast c7_i32_458
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![7, v852.toNat]
def k0_off109 (k0_t9 : Fin k0_t9_loop.trips) : Fin 2 → Nat :=
  let c7_i32_461 : BitVec 32 := 7#32
  let v856 : Index := Scalar.indexCast c7_i32_461
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![7, v857.toNat]

def k0_chk54 (v491 : IVec S16 32) (v862 : IVec S16 32) : Prop :=
  (∀ a x, ((![v491, v862] : Fin 2 → IVec S16 32) a x).toNat < S8x896.size a)
theorem k0_idx54_inb : ∀ (v491 : IVec S16 32) (v862 : IVec S16 32) (k0_hw54 : k0_chk54 v491 v862), ∀ a x, ((![v491, v862] : Fin 2 → IVec S16 32) a x).toNat < S8x896.size a := fun v491 v862 k0_hw54 => k0_hw54
def k0_off110 (k0_t9 : Fin k0_t9_loop.trips) : Fin 2 → Nat :=
  let c7_i32_464 : BitVec 32 := 7#32
  let v865 : Index := Scalar.indexCast c7_i32_464
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![7, v866.toNat]
def k0_off111 (k0_t9 : Fin k0_t9_loop.trips) : Fin 2 → Nat :=
  let c7_i32_467 : BitVec 32 := 7#32
  let v870 : Index := Scalar.indexCast c7_i32_467
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![7, v871.toNat]

def k0_chk55 (v491 : IVec S16 32) (v876 : IVec S16 32) : Prop :=
  (∀ a x, ((![v491, v876] : Fin 2 → IVec S16 32) a x).toNat < S8x896.size a)
theorem k0_idx55_inb : ∀ (v491 : IVec S16 32) (v876 : IVec S16 32) (k0_hw55 : k0_chk55 v491 v876), ∀ a x, ((![v491, v876] : Fin 2 → IVec S16 32) a x).toNat < S8x896.size a := fun v491 v876 k0_hw55 => k0_hw55
def k0_off112 (k0_t9 : Fin k0_t9_loop.trips) : Fin 2 → Nat :=
  let c7_i32_469 : BitVec 32 := 7#32
  let v879 : Index := Scalar.indexCast c7_i32_469
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![7, v880.toNat]
def k0_off113 (k0_t9 : Fin k0_t9_loop.trips) : Fin 2 → Nat :=
  let c7_i32_472 : BitVec 32 := 7#32
  let v884 : Index := Scalar.indexCast c7_i32_472
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![7, v885.toNat]

def k0_chk56 (v491 : IVec S16 32) (v890 : IVec S16 32) : Prop :=
  (∀ a x, ((![v491, v890] : Fin 2 → IVec S16 32) a x).toNat < S8x896.size a)
theorem k0_idx56_inb : ∀ (v491 : IVec S16 32) (v890 : IVec S16 32) (k0_hw56 : k0_chk56 v491 v890), ∀ a x, ((![v491, v890] : Fin 2 → IVec S16 32) a x).toNat < S8x896.size a := fun v491 v890 k0_hw56 => k0_hw56
def k0_off114 (k0_t9 : Fin k0_t9_loop.trips) : Fin 2 → Nat :=
  let c7_i32_475 : BitVec 32 := 7#32
  let v893 : Index := Scalar.indexCast c7_i32_475
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![7, v894.toNat]
def k0_off115 (k0_t9 : Fin k0_t9_loop.trips) : Fin 2 → Nat :=
  let c7_i32_478 : BitVec 32 := 7#32
  let v898 : Index := Scalar.indexCast c7_i32_478
  let c224_i32 : BitVec 32 := 224#32
  let c0_i32_438 : BitVec 32 := 0#32
  let c0_i32_252 : BitVec 32 := 0#32
  let c1_i32_254 : BitVec 32 := 1#32
  let arg13 : BitVec 32 := Scf.iv c0_i32_252 c1_i32_254 k0_t9
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![7, v899.toNat]
def k0_off116 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c84_i32 : BitVec 32 := 84#32
  let v2 : BitVec 32 := Scalar.muli v1 c84_i32
  let c0_i32_82 : BitVec 32 := 0#32
  let c1_i32_83 : BitVec 32 := 1#32
  let arg12 : BitVec 32 := Scf.iv c0_i32_82 c1_i32_83 k0_t1
  let c2_i32_173 : BitVec 32 := 2#32
  let v379 : BitVec 32 := Scalar.muli arg12 c2_i32_173
  let c0_i32_174 : BitVec 32 := 0#32
  let v380 : BitVec 32 := Scalar.addi v379 c0_i32_174
  let v493 : BitVec 32 := Scalar.addi v2 v380
  let c0_i32_257 : BitVec 32 := 0#32
  let v495 : BitVec 1 := Scalar.cmpi .sgt v493 c0_i32_257
  let v496 : BitVec 32 := Scalar.extui v495
  let c0_i32_258 : BitVec 32 := 0#32
  let v497 : BitVec 1 := Scalar.cmpi .slt v493 c0_i32_258
  let v498 : BitVec 32 := Scalar.extui v497
  let v499 : BitVec 32 := Scalar.subi v496 v498
  let c672_i32_256 : BitVec 32 := 672#32
  let c0_i32_259 : BitVec 32 := 0#32
  let v500 : BitVec 1 := Scalar.cmpi .sgt c672_i32_256 c0_i32_259
  let v501 : BitVec 32 := Scalar.extui v500
  let c0_i32_260 : BitVec 32 := 0#32
  let v502 : BitVec 1 := Scalar.cmpi .slt c672_i32_256 c0_i32_260
  let v503 : BitVec 32 := Scalar.extui v502
  let v504 : BitVec 32 := Scalar.subi v501 v503
  let v505 : BitVec 1 := Scalar.cmpi .ne v499 v504
  let v506 : BitVec 32 := Scalar.remsi v493 c672_i32_256
  let c0_i32_261 : BitVec 32 := 0#32
  let v507 : BitVec 1 := Scalar.cmpi .ne v506 c0_i32_261
  let v508 : BitVec 1 := Scalar.andi v505 v507
  let v494 : BitVec 32 := Scalar.divsi v493 c672_i32_256
  let c1_i32_262 : BitVec 32 := 1#32
  let v509 : BitVec 32 := Scalar.subi v494 c1_i32_262
  let v510 : BitVec 32 := Scalar.select v508 v509 v494
  let c8_i32_295 : BitVec 32 := 8#32
  let c672_i32_263 : BitVec 32 := 672#32
  let c0_i32_264 : BitVec 32 := 0#32
  let v511 : BitVec 1 := Scalar.cmpi .eq c672_i32_263 c0_i32_264
  let c1_i32_265 : BitVec 32 := 1#32
  let v512 : BitVec 32 := Scalar.select v511 c1_i32_265 c672_i32_263
  let v513 : BitVec 32 := Scalar.remsi v493 v512
  let c0_i32_267 : BitVec 32 := 0#32
  let v515 : BitVec 1 := Scalar.cmpi .slt v513 c0_i32_267
  let c0_i32_268 : BitVec 32 := 0#32
  let v516 : BitVec 1 := Scalar.cmpi .slt v512 c0_i32_268
  let v517 : BitVec 1 := Scalar.xori v515 v516
  let c0_i32_266 : BitVec 32 := 0#32
  let v514 : BitVec 1 := Scalar.cmpi .ne v513 c0_i32_266
  let v518 : BitVec 1 := Scalar.andi v517 v514
  let v519 : BitVec 32 := Scalar.addi v513 v512
  let v520 : BitVec 32 := Scalar.select v518 v519 v513
  let c0_i32_270 : BitVec 32 := 0#32
  let v522 : BitVec 1 := Scalar.cmpi .sgt v520 c0_i32_270
  let v523 : BitVec 32 := Scalar.extui v522
  let c0_i32_271 : BitVec 32 := 0#32
  let v524 : BitVec 1 := Scalar.cmpi .slt v520 c0_i32_271
  let v525 : BitVec 32 := Scalar.extui v524
  let v526 : BitVec 32 := Scalar.subi v523 v525
  let c28_i32_269 : BitVec 32 := 28#32
  let c0_i32_272 : BitVec 32 := 0#32
  let v527 : BitVec 1 := Scalar.cmpi .sgt c28_i32_269 c0_i32_272
  let v528 : BitVec 32 := Scalar.extui v527
  let c0_i32_273 : BitVec 32 := 0#32
  let v529 : BitVec 1 := Scalar.cmpi .slt c28_i32_269 c0_i32_273
  let v530 : BitVec 32 := Scalar.extui v529
  let v531 : BitVec 32 := Scalar.subi v528 v530
  let v532 : BitVec 1 := Scalar.cmpi .ne v526 v531
  let v533 : BitVec 32 := Scalar.remsi v520 c28_i32_269
  let c0_i32_274 : BitVec 32 := 0#32
  let v534 : BitVec 1 := Scalar.cmpi .ne v533 c0_i32_274
  let v535 : BitVec 1 := Scalar.andi v532 v534
  let v521 : BitVec 32 := Scalar.divsi v520 c28_i32_269
  let c1_i32_275 : BitVec 32 := 1#32
  let v536 : BitVec 32 := Scalar.subi v521 c1_i32_275
  let v537 : BitVec 32 := Scalar.select v535 v536 v521
  let v575 : BitVec 32 := Scalar.muli c8_i32_295 v537
  let c25088_i32_298 : BitVec 32 := 25088#32
  let c28_i32_276 : BitVec 32 := 28#32
  let c0_i32_277 : BitVec 32 := 0#32
  let v538 : BitVec 1 := Scalar.cmpi .eq c28_i32_276 c0_i32_277
  let c1_i32_278 : BitVec 32 := 1#32
  let v539 : BitVec 32 := Scalar.select v538 c1_i32_278 c28_i32_276
  let v540 : BitVec 32 := Scalar.remsi v520 v539
  let c0_i32_280 : BitVec 32 := 0#32
  let v542 : BitVec 1 := Scalar.cmpi .slt v540 c0_i32_280
  let c0_i32_281 : BitVec 32 := 0#32
  let v543 : BitVec 1 := Scalar.cmpi .slt v539 c0_i32_281
  let v544 : BitVec 1 := Scalar.xori v542 v543
  let c0_i32_279 : BitVec 32 := 0#32
  let v541 : BitVec 1 := Scalar.cmpi .ne v540 c0_i32_279
  let v545 : BitVec 1 := Scalar.andi v544 v541
  let v546 : BitVec 32 := Scalar.addi v540 v539
  let v547 : BitVec 32 := Scalar.select v545 v546 v540
  let c0_i32_283 : BitVec 32 := 0#32
  let v549 : BitVec 1 := Scalar.cmpi .sgt v547 c0_i32_283
  let v550 : BitVec 32 := Scalar.extui v549
  let c0_i32_284 : BitVec 32 := 0#32
  let v551 : BitVec 1 := Scalar.cmpi .slt v547 c0_i32_284
  let v552 : BitVec 32 := Scalar.extui v551
  let v553 : BitVec 32 := Scalar.subi v550 v552
  let c7_i32_282 : BitVec 32 := 7#32
  let c0_i32_285 : BitVec 32 := 0#32
  let v554 : BitVec 1 := Scalar.cmpi .sgt c7_i32_282 c0_i32_285
  let v555 : BitVec 32 := Scalar.extui v554
  let c0_i32_286 : BitVec 32 := 0#32
  let v556 : BitVec 1 := Scalar.cmpi .slt c7_i32_282 c0_i32_286
  let v557 : BitVec 32 := Scalar.extui v556
  let v558 : BitVec 32 := Scalar.subi v555 v557
  let v559 : BitVec 1 := Scalar.cmpi .ne v553 v558
  let v560 : BitVec 32 := Scalar.remsi v547 c7_i32_282
  let c0_i32_287 : BitVec 32 := 0#32
  let v561 : BitVec 1 := Scalar.cmpi .ne v560 c0_i32_287
  let v562 : BitVec 1 := Scalar.andi v559 v561
  let v548 : BitVec 32 := Scalar.divsi v547 c7_i32_282
  let c1_i32_288 : BitVec 32 := 1#32
  let v563 : BitVec 32 := Scalar.subi v548 c1_i32_288
  let v564 : BitVec 32 := Scalar.select v562 v563 v548
  let v579 : BitVec 32 := Scalar.muli c25088_i32_298 v564
  let c3584_i32_299 : BitVec 32 := 3584#32
  let c7_i32_289 : BitVec 32 := 7#32
  let c0_i32_290 : BitVec 32 := 0#32
  let v565 : BitVec 1 := Scalar.cmpi .eq c7_i32_289 c0_i32_290
  let c1_i32_291 : BitVec 32 := 1#32
  let v566 : BitVec 32 := Scalar.select v565 c1_i32_291 c7_i32_289
  let v567 : BitVec 32 := Scalar.remsi v547 v566
  let c0_i32_293 : BitVec 32 := 0#32
  let v569 : BitVec 1 := Scalar.cmpi .slt v567 c0_i32_293
  let c0_i32_294 : BitVec 32 := 0#32
  let v570 : BitVec 1 := Scalar.cmpi .slt v566 c0_i32_294
  let v571 : BitVec 1 := Scalar.xori v569 v570
  let c0_i32_292 : BitVec 32 := 0#32
  let v568 : BitVec 1 := Scalar.cmpi .ne v567 c0_i32_292
  let v572 : BitVec 1 := Scalar.andi v571 v568
  let v573 : BitVec 32 := Scalar.addi v567 v566
  let v574 : BitVec 32 := Scalar.select v572 v573 v567
  let v580 : BitVec 32 := Scalar.muli c3584_i32_299 v574
  let v581 : BitVec 32 := Scalar.addi v579 v580
  ![v510.toNat, v575.toNat, v581.toNat]
def k0_cond2 (k0_t1 : Fin k0_t1_loop.trips) : BitVec 1 :=
  let c0_i32_82 : BitVec 32 := 0#32
  let c1_i32_83 : BitVec 32 := 1#32
  let arg12 : BitVec 32 := Scf.iv c0_i32_82 c1_i32_83 k0_t1
  let c2_i32_173 : BitVec 32 := 2#32
  let v379 : BitVec 32 := Scalar.muli arg12 c2_i32_173
  let c2_i32_300 : BitVec 32 := 2#32
  let v586 : BitVec 32 := Scalar.addi v379 c2_i32_300
  let c84_i32_301 : BitVec 32 := 84#32
  let v587 : BitVec 1 := Scalar.cmpi .slt v586 c84_i32_301
  let v588 : BitVec 32 := Scalar.extui v587
  let c0_i32_302 : BitVec 32 := 0#32
  let v589 : BitVec 1 := Scalar.cmpi .ne v588 c0_i32_302
  v589

def k0_off117 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c84_i32 : BitVec 32 := 84#32
  let v2 : BitVec 32 := Scalar.muli v1 c84_i32
  let c0_i32_82 : BitVec 32 := 0#32
  let c1_i32_83 : BitVec 32 := 1#32
  let arg12 : BitVec 32 := Scf.iv c0_i32_82 c1_i32_83 k0_t1
  let c2_i32_173 : BitVec 32 := 2#32
  let v379 : BitVec 32 := Scalar.muli arg12 c2_i32_173
  let c0_i32_174 : BitVec 32 := 0#32
  let v380 : BitVec 32 := Scalar.addi v379 c0_i32_174
  let c2_i32_437 : BitVec 32 := 2#32
  let v800 : BitVec 32 := Scalar.addi v380 c2_i32_437
  let v801 : BitVec 32 := Scalar.addi v2 v800
  let c0_i32_439 : BitVec 32 := 0#32
  let v803 : BitVec 1 := Scalar.cmpi .sgt v801 c0_i32_439
  let v804 : BitVec 32 := Scalar.extui v803
  let c0_i32_440 : BitVec 32 := 0#32
  let v805 : BitVec 1 := Scalar.cmpi .slt v801 c0_i32_440
  let v806 : BitVec 32 := Scalar.extui v805
  let v807 : BitVec 32 := Scalar.subi v804 v806
  let c672_i32_438 : BitVec 32 := 672#32
  let c0_i32_441 : BitVec 32 := 0#32
  let v808 : BitVec 1 := Scalar.cmpi .sgt c672_i32_438 c0_i32_441
  let v809 : BitVec 32 := Scalar.extui v808
  let c0_i32_442 : BitVec 32 := 0#32
  let v810 : BitVec 1 := Scalar.cmpi .slt c672_i32_438 c0_i32_442
  let v811 : BitVec 32 := Scalar.extui v810
  let v812 : BitVec 32 := Scalar.subi v809 v811
  let v813 : BitVec 1 := Scalar.cmpi .ne v807 v812
  let v814 : BitVec 32 := Scalar.remsi v801 c672_i32_438
  let c0_i32_443 : BitVec 32 := 0#32
  let v815 : BitVec 1 := Scalar.cmpi .ne v814 c0_i32_443
  let v816 : BitVec 1 := Scalar.andi v813 v815
  let v802 : BitVec 32 := Scalar.divsi v801 c672_i32_438
  let c1_i32_444 : BitVec 32 := 1#32
  let v817 : BitVec 32 := Scalar.subi v802 c1_i32_444
  let v818 : BitVec 32 := Scalar.select v816 v817 v802
  let c8_i32_477 : BitVec 32 := 8#32
  let c672_i32_445 : BitVec 32 := 672#32
  let c0_i32_446 : BitVec 32 := 0#32
  let v819 : BitVec 1 := Scalar.cmpi .eq c672_i32_445 c0_i32_446
  let c1_i32_447 : BitVec 32 := 1#32
  let v820 : BitVec 32 := Scalar.select v819 c1_i32_447 c672_i32_445
  let v821 : BitVec 32 := Scalar.remsi v801 v820
  let c0_i32_449 : BitVec 32 := 0#32
  let v823 : BitVec 1 := Scalar.cmpi .slt v821 c0_i32_449
  let c0_i32_450 : BitVec 32 := 0#32
  let v824 : BitVec 1 := Scalar.cmpi .slt v820 c0_i32_450
  let v825 : BitVec 1 := Scalar.xori v823 v824
  let c0_i32_448 : BitVec 32 := 0#32
  let v822 : BitVec 1 := Scalar.cmpi .ne v821 c0_i32_448
  let v826 : BitVec 1 := Scalar.andi v825 v822
  let v827 : BitVec 32 := Scalar.addi v821 v820
  let v828 : BitVec 32 := Scalar.select v826 v827 v821
  let c0_i32_452 : BitVec 32 := 0#32
  let v830 : BitVec 1 := Scalar.cmpi .sgt v828 c0_i32_452
  let v831 : BitVec 32 := Scalar.extui v830
  let c0_i32_453 : BitVec 32 := 0#32
  let v832 : BitVec 1 := Scalar.cmpi .slt v828 c0_i32_453
  let v833 : BitVec 32 := Scalar.extui v832
  let v834 : BitVec 32 := Scalar.subi v831 v833
  let c28_i32_451 : BitVec 32 := 28#32
  let c0_i32_454 : BitVec 32 := 0#32
  let v835 : BitVec 1 := Scalar.cmpi .sgt c28_i32_451 c0_i32_454
  let v836 : BitVec 32 := Scalar.extui v835
  let c0_i32_455 : BitVec 32 := 0#32
  let v837 : BitVec 1 := Scalar.cmpi .slt c28_i32_451 c0_i32_455
  let v838 : BitVec 32 := Scalar.extui v837
  let v839 : BitVec 32 := Scalar.subi v836 v838
  let v840 : BitVec 1 := Scalar.cmpi .ne v834 v839
  let v841 : BitVec 32 := Scalar.remsi v828 c28_i32_451
  let c0_i32_456 : BitVec 32 := 0#32
  let v842 : BitVec 1 := Scalar.cmpi .ne v841 c0_i32_456
  let v843 : BitVec 1 := Scalar.andi v840 v842
  let v829 : BitVec 32 := Scalar.divsi v828 c28_i32_451
  let c1_i32_457 : BitVec 32 := 1#32
  let v844 : BitVec 32 := Scalar.subi v829 c1_i32_457
  let v845 : BitVec 32 := Scalar.select v843 v844 v829
  let v883 : BitVec 32 := Scalar.muli c8_i32_477 v845
  let c6272_i32_478 : BitVec 32 := 6272#32
  let c28_i32_458 : BitVec 32 := 28#32
  let c0_i32_459 : BitVec 32 := 0#32
  let v846 : BitVec 1 := Scalar.cmpi .eq c28_i32_458 c0_i32_459
  let c1_i32_460 : BitVec 32 := 1#32
  let v847 : BitVec 32 := Scalar.select v846 c1_i32_460 c28_i32_458
  let v848 : BitVec 32 := Scalar.remsi v828 v847
  let c0_i32_462 : BitVec 32 := 0#32
  let v850 : BitVec 1 := Scalar.cmpi .slt v848 c0_i32_462
  let c0_i32_463 : BitVec 32 := 0#32
  let v851 : BitVec 1 := Scalar.cmpi .slt v847 c0_i32_463
  let v852 : BitVec 1 := Scalar.xori v850 v851
  let c0_i32_461 : BitVec 32 := 0#32
  let v849 : BitVec 1 := Scalar.cmpi .ne v848 c0_i32_461
  let v853 : BitVec 1 := Scalar.andi v852 v849
  let v854 : BitVec 32 := Scalar.addi v848 v847
  let v855 : BitVec 32 := Scalar.select v853 v854 v848
  let c0_i32_465 : BitVec 32 := 0#32
  let v857 : BitVec 1 := Scalar.cmpi .sgt v855 c0_i32_465
  let v858 : BitVec 32 := Scalar.extui v857
  let c0_i32_466 : BitVec 32 := 0#32
  let v859 : BitVec 1 := Scalar.cmpi .slt v855 c0_i32_466
  let v860 : BitVec 32 := Scalar.extui v859
  let v861 : BitVec 32 := Scalar.subi v858 v860
  let c7_i32_464 : BitVec 32 := 7#32
  let c0_i32_467 : BitVec 32 := 0#32
  let v862 : BitVec 1 := Scalar.cmpi .sgt c7_i32_464 c0_i32_467
  let v863 : BitVec 32 := Scalar.extui v862
  let c0_i32_468 : BitVec 32 := 0#32
  let v864 : BitVec 1 := Scalar.cmpi .slt c7_i32_464 c0_i32_468
  let v865 : BitVec 32 := Scalar.extui v864
  let v866 : BitVec 32 := Scalar.subi v863 v865
  let v867 : BitVec 1 := Scalar.cmpi .ne v861 v866
  let v868 : BitVec 32 := Scalar.remsi v855 c7_i32_464
  let c0_i32_469 : BitVec 32 := 0#32
  let v869 : BitVec 1 := Scalar.cmpi .ne v868 c0_i32_469
  let v870 : BitVec 1 := Scalar.andi v867 v869
  let v856 : BitVec 32 := Scalar.divsi v855 c7_i32_464
  let c1_i32_470 : BitVec 32 := 1#32
  let v871 : BitVec 32 := Scalar.subi v856 c1_i32_470
  let v872 : BitVec 32 := Scalar.select v870 v871 v856
  let v884 : BitVec 32 := Scalar.muli c6272_i32_478 v872
  let c896_i32_479 : BitVec 32 := 896#32
  let c7_i32_471 : BitVec 32 := 7#32
  let c0_i32_472 : BitVec 32 := 0#32
  let v873 : BitVec 1 := Scalar.cmpi .eq c7_i32_471 c0_i32_472
  let c1_i32_473 : BitVec 32 := 1#32
  let v874 : BitVec 32 := Scalar.select v873 c1_i32_473 c7_i32_471
  let v875 : BitVec 32 := Scalar.remsi v855 v874
  let c0_i32_475 : BitVec 32 := 0#32
  let v877 : BitVec 1 := Scalar.cmpi .slt v875 c0_i32_475
  let c0_i32_476 : BitVec 32 := 0#32
  let v878 : BitVec 1 := Scalar.cmpi .slt v874 c0_i32_476
  let v879 : BitVec 1 := Scalar.xori v877 v878
  let c0_i32_474 : BitVec 32 := 0#32
  let v876 : BitVec 1 := Scalar.cmpi .ne v875 c0_i32_474
  let v880 : BitVec 1 := Scalar.andi v879 v876
  let v881 : BitVec 32 := Scalar.addi v875 v874
  let v882 : BitVec 32 := Scalar.select v880 v881 v875
  let v885 : BitVec 32 := Scalar.muli c896_i32_479 v882
  let v886 : BitVec 32 := Scalar.addi v884 v885
  ![v818.toNat, v883.toNat, v886.toNat]
def k0_off118 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c84_i32 : BitVec 32 := 84#32
  let v2 : BitVec 32 := Scalar.muli v1 c84_i32
  let c0_i32_82 : BitVec 32 := 0#32
  let c1_i32_83 : BitVec 32 := 1#32
  let arg12 : BitVec 32 := Scf.iv c0_i32_82 c1_i32_83 k0_t1
  let c2_i32_173 : BitVec 32 := 2#32
  let v379 : BitVec 32 := Scalar.muli arg12 c2_i32_173
  let c1_i32_303 : BitVec 32 := 1#32
  let v590 : BitVec 32 := Scalar.addi v379 c1_i32_303
  let v591 : BitVec 32 := Scalar.addi v2 v590
  let c0_i32_305 : BitVec 32 := 0#32
  let v593 : BitVec 1 := Scalar.cmpi .sgt v591 c0_i32_305
  let v594 : BitVec 32 := Scalar.extui v593
  let c0_i32_306 : BitVec 32 := 0#32
  let v595 : BitVec 1 := Scalar.cmpi .slt v591 c0_i32_306
  let v596 : BitVec 32 := Scalar.extui v595
  let v597 : BitVec 32 := Scalar.subi v594 v596
  let c672_i32_304 : BitVec 32 := 672#32
  let c0_i32_307 : BitVec 32 := 0#32
  let v598 : BitVec 1 := Scalar.cmpi .sgt c672_i32_304 c0_i32_307
  let v599 : BitVec 32 := Scalar.extui v598
  let c0_i32_308 : BitVec 32 := 0#32
  let v600 : BitVec 1 := Scalar.cmpi .slt c672_i32_304 c0_i32_308
  let v601 : BitVec 32 := Scalar.extui v600
  let v602 : BitVec 32 := Scalar.subi v599 v601
  let v603 : BitVec 1 := Scalar.cmpi .ne v597 v602
  let v604 : BitVec 32 := Scalar.remsi v591 c672_i32_304
  let c0_i32_309 : BitVec 32 := 0#32
  let v605 : BitVec 1 := Scalar.cmpi .ne v604 c0_i32_309
  let v606 : BitVec 1 := Scalar.andi v603 v605
  let v592 : BitVec 32 := Scalar.divsi v591 c672_i32_304
  let c1_i32_310 : BitVec 32 := 1#32
  let v607 : BitVec 32 := Scalar.subi v592 c1_i32_310
  let v608 : BitVec 32 := Scalar.select v606 v607 v592
  let c8_i32_343 : BitVec 32 := 8#32
  let c672_i32_311 : BitVec 32 := 672#32
  let c0_i32_312 : BitVec 32 := 0#32
  let v609 : BitVec 1 := Scalar.cmpi .eq c672_i32_311 c0_i32_312
  let c1_i32_313 : BitVec 32 := 1#32
  let v610 : BitVec 32 := Scalar.select v609 c1_i32_313 c672_i32_311
  let v611 : BitVec 32 := Scalar.remsi v591 v610
  let c0_i32_315 : BitVec 32 := 0#32
  let v613 : BitVec 1 := Scalar.cmpi .slt v611 c0_i32_315
  let c0_i32_316 : BitVec 32 := 0#32
  let v614 : BitVec 1 := Scalar.cmpi .slt v610 c0_i32_316
  let v615 : BitVec 1 := Scalar.xori v613 v614
  let c0_i32_314 : BitVec 32 := 0#32
  let v612 : BitVec 1 := Scalar.cmpi .ne v611 c0_i32_314
  let v616 : BitVec 1 := Scalar.andi v615 v612
  let v617 : BitVec 32 := Scalar.addi v611 v610
  let v618 : BitVec 32 := Scalar.select v616 v617 v611
  let c0_i32_318 : BitVec 32 := 0#32
  let v620 : BitVec 1 := Scalar.cmpi .sgt v618 c0_i32_318
  let v621 : BitVec 32 := Scalar.extui v620
  let c0_i32_319 : BitVec 32 := 0#32
  let v622 : BitVec 1 := Scalar.cmpi .slt v618 c0_i32_319
  let v623 : BitVec 32 := Scalar.extui v622
  let v624 : BitVec 32 := Scalar.subi v621 v623
  let c28_i32_317 : BitVec 32 := 28#32
  let c0_i32_320 : BitVec 32 := 0#32
  let v625 : BitVec 1 := Scalar.cmpi .sgt c28_i32_317 c0_i32_320
  let v626 : BitVec 32 := Scalar.extui v625
  let c0_i32_321 : BitVec 32 := 0#32
  let v627 : BitVec 1 := Scalar.cmpi .slt c28_i32_317 c0_i32_321
  let v628 : BitVec 32 := Scalar.extui v627
  let v629 : BitVec 32 := Scalar.subi v626 v628
  let v630 : BitVec 1 := Scalar.cmpi .ne v624 v629
  let v631 : BitVec 32 := Scalar.remsi v618 c28_i32_317
  let c0_i32_322 : BitVec 32 := 0#32
  let v632 : BitVec 1 := Scalar.cmpi .ne v631 c0_i32_322
  let v633 : BitVec 1 := Scalar.andi v630 v632
  let v619 : BitVec 32 := Scalar.divsi v618 c28_i32_317
  let c1_i32_323 : BitVec 32 := 1#32
  let v634 : BitVec 32 := Scalar.subi v619 c1_i32_323
  let v635 : BitVec 32 := Scalar.select v633 v634 v619
  let v673 : BitVec 32 := Scalar.muli c8_i32_343 v635
  let c6272_i32_344 : BitVec 32 := 6272#32
  let c28_i32_324 : BitVec 32 := 28#32
  let c0_i32_325 : BitVec 32 := 0#32
  let v636 : BitVec 1 := Scalar.cmpi .eq c28_i32_324 c0_i32_325
  let c1_i32_326 : BitVec 32 := 1#32
  let v637 : BitVec 32 := Scalar.select v636 c1_i32_326 c28_i32_324
  let v638 : BitVec 32 := Scalar.remsi v618 v637
  let c0_i32_328 : BitVec 32 := 0#32
  let v640 : BitVec 1 := Scalar.cmpi .slt v638 c0_i32_328
  let c0_i32_329 : BitVec 32 := 0#32
  let v641 : BitVec 1 := Scalar.cmpi .slt v637 c0_i32_329
  let v642 : BitVec 1 := Scalar.xori v640 v641
  let c0_i32_327 : BitVec 32 := 0#32
  let v639 : BitVec 1 := Scalar.cmpi .ne v638 c0_i32_327
  let v643 : BitVec 1 := Scalar.andi v642 v639
  let v644 : BitVec 32 := Scalar.addi v638 v637
  let v645 : BitVec 32 := Scalar.select v643 v644 v638
  let c0_i32_331 : BitVec 32 := 0#32
  let v647 : BitVec 1 := Scalar.cmpi .sgt v645 c0_i32_331
  let v648 : BitVec 32 := Scalar.extui v647
  let c0_i32_332 : BitVec 32 := 0#32
  let v649 : BitVec 1 := Scalar.cmpi .slt v645 c0_i32_332
  let v650 : BitVec 32 := Scalar.extui v649
  let v651 : BitVec 32 := Scalar.subi v648 v650
  let c7_i32_330 : BitVec 32 := 7#32
  let c0_i32_333 : BitVec 32 := 0#32
  let v652 : BitVec 1 := Scalar.cmpi .sgt c7_i32_330 c0_i32_333
  let v653 : BitVec 32 := Scalar.extui v652
  let c0_i32_334 : BitVec 32 := 0#32
  let v654 : BitVec 1 := Scalar.cmpi .slt c7_i32_330 c0_i32_334
  let v655 : BitVec 32 := Scalar.extui v654
  let v656 : BitVec 32 := Scalar.subi v653 v655
  let v657 : BitVec 1 := Scalar.cmpi .ne v651 v656
  let v658 : BitVec 32 := Scalar.remsi v645 c7_i32_330
  let c0_i32_335 : BitVec 32 := 0#32
  let v659 : BitVec 1 := Scalar.cmpi .ne v658 c0_i32_335
  let v660 : BitVec 1 := Scalar.andi v657 v659
  let v646 : BitVec 32 := Scalar.divsi v645 c7_i32_330
  let c1_i32_336 : BitVec 32 := 1#32
  let v661 : BitVec 32 := Scalar.subi v646 c1_i32_336
  let v662 : BitVec 32 := Scalar.select v660 v661 v646
  let v674 : BitVec 32 := Scalar.muli c6272_i32_344 v662
  let c896_i32_345 : BitVec 32 := 896#32
  let c7_i32_337 : BitVec 32 := 7#32
  let c0_i32_338 : BitVec 32 := 0#32
  let v663 : BitVec 1 := Scalar.cmpi .eq c7_i32_337 c0_i32_338
  let c1_i32_339 : BitVec 32 := 1#32
  let v664 : BitVec 32 := Scalar.select v663 c1_i32_339 c7_i32_337
  let v665 : BitVec 32 := Scalar.remsi v645 v664
  let c0_i32_341 : BitVec 32 := 0#32
  let v667 : BitVec 1 := Scalar.cmpi .slt v665 c0_i32_341
  let c0_i32_342 : BitVec 32 := 0#32
  let v668 : BitVec 1 := Scalar.cmpi .slt v664 c0_i32_342
  let v669 : BitVec 1 := Scalar.xori v667 v668
  let c0_i32_340 : BitVec 32 := 0#32
  let v666 : BitVec 1 := Scalar.cmpi .ne v665 c0_i32_340
  let v670 : BitVec 1 := Scalar.andi v669 v666
  let v671 : BitVec 32 := Scalar.addi v665 v664
  let v672 : BitVec 32 := Scalar.select v670 v671 v665
  let v675 : BitVec 32 := Scalar.muli c896_i32_345 v672
  let v676 : BitVec 32 := Scalar.addi v674 v675
  ![v608.toNat, v673.toNat, v676.toNat]
def k0_cond3 (k0_t1 : Fin k0_t1_loop.trips) : BitVec 1 :=
  let c0_i32_82 : BitVec 32 := 0#32
  let c1_i32_83 : BitVec 32 := 1#32
  let arg12 : BitVec 32 := Scf.iv c0_i32_82 c1_i32_83 k0_t1
  let c2_i32_173 : BitVec 32 := 2#32
  let v379 : BitVec 32 := Scalar.muli arg12 c2_i32_173
  let c0_i32_348 : BitVec 32 := 0#32
  let v684 : BitVec 1 := Scalar.cmpi .sgt v379 c0_i32_348
  let v685 : BitVec 32 := Scalar.extui v684
  let c0_i32_349 : BitVec 32 := 0#32
  let v686 : BitVec 1 := Scalar.cmpi .ne v685 c0_i32_349
  v686

def k0_off119 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c84_i32 : BitVec 32 := 84#32
  let v2 : BitVec 32 := Scalar.muli v1 c84_i32
  let c0_i32_82 : BitVec 32 := 0#32
  let c1_i32_83 : BitVec 32 := 1#32
  let arg12 : BitVec 32 := Scf.iv c0_i32_82 c1_i32_83 k0_t1
  let c2_i32_173 : BitVec 32 := 2#32
  let v379 : BitVec 32 := Scalar.muli arg12 c2_i32_173
  let c1_i32_303 : BitVec 32 := 1#32
  let v590 : BitVec 32 := Scalar.addi v379 c1_i32_303
  let c2_i32_437 : BitVec 32 := 2#32
  let v800 : BitVec 32 := Scalar.subi v590 c2_i32_437
  let v801 : BitVec 32 := Scalar.addi v2 v800
  let c0_i32_439 : BitVec 32 := 0#32
  let v803 : BitVec 1 := Scalar.cmpi .sgt v801 c0_i32_439
  let v804 : BitVec 32 := Scalar.extui v803
  let c0_i32_440 : BitVec 32 := 0#32
  let v805 : BitVec 1 := Scalar.cmpi .slt v801 c0_i32_440
  let v806 : BitVec 32 := Scalar.extui v805
  let v807 : BitVec 32 := Scalar.subi v804 v806
  let c672_i32_438 : BitVec 32 := 672#32
  let c0_i32_441 : BitVec 32 := 0#32
  let v808 : BitVec 1 := Scalar.cmpi .sgt c672_i32_438 c0_i32_441
  let v809 : BitVec 32 := Scalar.extui v808
  let c0_i32_442 : BitVec 32 := 0#32
  let v810 : BitVec 1 := Scalar.cmpi .slt c672_i32_438 c0_i32_442
  let v811 : BitVec 32 := Scalar.extui v810
  let v812 : BitVec 32 := Scalar.subi v809 v811
  let v813 : BitVec 1 := Scalar.cmpi .ne v807 v812
  let v814 : BitVec 32 := Scalar.remsi v801 c672_i32_438
  let c0_i32_443 : BitVec 32 := 0#32
  let v815 : BitVec 1 := Scalar.cmpi .ne v814 c0_i32_443
  let v816 : BitVec 1 := Scalar.andi v813 v815
  let v802 : BitVec 32 := Scalar.divsi v801 c672_i32_438
  let c1_i32_444 : BitVec 32 := 1#32
  let v817 : BitVec 32 := Scalar.subi v802 c1_i32_444
  let v818 : BitVec 32 := Scalar.select v816 v817 v802
  let c8_i32_477 : BitVec 32 := 8#32
  let c672_i32_445 : BitVec 32 := 672#32
  let c0_i32_446 : BitVec 32 := 0#32
  let v819 : BitVec 1 := Scalar.cmpi .eq c672_i32_445 c0_i32_446
  let c1_i32_447 : BitVec 32 := 1#32
  let v820 : BitVec 32 := Scalar.select v819 c1_i32_447 c672_i32_445
  let v821 : BitVec 32 := Scalar.remsi v801 v820
  let c0_i32_449 : BitVec 32 := 0#32
  let v823 : BitVec 1 := Scalar.cmpi .slt v821 c0_i32_449
  let c0_i32_450 : BitVec 32 := 0#32
  let v824 : BitVec 1 := Scalar.cmpi .slt v820 c0_i32_450
  let v825 : BitVec 1 := Scalar.xori v823 v824
  let c0_i32_448 : BitVec 32 := 0#32
  let v822 : BitVec 1 := Scalar.cmpi .ne v821 c0_i32_448
  let v826 : BitVec 1 := Scalar.andi v825 v822
  let v827 : BitVec 32 := Scalar.addi v821 v820
  let v828 : BitVec 32 := Scalar.select v826 v827 v821
  let c0_i32_452 : BitVec 32 := 0#32
  let v830 : BitVec 1 := Scalar.cmpi .sgt v828 c0_i32_452
  let v831 : BitVec 32 := Scalar.extui v830
  let c0_i32_453 : BitVec 32 := 0#32
  let v832 : BitVec 1 := Scalar.cmpi .slt v828 c0_i32_453
  let v833 : BitVec 32 := Scalar.extui v832
  let v834 : BitVec 32 := Scalar.subi v831 v833
  let c28_i32_451 : BitVec 32 := 28#32
  let c0_i32_454 : BitVec 32 := 0#32
  let v835 : BitVec 1 := Scalar.cmpi .sgt c28_i32_451 c0_i32_454
  let v836 : BitVec 32 := Scalar.extui v835
  let c0_i32_455 : BitVec 32 := 0#32
  let v837 : BitVec 1 := Scalar.cmpi .slt c28_i32_451 c0_i32_455
  let v838 : BitVec 32 := Scalar.extui v837
  let v839 : BitVec 32 := Scalar.subi v836 v838
  let v840 : BitVec 1 := Scalar.cmpi .ne v834 v839
  let v841 : BitVec 32 := Scalar.remsi v828 c28_i32_451
  let c0_i32_456 : BitVec 32 := 0#32
  let v842 : BitVec 1 := Scalar.cmpi .ne v841 c0_i32_456
  let v843 : BitVec 1 := Scalar.andi v840 v842
  let v829 : BitVec 32 := Scalar.divsi v828 c28_i32_451
  let c1_i32_457 : BitVec 32 := 1#32
  let v844 : BitVec 32 := Scalar.subi v829 c1_i32_457
  let v845 : BitVec 32 := Scalar.select v843 v844 v829
  let v883 : BitVec 32 := Scalar.muli c8_i32_477 v845
  let c25088_i32_480 : BitVec 32 := 25088#32
  let c28_i32_458 : BitVec 32 := 28#32
  let c0_i32_459 : BitVec 32 := 0#32
  let v846 : BitVec 1 := Scalar.cmpi .eq c28_i32_458 c0_i32_459
  let c1_i32_460 : BitVec 32 := 1#32
  let v847 : BitVec 32 := Scalar.select v846 c1_i32_460 c28_i32_458
  let v848 : BitVec 32 := Scalar.remsi v828 v847
  let c0_i32_462 : BitVec 32 := 0#32
  let v850 : BitVec 1 := Scalar.cmpi .slt v848 c0_i32_462
  let c0_i32_463 : BitVec 32 := 0#32
  let v851 : BitVec 1 := Scalar.cmpi .slt v847 c0_i32_463
  let v852 : BitVec 1 := Scalar.xori v850 v851
  let c0_i32_461 : BitVec 32 := 0#32
  let v849 : BitVec 1 := Scalar.cmpi .ne v848 c0_i32_461
  let v853 : BitVec 1 := Scalar.andi v852 v849
  let v854 : BitVec 32 := Scalar.addi v848 v847
  let v855 : BitVec 32 := Scalar.select v853 v854 v848
  let c0_i32_465 : BitVec 32 := 0#32
  let v857 : BitVec 1 := Scalar.cmpi .sgt v855 c0_i32_465
  let v858 : BitVec 32 := Scalar.extui v857
  let c0_i32_466 : BitVec 32 := 0#32
  let v859 : BitVec 1 := Scalar.cmpi .slt v855 c0_i32_466
  let v860 : BitVec 32 := Scalar.extui v859
  let v861 : BitVec 32 := Scalar.subi v858 v860
  let c7_i32_464 : BitVec 32 := 7#32
  let c0_i32_467 : BitVec 32 := 0#32
  let v862 : BitVec 1 := Scalar.cmpi .sgt c7_i32_464 c0_i32_467
  let v863 : BitVec 32 := Scalar.extui v862
  let c0_i32_468 : BitVec 32 := 0#32
  let v864 : BitVec 1 := Scalar.cmpi .slt c7_i32_464 c0_i32_468
  let v865 : BitVec 32 := Scalar.extui v864
  let v866 : BitVec 32 := Scalar.subi v863 v865
  let v867 : BitVec 1 := Scalar.cmpi .ne v861 v866
  let v868 : BitVec 32 := Scalar.remsi v855 c7_i32_464
  let c0_i32_469 : BitVec 32 := 0#32
  let v869 : BitVec 1 := Scalar.cmpi .ne v868 c0_i32_469
  let v870 : BitVec 1 := Scalar.andi v867 v869
  let v856 : BitVec 32 := Scalar.divsi v855 c7_i32_464
  let c1_i32_470 : BitVec 32 := 1#32
  let v871 : BitVec 32 := Scalar.subi v856 c1_i32_470
  let v872 : BitVec 32 := Scalar.select v870 v871 v856
  let v887 : BitVec 32 := Scalar.muli c25088_i32_480 v872
  let c3584_i32_481 : BitVec 32 := 3584#32
  let c7_i32_471 : BitVec 32 := 7#32
  let c0_i32_472 : BitVec 32 := 0#32
  let v873 : BitVec 1 := Scalar.cmpi .eq c7_i32_471 c0_i32_472
  let c1_i32_473 : BitVec 32 := 1#32
  let v874 : BitVec 32 := Scalar.select v873 c1_i32_473 c7_i32_471
  let v875 : BitVec 32 := Scalar.remsi v855 v874
  let c0_i32_475 : BitVec 32 := 0#32
  let v877 : BitVec 1 := Scalar.cmpi .slt v875 c0_i32_475
  let c0_i32_476 : BitVec 32 := 0#32
  let v878 : BitVec 1 := Scalar.cmpi .slt v874 c0_i32_476
  let v879 : BitVec 1 := Scalar.xori v877 v878
  let c0_i32_474 : BitVec 32 := 0#32
  let v876 : BitVec 1 := Scalar.cmpi .ne v875 c0_i32_474
  let v880 : BitVec 1 := Scalar.andi v879 v876
  let v881 : BitVec 32 := Scalar.addi v875 v874
  let v882 : BitVec 32 := Scalar.select v880 v881 v875
  let v888 : BitVec 32 := Scalar.muli c3584_i32_481 v882
  let v889 : BitVec 32 := Scalar.addi v887 v888
  ![v818.toNat, v883.toNat, v889.toNat]
@[reducible] def k0_t10_loop : Scf.Loop 32 :=
  let c0_i32_351 : BitVec 32 := 0#32
  let c16_i32_352 : BitVec 32 := 16#32
  let v688 : BitVec 32 := Scalar.addi c0_i32_351 c16_i32_352
  let c1_i32_353 : BitVec 32 := 1#32
  ⟨c0_i32_351, v688, c1_i32_353⟩

def k0_chk57 (v687 : IVec S16 32) (v806 : IVec S16 32) : Prop :=
  (∀ a x, ((![v687, v806] : Fin 2 → IVec S16 32) a x).toNat < S8x896.size a)
theorem k0_idx57_inb : ∀ (v687 : IVec S16 32) (v806 : IVec S16 32) (k0_hw57 : k0_chk57 v687 v806), ∀ a x, ((![v687, v806] : Fin 2 → IVec S16 32) a x).toNat < S8x896.size a := fun v687 v806 k0_hw57 => k0_hw57
def k0_off120 (k0_t10 : Fin k0_t10_loop.trips) : Fin 2 → Nat :=
  let c0_i32_441 : BitVec 32 := 0#32
  let v809 : Index := Scalar.indexCast c0_i32_441
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![0, v810.toNat]
def k0_off121 (k0_t10 : Fin k0_t10_loop.trips) : Fin 2 → Nat :=
  let c0_i32_443 : BitVec 32 := 0#32
  let v814 : Index := Scalar.indexCast c0_i32_443
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![0, v815.toNat]

def k0_chk58 (v687 : IVec S16 32) (v820 : IVec S16 32) : Prop :=
  (∀ a x, ((![v687, v820] : Fin 2 → IVec S16 32) a x).toNat < S8x896.size a)
theorem k0_idx58_inb : ∀ (v687 : IVec S16 32) (v820 : IVec S16 32) (k0_hw58 : k0_chk58 v687 v820), ∀ a x, ((![v687, v820] : Fin 2 → IVec S16 32) a x).toNat < S8x896.size a := fun v687 v820 k0_hw58 => k0_hw58
def k0_off122 (k0_t10 : Fin k0_t10_loop.trips) : Fin 2 → Nat :=
  let c0_i32_447 : BitVec 32 := 0#32
  let v823 : Index := Scalar.indexCast c0_i32_447
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![0, v824.toNat]
def k0_off123 (k0_t10 : Fin k0_t10_loop.trips) : Fin 2 → Nat :=
  let c0_i32_450 : BitVec 32 := 0#32
  let v828 : Index := Scalar.indexCast c0_i32_450
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![0, v829.toNat]

def k0_chk59 (v687 : IVec S16 32) (v834 : IVec S16 32) : Prop :=
  (∀ a x, ((![v687, v834] : Fin 2 → IVec S16 32) a x).toNat < S8x896.size a)
theorem k0_idx59_inb : ∀ (v687 : IVec S16 32) (v834 : IVec S16 32) (k0_hw59 : k0_chk59 v687 v834), ∀ a x, ((![v687, v834] : Fin 2 → IVec S16 32) a x).toNat < S8x896.size a := fun v687 v834 k0_hw59 => k0_hw59
def k0_off124 (k0_t10 : Fin k0_t10_loop.trips) : Fin 2 → Nat :=
  let c0_i32_453 : BitVec 32 := 0#32
  let v837 : Index := Scalar.indexCast c0_i32_453
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![0, v838.toNat]
def k0_off125 (k0_t10 : Fin k0_t10_loop.trips) : Fin 2 → Nat :=
  let c0_i32_456 : BitVec 32 := 0#32
  let v842 : Index := Scalar.indexCast c0_i32_456
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![0, v843.toNat]

def k0_chk60 (v687 : IVec S16 32) (v848 : IVec S16 32) : Prop :=
  (∀ a x, ((![v687, v848] : Fin 2 → IVec S16 32) a x).toNat < S8x896.size a)
theorem k0_idx60_inb : ∀ (v687 : IVec S16 32) (v848 : IVec S16 32) (k0_hw60 : k0_chk60 v687 v848), ∀ a x, ((![v687, v848] : Fin 2 → IVec S16 32) a x).toNat < S8x896.size a := fun v687 v848 k0_hw60 => k0_hw60
def k0_off126 (k0_t10 : Fin k0_t10_loop.trips) : Fin 2 → Nat :=
  let c0_i32_458 : BitVec 32 := 0#32
  let v851 : Index := Scalar.indexCast c0_i32_458
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![0, v852.toNat]
def k0_off127 (k0_t10 : Fin k0_t10_loop.trips) : Fin 2 → Nat :=
  let c0_i32_461 : BitVec 32 := 0#32
  let v856 : Index := Scalar.indexCast c0_i32_461
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![0, v857.toNat]

def k0_chk61 (v687 : IVec S16 32) (v862 : IVec S16 32) : Prop :=
  (∀ a x, ((![v687, v862] : Fin 2 → IVec S16 32) a x).toNat < S8x896.size a)
theorem k0_idx61_inb : ∀ (v687 : IVec S16 32) (v862 : IVec S16 32) (k0_hw61 : k0_chk61 v687 v862), ∀ a x, ((![v687, v862] : Fin 2 → IVec S16 32) a x).toNat < S8x896.size a := fun v687 v862 k0_hw61 => k0_hw61
def k0_off128 (k0_t10 : Fin k0_t10_loop.trips) : Fin 2 → Nat :=
  let c0_i32_464 : BitVec 32 := 0#32
  let v865 : Index := Scalar.indexCast c0_i32_464
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![0, v866.toNat]
def k0_off129 (k0_t10 : Fin k0_t10_loop.trips) : Fin 2 → Nat :=
  let c0_i32_467 : BitVec 32 := 0#32
  let v870 : Index := Scalar.indexCast c0_i32_467
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![0, v871.toNat]

def k0_chk62 (v687 : IVec S16 32) (v876 : IVec S16 32) : Prop :=
  (∀ a x, ((![v687, v876] : Fin 2 → IVec S16 32) a x).toNat < S8x896.size a)
theorem k0_idx62_inb : ∀ (v687 : IVec S16 32) (v876 : IVec S16 32) (k0_hw62 : k0_chk62 v687 v876), ∀ a x, ((![v687, v876] : Fin 2 → IVec S16 32) a x).toNat < S8x896.size a := fun v687 v876 k0_hw62 => k0_hw62
def k0_off130 (k0_t10 : Fin k0_t10_loop.trips) : Fin 2 → Nat :=
  let c0_i32_469 : BitVec 32 := 0#32
  let v879 : Index := Scalar.indexCast c0_i32_469
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![0, v880.toNat]
def k0_off131 (k0_t10 : Fin k0_t10_loop.trips) : Fin 2 → Nat :=
  let c0_i32_472 : BitVec 32 := 0#32
  let v884 : Index := Scalar.indexCast c0_i32_472
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![0, v885.toNat]

def k0_chk63 (v687 : IVec S16 32) (v890 : IVec S16 32) : Prop :=
  (∀ a x, ((![v687, v890] : Fin 2 → IVec S16 32) a x).toNat < S8x896.size a)
theorem k0_idx63_inb : ∀ (v687 : IVec S16 32) (v890 : IVec S16 32) (k0_hw63 : k0_chk63 v687 v890), ∀ a x, ((![v687, v890] : Fin 2 → IVec S16 32) a x).toNat < S8x896.size a := fun v687 v890 k0_hw63 => k0_hw63
def k0_off132 (k0_t10 : Fin k0_t10_loop.trips) : Fin 2 → Nat :=
  let c0_i32_475 : BitVec 32 := 0#32
  let v893 : Index := Scalar.indexCast c0_i32_475
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![0, v894.toNat]
def k0_off133 (k0_t10 : Fin k0_t10_loop.trips) : Fin 2 → Nat :=
  let c0_i32_478 : BitVec 32 := 0#32
  let v898 : Index := Scalar.indexCast c0_i32_478
  let c224_i32 : BitVec 32 := 224#32
  let c0_i32_438 : BitVec 32 := 0#32
  let c0_i32_351 : BitVec 32 := 0#32
  let c1_i32_353 : BitVec 32 := 1#32
  let arg13 : BitVec 32 := Scf.iv c0_i32_351 c1_i32_353 k0_t10
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![0, v899.toNat]
@[reducible] def k0_t11_loop : Scf.Loop 32 :=
  let c0_i32_356 : BitVec 32 := 0#32
  let c16_i32_357 : BitVec 32 := 16#32
  let v690 : BitVec 32 := Scalar.addi c0_i32_356 c16_i32_357
  let c1_i32_358 : BitVec 32 := 1#32
  ⟨c0_i32_356, v690, c1_i32_358⟩

def k0_chk64 (v689 : IVec S16 32) (v806 : IVec S16 32) : Prop :=
  (∀ a x, ((![v689, v806] : Fin 2 → IVec S16 32) a x).toNat < S8x896.size a)
theorem k0_idx64_inb : ∀ (v689 : IVec S16 32) (v806 : IVec S16 32) (k0_hw64 : k0_chk64 v689 v806), ∀ a x, ((![v689, v806] : Fin 2 → IVec S16 32) a x).toNat < S8x896.size a := fun v689 v806 k0_hw64 => k0_hw64
def k0_off134 (k0_t11 : Fin k0_t11_loop.trips) : Fin 2 → Nat :=
  let c1_i32_441 : BitVec 32 := 1#32
  let v809 : Index := Scalar.indexCast c1_i32_441
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![1, v810.toNat]
def k0_off135 (k0_t11 : Fin k0_t11_loop.trips) : Fin 2 → Nat :=
  let c1_i32_443 : BitVec 32 := 1#32
  let v814 : Index := Scalar.indexCast c1_i32_443
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![1, v815.toNat]

def k0_chk65 (v689 : IVec S16 32) (v820 : IVec S16 32) : Prop :=
  (∀ a x, ((![v689, v820] : Fin 2 → IVec S16 32) a x).toNat < S8x896.size a)
theorem k0_idx65_inb : ∀ (v689 : IVec S16 32) (v820 : IVec S16 32) (k0_hw65 : k0_chk65 v689 v820), ∀ a x, ((![v689, v820] : Fin 2 → IVec S16 32) a x).toNat < S8x896.size a := fun v689 v820 k0_hw65 => k0_hw65
def k0_off136 (k0_t11 : Fin k0_t11_loop.trips) : Fin 2 → Nat :=
  let c1_i32_447 : BitVec 32 := 1#32
  let v823 : Index := Scalar.indexCast c1_i32_447
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![1, v824.toNat]
def k0_off137 (k0_t11 : Fin k0_t11_loop.trips) : Fin 2 → Nat :=
  let c1_i32_450 : BitVec 32 := 1#32
  let v828 : Index := Scalar.indexCast c1_i32_450
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![1, v829.toNat]

def k0_chk66 (v689 : IVec S16 32) (v834 : IVec S16 32) : Prop :=
  (∀ a x, ((![v689, v834] : Fin 2 → IVec S16 32) a x).toNat < S8x896.size a)
theorem k0_idx66_inb : ∀ (v689 : IVec S16 32) (v834 : IVec S16 32) (k0_hw66 : k0_chk66 v689 v834), ∀ a x, ((![v689, v834] : Fin 2 → IVec S16 32) a x).toNat < S8x896.size a := fun v689 v834 k0_hw66 => k0_hw66
def k0_off138 (k0_t11 : Fin k0_t11_loop.trips) : Fin 2 → Nat :=
  let c1_i32_453 : BitVec 32 := 1#32
  let v837 : Index := Scalar.indexCast c1_i32_453
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![1, v838.toNat]
def k0_off139 (k0_t11 : Fin k0_t11_loop.trips) : Fin 2 → Nat :=
  let c1_i32_456 : BitVec 32 := 1#32
  let v842 : Index := Scalar.indexCast c1_i32_456
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![1, v843.toNat]

def k0_chk67 (v689 : IVec S16 32) (v848 : IVec S16 32) : Prop :=
  (∀ a x, ((![v689, v848] : Fin 2 → IVec S16 32) a x).toNat < S8x896.size a)
theorem k0_idx67_inb : ∀ (v689 : IVec S16 32) (v848 : IVec S16 32) (k0_hw67 : k0_chk67 v689 v848), ∀ a x, ((![v689, v848] : Fin 2 → IVec S16 32) a x).toNat < S8x896.size a := fun v689 v848 k0_hw67 => k0_hw67
def k0_off140 (k0_t11 : Fin k0_t11_loop.trips) : Fin 2 → Nat :=
  let c1_i32_458 : BitVec 32 := 1#32
  let v851 : Index := Scalar.indexCast c1_i32_458
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![1, v852.toNat]
def k0_off141 (k0_t11 : Fin k0_t11_loop.trips) : Fin 2 → Nat :=
  let c1_i32_461 : BitVec 32 := 1#32
  let v856 : Index := Scalar.indexCast c1_i32_461
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![1, v857.toNat]

def k0_chk68 (v689 : IVec S16 32) (v862 : IVec S16 32) : Prop :=
  (∀ a x, ((![v689, v862] : Fin 2 → IVec S16 32) a x).toNat < S8x896.size a)
theorem k0_idx68_inb : ∀ (v689 : IVec S16 32) (v862 : IVec S16 32) (k0_hw68 : k0_chk68 v689 v862), ∀ a x, ((![v689, v862] : Fin 2 → IVec S16 32) a x).toNat < S8x896.size a := fun v689 v862 k0_hw68 => k0_hw68
def k0_off142 (k0_t11 : Fin k0_t11_loop.trips) : Fin 2 → Nat :=
  let c1_i32_464 : BitVec 32 := 1#32
  let v865 : Index := Scalar.indexCast c1_i32_464
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![1, v866.toNat]
def k0_off143 (k0_t11 : Fin k0_t11_loop.trips) : Fin 2 → Nat :=
  let c1_i32_467 : BitVec 32 := 1#32
  let v870 : Index := Scalar.indexCast c1_i32_467
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![1, v871.toNat]

def k0_chk69 (v689 : IVec S16 32) (v876 : IVec S16 32) : Prop :=
  (∀ a x, ((![v689, v876] : Fin 2 → IVec S16 32) a x).toNat < S8x896.size a)
theorem k0_idx69_inb : ∀ (v689 : IVec S16 32) (v876 : IVec S16 32) (k0_hw69 : k0_chk69 v689 v876), ∀ a x, ((![v689, v876] : Fin 2 → IVec S16 32) a x).toNat < S8x896.size a := fun v689 v876 k0_hw69 => k0_hw69
def k0_off144 (k0_t11 : Fin k0_t11_loop.trips) : Fin 2 → Nat :=
  let c1_i32_469 : BitVec 32 := 1#32
  let v879 : Index := Scalar.indexCast c1_i32_469
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![1, v880.toNat]
def k0_off145 (k0_t11 : Fin k0_t11_loop.trips) : Fin 2 → Nat :=
  let c1_i32_472 : BitVec 32 := 1#32
  let v884 : Index := Scalar.indexCast c1_i32_472
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![1, v885.toNat]

def k0_chk70 (v689 : IVec S16 32) (v890 : IVec S16 32) : Prop :=
  (∀ a x, ((![v689, v890] : Fin 2 → IVec S16 32) a x).toNat < S8x896.size a)
theorem k0_idx70_inb : ∀ (v689 : IVec S16 32) (v890 : IVec S16 32) (k0_hw70 : k0_chk70 v689 v890), ∀ a x, ((![v689, v890] : Fin 2 → IVec S16 32) a x).toNat < S8x896.size a := fun v689 v890 k0_hw70 => k0_hw70
def k0_off146 (k0_t11 : Fin k0_t11_loop.trips) : Fin 2 → Nat :=
  let c1_i32_475 : BitVec 32 := 1#32
  let v893 : Index := Scalar.indexCast c1_i32_475
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![1, v894.toNat]
def k0_off147 (k0_t11 : Fin k0_t11_loop.trips) : Fin 2 → Nat :=
  let c1_i32_478 : BitVec 32 := 1#32
  let v898 : Index := Scalar.indexCast c1_i32_478
  let c224_i32 : BitVec 32 := 224#32
  let c0_i32_438 : BitVec 32 := 0#32
  let c0_i32_356 : BitVec 32 := 0#32
  let c1_i32_358 : BitVec 32 := 1#32
  let arg13 : BitVec 32 := Scf.iv c0_i32_356 c1_i32_358 k0_t11
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![1, v899.toNat]
@[reducible] def k0_t12_loop : Scf.Loop 32 :=
  let c0_i32_361 : BitVec 32 := 0#32
  let c16_i32_362 : BitVec 32 := 16#32
  let v692 : BitVec 32 := Scalar.addi c0_i32_361 c16_i32_362
  let c1_i32_363 : BitVec 32 := 1#32
  ⟨c0_i32_361, v692, c1_i32_363⟩

def k0_chk71 (v691 : IVec S16 32) (v806 : IVec S16 32) : Prop :=
  (∀ a x, ((![v691, v806] : Fin 2 → IVec S16 32) a x).toNat < S8x896.size a)
theorem k0_idx71_inb : ∀ (v691 : IVec S16 32) (v806 : IVec S16 32) (k0_hw71 : k0_chk71 v691 v806), ∀ a x, ((![v691, v806] : Fin 2 → IVec S16 32) a x).toNat < S8x896.size a := fun v691 v806 k0_hw71 => k0_hw71
def k0_off148 (k0_t12 : Fin k0_t12_loop.trips) : Fin 2 → Nat :=
  let c2_i32_441 : BitVec 32 := 2#32
  let v809 : Index := Scalar.indexCast c2_i32_441
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![2, v810.toNat]
def k0_off149 (k0_t12 : Fin k0_t12_loop.trips) : Fin 2 → Nat :=
  let c2_i32_443 : BitVec 32 := 2#32
  let v814 : Index := Scalar.indexCast c2_i32_443
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![2, v815.toNat]

def k0_chk72 (v691 : IVec S16 32) (v820 : IVec S16 32) : Prop :=
  (∀ a x, ((![v691, v820] : Fin 2 → IVec S16 32) a x).toNat < S8x896.size a)
theorem k0_idx72_inb : ∀ (v691 : IVec S16 32) (v820 : IVec S16 32) (k0_hw72 : k0_chk72 v691 v820), ∀ a x, ((![v691, v820] : Fin 2 → IVec S16 32) a x).toNat < S8x896.size a := fun v691 v820 k0_hw72 => k0_hw72
def k0_off150 (k0_t12 : Fin k0_t12_loop.trips) : Fin 2 → Nat :=
  let c2_i32_447 : BitVec 32 := 2#32
  let v823 : Index := Scalar.indexCast c2_i32_447
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![2, v824.toNat]
def k0_off151 (k0_t12 : Fin k0_t12_loop.trips) : Fin 2 → Nat :=
  let c2_i32_450 : BitVec 32 := 2#32
  let v828 : Index := Scalar.indexCast c2_i32_450
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![2, v829.toNat]

def k0_chk73 (v691 : IVec S16 32) (v834 : IVec S16 32) : Prop :=
  (∀ a x, ((![v691, v834] : Fin 2 → IVec S16 32) a x).toNat < S8x896.size a)
theorem k0_idx73_inb : ∀ (v691 : IVec S16 32) (v834 : IVec S16 32) (k0_hw73 : k0_chk73 v691 v834), ∀ a x, ((![v691, v834] : Fin 2 → IVec S16 32) a x).toNat < S8x896.size a := fun v691 v834 k0_hw73 => k0_hw73
def k0_off152 (k0_t12 : Fin k0_t12_loop.trips) : Fin 2 → Nat :=
  let c2_i32_453 : BitVec 32 := 2#32
  let v837 : Index := Scalar.indexCast c2_i32_453
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![2, v838.toNat]
def k0_off153 (k0_t12 : Fin k0_t12_loop.trips) : Fin 2 → Nat :=
  let c2_i32_456 : BitVec 32 := 2#32
  let v842 : Index := Scalar.indexCast c2_i32_456
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![2, v843.toNat]

def k0_chk74 (v691 : IVec S16 32) (v848 : IVec S16 32) : Prop :=
  (∀ a x, ((![v691, v848] : Fin 2 → IVec S16 32) a x).toNat < S8x896.size a)
theorem k0_idx74_inb : ∀ (v691 : IVec S16 32) (v848 : IVec S16 32) (k0_hw74 : k0_chk74 v691 v848), ∀ a x, ((![v691, v848] : Fin 2 → IVec S16 32) a x).toNat < S8x896.size a := fun v691 v848 k0_hw74 => k0_hw74
def k0_off154 (k0_t12 : Fin k0_t12_loop.trips) : Fin 2 → Nat :=
  let c2_i32_458 : BitVec 32 := 2#32
  let v851 : Index := Scalar.indexCast c2_i32_458
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![2, v852.toNat]
def k0_off155 (k0_t12 : Fin k0_t12_loop.trips) : Fin 2 → Nat :=
  let c2_i32_461 : BitVec 32 := 2#32
  let v856 : Index := Scalar.indexCast c2_i32_461
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![2, v857.toNat]

def k0_chk75 (v691 : IVec S16 32) (v862 : IVec S16 32) : Prop :=
  (∀ a x, ((![v691, v862] : Fin 2 → IVec S16 32) a x).toNat < S8x896.size a)
theorem k0_idx75_inb : ∀ (v691 : IVec S16 32) (v862 : IVec S16 32) (k0_hw75 : k0_chk75 v691 v862), ∀ a x, ((![v691, v862] : Fin 2 → IVec S16 32) a x).toNat < S8x896.size a := fun v691 v862 k0_hw75 => k0_hw75
def k0_off156 (k0_t12 : Fin k0_t12_loop.trips) : Fin 2 → Nat :=
  let c2_i32_464 : BitVec 32 := 2#32
  let v865 : Index := Scalar.indexCast c2_i32_464
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![2, v866.toNat]
def k0_off157 (k0_t12 : Fin k0_t12_loop.trips) : Fin 2 → Nat :=
  let c2_i32_467 : BitVec 32 := 2#32
  let v870 : Index := Scalar.indexCast c2_i32_467
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![2, v871.toNat]

def k0_chk76 (v691 : IVec S16 32) (v876 : IVec S16 32) : Prop :=
  (∀ a x, ((![v691, v876] : Fin 2 → IVec S16 32) a x).toNat < S8x896.size a)
theorem k0_idx76_inb : ∀ (v691 : IVec S16 32) (v876 : IVec S16 32) (k0_hw76 : k0_chk76 v691 v876), ∀ a x, ((![v691, v876] : Fin 2 → IVec S16 32) a x).toNat < S8x896.size a := fun v691 v876 k0_hw76 => k0_hw76
def k0_off158 (k0_t12 : Fin k0_t12_loop.trips) : Fin 2 → Nat :=
  let c2_i32_469 : BitVec 32 := 2#32
  let v879 : Index := Scalar.indexCast c2_i32_469
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![2, v880.toNat]
def k0_off159 (k0_t12 : Fin k0_t12_loop.trips) : Fin 2 → Nat :=
  let c2_i32_472 : BitVec 32 := 2#32
  let v884 : Index := Scalar.indexCast c2_i32_472
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![2, v885.toNat]

def k0_chk77 (v691 : IVec S16 32) (v890 : IVec S16 32) : Prop :=
  (∀ a x, ((![v691, v890] : Fin 2 → IVec S16 32) a x).toNat < S8x896.size a)
theorem k0_idx77_inb : ∀ (v691 : IVec S16 32) (v890 : IVec S16 32) (k0_hw77 : k0_chk77 v691 v890), ∀ a x, ((![v691, v890] : Fin 2 → IVec S16 32) a x).toNat < S8x896.size a := fun v691 v890 k0_hw77 => k0_hw77
def k0_off160 (k0_t12 : Fin k0_t12_loop.trips) : Fin 2 → Nat :=
  let c2_i32_475 : BitVec 32 := 2#32
  let v893 : Index := Scalar.indexCast c2_i32_475
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![2, v894.toNat]
def k0_off161 (k0_t12 : Fin k0_t12_loop.trips) : Fin 2 → Nat :=
  let c2_i32_478 : BitVec 32 := 2#32
  let v898 : Index := Scalar.indexCast c2_i32_478
  let c224_i32 : BitVec 32 := 224#32
  let c0_i32_438 : BitVec 32 := 0#32
  let c0_i32_361 : BitVec 32 := 0#32
  let c1_i32_363 : BitVec 32 := 1#32
  let arg13 : BitVec 32 := Scf.iv c0_i32_361 c1_i32_363 k0_t12
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![2, v899.toNat]
@[reducible] def k0_t13_loop : Scf.Loop 32 :=
  let c0_i32_366 : BitVec 32 := 0#32
  let c16_i32_367 : BitVec 32 := 16#32
  let v694 : BitVec 32 := Scalar.addi c0_i32_366 c16_i32_367
  let c1_i32_368 : BitVec 32 := 1#32
  ⟨c0_i32_366, v694, c1_i32_368⟩

def k0_chk78 (v693 : IVec S16 32) (v806 : IVec S16 32) : Prop :=
  (∀ a x, ((![v693, v806] : Fin 2 → IVec S16 32) a x).toNat < S8x896.size a)
theorem k0_idx78_inb : ∀ (v693 : IVec S16 32) (v806 : IVec S16 32) (k0_hw78 : k0_chk78 v693 v806), ∀ a x, ((![v693, v806] : Fin 2 → IVec S16 32) a x).toNat < S8x896.size a := fun v693 v806 k0_hw78 => k0_hw78
def k0_off162 (k0_t13 : Fin k0_t13_loop.trips) : Fin 2 → Nat :=
  let c3_i32_441 : BitVec 32 := 3#32
  let v809 : Index := Scalar.indexCast c3_i32_441
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![3, v810.toNat]
def k0_off163 (k0_t13 : Fin k0_t13_loop.trips) : Fin 2 → Nat :=
  let c3_i32_443 : BitVec 32 := 3#32
  let v814 : Index := Scalar.indexCast c3_i32_443
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![3, v815.toNat]

def k0_chk79 (v693 : IVec S16 32) (v820 : IVec S16 32) : Prop :=
  (∀ a x, ((![v693, v820] : Fin 2 → IVec S16 32) a x).toNat < S8x896.size a)
theorem k0_idx79_inb : ∀ (v693 : IVec S16 32) (v820 : IVec S16 32) (k0_hw79 : k0_chk79 v693 v820), ∀ a x, ((![v693, v820] : Fin 2 → IVec S16 32) a x).toNat < S8x896.size a := fun v693 v820 k0_hw79 => k0_hw79
def k0_off164 (k0_t13 : Fin k0_t13_loop.trips) : Fin 2 → Nat :=
  let c3_i32_447 : BitVec 32 := 3#32
  let v823 : Index := Scalar.indexCast c3_i32_447
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![3, v824.toNat]
def k0_off165 (k0_t13 : Fin k0_t13_loop.trips) : Fin 2 → Nat :=
  let c3_i32_450 : BitVec 32 := 3#32
  let v828 : Index := Scalar.indexCast c3_i32_450
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![3, v829.toNat]

def k0_chk80 (v693 : IVec S16 32) (v834 : IVec S16 32) : Prop :=
  (∀ a x, ((![v693, v834] : Fin 2 → IVec S16 32) a x).toNat < S8x896.size a)
theorem k0_idx80_inb : ∀ (v693 : IVec S16 32) (v834 : IVec S16 32) (k0_hw80 : k0_chk80 v693 v834), ∀ a x, ((![v693, v834] : Fin 2 → IVec S16 32) a x).toNat < S8x896.size a := fun v693 v834 k0_hw80 => k0_hw80
def k0_off166 (k0_t13 : Fin k0_t13_loop.trips) : Fin 2 → Nat :=
  let c3_i32_453 : BitVec 32 := 3#32
  let v837 : Index := Scalar.indexCast c3_i32_453
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![3, v838.toNat]
def k0_off167 (k0_t13 : Fin k0_t13_loop.trips) : Fin 2 → Nat :=
  let c3_i32_456 : BitVec 32 := 3#32
  let v842 : Index := Scalar.indexCast c3_i32_456
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![3, v843.toNat]

def k0_chk81 (v693 : IVec S16 32) (v848 : IVec S16 32) : Prop :=
  (∀ a x, ((![v693, v848] : Fin 2 → IVec S16 32) a x).toNat < S8x896.size a)
theorem k0_idx81_inb : ∀ (v693 : IVec S16 32) (v848 : IVec S16 32) (k0_hw81 : k0_chk81 v693 v848), ∀ a x, ((![v693, v848] : Fin 2 → IVec S16 32) a x).toNat < S8x896.size a := fun v693 v848 k0_hw81 => k0_hw81
def k0_off168 (k0_t13 : Fin k0_t13_loop.trips) : Fin 2 → Nat :=
  let c3_i32_458 : BitVec 32 := 3#32
  let v851 : Index := Scalar.indexCast c3_i32_458
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![3, v852.toNat]
def k0_off169 (k0_t13 : Fin k0_t13_loop.trips) : Fin 2 → Nat :=
  let c3_i32_461 : BitVec 32 := 3#32
  let v856 : Index := Scalar.indexCast c3_i32_461
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![3, v857.toNat]

def k0_chk82 (v693 : IVec S16 32) (v862 : IVec S16 32) : Prop :=
  (∀ a x, ((![v693, v862] : Fin 2 → IVec S16 32) a x).toNat < S8x896.size a)
theorem k0_idx82_inb : ∀ (v693 : IVec S16 32) (v862 : IVec S16 32) (k0_hw82 : k0_chk82 v693 v862), ∀ a x, ((![v693, v862] : Fin 2 → IVec S16 32) a x).toNat < S8x896.size a := fun v693 v862 k0_hw82 => k0_hw82
def k0_off170 (k0_t13 : Fin k0_t13_loop.trips) : Fin 2 → Nat :=
  let c3_i32_464 : BitVec 32 := 3#32
  let v865 : Index := Scalar.indexCast c3_i32_464
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![3, v866.toNat]
def k0_off171 (k0_t13 : Fin k0_t13_loop.trips) : Fin 2 → Nat :=
  let c3_i32_467 : BitVec 32 := 3#32
  let v870 : Index := Scalar.indexCast c3_i32_467
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![3, v871.toNat]

def k0_chk83 (v693 : IVec S16 32) (v876 : IVec S16 32) : Prop :=
  (∀ a x, ((![v693, v876] : Fin 2 → IVec S16 32) a x).toNat < S8x896.size a)
theorem k0_idx83_inb : ∀ (v693 : IVec S16 32) (v876 : IVec S16 32) (k0_hw83 : k0_chk83 v693 v876), ∀ a x, ((![v693, v876] : Fin 2 → IVec S16 32) a x).toNat < S8x896.size a := fun v693 v876 k0_hw83 => k0_hw83
def k0_off172 (k0_t13 : Fin k0_t13_loop.trips) : Fin 2 → Nat :=
  let c3_i32_469 : BitVec 32 := 3#32
  let v879 : Index := Scalar.indexCast c3_i32_469
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![3, v880.toNat]
def k0_off173 (k0_t13 : Fin k0_t13_loop.trips) : Fin 2 → Nat :=
  let c3_i32_472 : BitVec 32 := 3#32
  let v884 : Index := Scalar.indexCast c3_i32_472
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![3, v885.toNat]

def k0_chk84 (v693 : IVec S16 32) (v890 : IVec S16 32) : Prop :=
  (∀ a x, ((![v693, v890] : Fin 2 → IVec S16 32) a x).toNat < S8x896.size a)
theorem k0_idx84_inb : ∀ (v693 : IVec S16 32) (v890 : IVec S16 32) (k0_hw84 : k0_chk84 v693 v890), ∀ a x, ((![v693, v890] : Fin 2 → IVec S16 32) a x).toNat < S8x896.size a := fun v693 v890 k0_hw84 => k0_hw84
def k0_off174 (k0_t13 : Fin k0_t13_loop.trips) : Fin 2 → Nat :=
  let c3_i32_475 : BitVec 32 := 3#32
  let v893 : Index := Scalar.indexCast c3_i32_475
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![3, v894.toNat]
def k0_off175 (k0_t13 : Fin k0_t13_loop.trips) : Fin 2 → Nat :=
  let c3_i32_478 : BitVec 32 := 3#32
  let v898 : Index := Scalar.indexCast c3_i32_478
  let c224_i32 : BitVec 32 := 224#32
  let c0_i32_438 : BitVec 32 := 0#32
  let c0_i32_366 : BitVec 32 := 0#32
  let c1_i32_368 : BitVec 32 := 1#32
  let arg13 : BitVec 32 := Scf.iv c0_i32_366 c1_i32_368 k0_t13
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![3, v899.toNat]
@[reducible] def k0_t14_loop : Scf.Loop 32 :=
  let c0_i32_371 : BitVec 32 := 0#32
  let c16_i32_372 : BitVec 32 := 16#32
  let v696 : BitVec 32 := Scalar.addi c0_i32_371 c16_i32_372
  let c1_i32_373 : BitVec 32 := 1#32
  ⟨c0_i32_371, v696, c1_i32_373⟩

def k0_chk85 (v695 : IVec S16 32) (v806 : IVec S16 32) : Prop :=
  (∀ a x, ((![v695, v806] : Fin 2 → IVec S16 32) a x).toNat < S8x896.size a)
theorem k0_idx85_inb : ∀ (v695 : IVec S16 32) (v806 : IVec S16 32) (k0_hw85 : k0_chk85 v695 v806), ∀ a x, ((![v695, v806] : Fin 2 → IVec S16 32) a x).toNat < S8x896.size a := fun v695 v806 k0_hw85 => k0_hw85
def k0_off176 (k0_t14 : Fin k0_t14_loop.trips) : Fin 2 → Nat :=
  let c4_i32_441 : BitVec 32 := 4#32
  let v809 : Index := Scalar.indexCast c4_i32_441
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![4, v810.toNat]
def k0_off177 (k0_t14 : Fin k0_t14_loop.trips) : Fin 2 → Nat :=
  let c4_i32_443 : BitVec 32 := 4#32
  let v814 : Index := Scalar.indexCast c4_i32_443
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![4, v815.toNat]

def k0_chk86 (v695 : IVec S16 32) (v820 : IVec S16 32) : Prop :=
  (∀ a x, ((![v695, v820] : Fin 2 → IVec S16 32) a x).toNat < S8x896.size a)
theorem k0_idx86_inb : ∀ (v695 : IVec S16 32) (v820 : IVec S16 32) (k0_hw86 : k0_chk86 v695 v820), ∀ a x, ((![v695, v820] : Fin 2 → IVec S16 32) a x).toNat < S8x896.size a := fun v695 v820 k0_hw86 => k0_hw86
def k0_off178 (k0_t14 : Fin k0_t14_loop.trips) : Fin 2 → Nat :=
  let c4_i32_447 : BitVec 32 := 4#32
  let v823 : Index := Scalar.indexCast c4_i32_447
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![4, v824.toNat]
def k0_off179 (k0_t14 : Fin k0_t14_loop.trips) : Fin 2 → Nat :=
  let c4_i32_450 : BitVec 32 := 4#32
  let v828 : Index := Scalar.indexCast c4_i32_450
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![4, v829.toNat]

def k0_chk87 (v695 : IVec S16 32) (v834 : IVec S16 32) : Prop :=
  (∀ a x, ((![v695, v834] : Fin 2 → IVec S16 32) a x).toNat < S8x896.size a)
theorem k0_idx87_inb : ∀ (v695 : IVec S16 32) (v834 : IVec S16 32) (k0_hw87 : k0_chk87 v695 v834), ∀ a x, ((![v695, v834] : Fin 2 → IVec S16 32) a x).toNat < S8x896.size a := fun v695 v834 k0_hw87 => k0_hw87
def k0_off180 (k0_t14 : Fin k0_t14_loop.trips) : Fin 2 → Nat :=
  let c4_i32_453 : BitVec 32 := 4#32
  let v837 : Index := Scalar.indexCast c4_i32_453
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![4, v838.toNat]
def k0_off181 (k0_t14 : Fin k0_t14_loop.trips) : Fin 2 → Nat :=
  let c4_i32_456 : BitVec 32 := 4#32
  let v842 : Index := Scalar.indexCast c4_i32_456
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![4, v843.toNat]

def k0_chk88 (v695 : IVec S16 32) (v848 : IVec S16 32) : Prop :=
  (∀ a x, ((![v695, v848] : Fin 2 → IVec S16 32) a x).toNat < S8x896.size a)
theorem k0_idx88_inb : ∀ (v695 : IVec S16 32) (v848 : IVec S16 32) (k0_hw88 : k0_chk88 v695 v848), ∀ a x, ((![v695, v848] : Fin 2 → IVec S16 32) a x).toNat < S8x896.size a := fun v695 v848 k0_hw88 => k0_hw88
def k0_off182 (k0_t14 : Fin k0_t14_loop.trips) : Fin 2 → Nat :=
  let c4_i32_458 : BitVec 32 := 4#32
  let v851 : Index := Scalar.indexCast c4_i32_458
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![4, v852.toNat]
def k0_off183 (k0_t14 : Fin k0_t14_loop.trips) : Fin 2 → Nat :=
  let c4_i32_461 : BitVec 32 := 4#32
  let v856 : Index := Scalar.indexCast c4_i32_461
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![4, v857.toNat]

def k0_chk89 (v695 : IVec S16 32) (v862 : IVec S16 32) : Prop :=
  (∀ a x, ((![v695, v862] : Fin 2 → IVec S16 32) a x).toNat < S8x896.size a)
theorem k0_idx89_inb : ∀ (v695 : IVec S16 32) (v862 : IVec S16 32) (k0_hw89 : k0_chk89 v695 v862), ∀ a x, ((![v695, v862] : Fin 2 → IVec S16 32) a x).toNat < S8x896.size a := fun v695 v862 k0_hw89 => k0_hw89
def k0_off184 (k0_t14 : Fin k0_t14_loop.trips) : Fin 2 → Nat :=
  let c4_i32_464 : BitVec 32 := 4#32
  let v865 : Index := Scalar.indexCast c4_i32_464
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![4, v866.toNat]
def k0_off185 (k0_t14 : Fin k0_t14_loop.trips) : Fin 2 → Nat :=
  let c4_i32_467 : BitVec 32 := 4#32
  let v870 : Index := Scalar.indexCast c4_i32_467
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![4, v871.toNat]

def k0_chk90 (v695 : IVec S16 32) (v876 : IVec S16 32) : Prop :=
  (∀ a x, ((![v695, v876] : Fin 2 → IVec S16 32) a x).toNat < S8x896.size a)
theorem k0_idx90_inb : ∀ (v695 : IVec S16 32) (v876 : IVec S16 32) (k0_hw90 : k0_chk90 v695 v876), ∀ a x, ((![v695, v876] : Fin 2 → IVec S16 32) a x).toNat < S8x896.size a := fun v695 v876 k0_hw90 => k0_hw90
def k0_off186 (k0_t14 : Fin k0_t14_loop.trips) : Fin 2 → Nat :=
  let c4_i32_469 : BitVec 32 := 4#32
  let v879 : Index := Scalar.indexCast c4_i32_469
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![4, v880.toNat]
def k0_off187 (k0_t14 : Fin k0_t14_loop.trips) : Fin 2 → Nat :=
  let c4_i32_472 : BitVec 32 := 4#32
  let v884 : Index := Scalar.indexCast c4_i32_472
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![4, v885.toNat]

def k0_chk91 (v695 : IVec S16 32) (v890 : IVec S16 32) : Prop :=
  (∀ a x, ((![v695, v890] : Fin 2 → IVec S16 32) a x).toNat < S8x896.size a)
theorem k0_idx91_inb : ∀ (v695 : IVec S16 32) (v890 : IVec S16 32) (k0_hw91 : k0_chk91 v695 v890), ∀ a x, ((![v695, v890] : Fin 2 → IVec S16 32) a x).toNat < S8x896.size a := fun v695 v890 k0_hw91 => k0_hw91
def k0_off188 (k0_t14 : Fin k0_t14_loop.trips) : Fin 2 → Nat :=
  let c4_i32_475 : BitVec 32 := 4#32
  let v893 : Index := Scalar.indexCast c4_i32_475
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![4, v894.toNat]
def k0_off189 (k0_t14 : Fin k0_t14_loop.trips) : Fin 2 → Nat :=
  let c4_i32_478 : BitVec 32 := 4#32
  let v898 : Index := Scalar.indexCast c4_i32_478
  let c224_i32 : BitVec 32 := 224#32
  let c0_i32_438 : BitVec 32 := 0#32
  let c0_i32_371 : BitVec 32 := 0#32
  let c1_i32_373 : BitVec 32 := 1#32
  let arg13 : BitVec 32 := Scf.iv c0_i32_371 c1_i32_373 k0_t14
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![4, v899.toNat]
@[reducible] def k0_t15_loop : Scf.Loop 32 :=
  let c0_i32_376 : BitVec 32 := 0#32
  let c16_i32_377 : BitVec 32 := 16#32
  let v698 : BitVec 32 := Scalar.addi c0_i32_376 c16_i32_377
  let c1_i32_378 : BitVec 32 := 1#32
  ⟨c0_i32_376, v698, c1_i32_378⟩

def k0_chk92 (v697 : IVec S16 32) (v806 : IVec S16 32) : Prop :=
  (∀ a x, ((![v697, v806] : Fin 2 → IVec S16 32) a x).toNat < S8x896.size a)
theorem k0_idx92_inb : ∀ (v697 : IVec S16 32) (v806 : IVec S16 32) (k0_hw92 : k0_chk92 v697 v806), ∀ a x, ((![v697, v806] : Fin 2 → IVec S16 32) a x).toNat < S8x896.size a := fun v697 v806 k0_hw92 => k0_hw92
def k0_off190 (k0_t15 : Fin k0_t15_loop.trips) : Fin 2 → Nat :=
  let c5_i32_441 : BitVec 32 := 5#32
  let v809 : Index := Scalar.indexCast c5_i32_441
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![5, v810.toNat]
def k0_off191 (k0_t15 : Fin k0_t15_loop.trips) : Fin 2 → Nat :=
  let c5_i32_443 : BitVec 32 := 5#32
  let v814 : Index := Scalar.indexCast c5_i32_443
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![5, v815.toNat]

def k0_chk93 (v697 : IVec S16 32) (v820 : IVec S16 32) : Prop :=
  (∀ a x, ((![v697, v820] : Fin 2 → IVec S16 32) a x).toNat < S8x896.size a)
theorem k0_idx93_inb : ∀ (v697 : IVec S16 32) (v820 : IVec S16 32) (k0_hw93 : k0_chk93 v697 v820), ∀ a x, ((![v697, v820] : Fin 2 → IVec S16 32) a x).toNat < S8x896.size a := fun v697 v820 k0_hw93 => k0_hw93
def k0_off192 (k0_t15 : Fin k0_t15_loop.trips) : Fin 2 → Nat :=
  let c5_i32_447 : BitVec 32 := 5#32
  let v823 : Index := Scalar.indexCast c5_i32_447
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![5, v824.toNat]
def k0_off193 (k0_t15 : Fin k0_t15_loop.trips) : Fin 2 → Nat :=
  let c5_i32_450 : BitVec 32 := 5#32
  let v828 : Index := Scalar.indexCast c5_i32_450
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![5, v829.toNat]

def k0_chk94 (v697 : IVec S16 32) (v834 : IVec S16 32) : Prop :=
  (∀ a x, ((![v697, v834] : Fin 2 → IVec S16 32) a x).toNat < S8x896.size a)
theorem k0_idx94_inb : ∀ (v697 : IVec S16 32) (v834 : IVec S16 32) (k0_hw94 : k0_chk94 v697 v834), ∀ a x, ((![v697, v834] : Fin 2 → IVec S16 32) a x).toNat < S8x896.size a := fun v697 v834 k0_hw94 => k0_hw94
def k0_off194 (k0_t15 : Fin k0_t15_loop.trips) : Fin 2 → Nat :=
  let c5_i32_453 : BitVec 32 := 5#32
  let v837 : Index := Scalar.indexCast c5_i32_453
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![5, v838.toNat]
def k0_off195 (k0_t15 : Fin k0_t15_loop.trips) : Fin 2 → Nat :=
  let c5_i32_456 : BitVec 32 := 5#32
  let v842 : Index := Scalar.indexCast c5_i32_456
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![5, v843.toNat]

def k0_chk95 (v697 : IVec S16 32) (v848 : IVec S16 32) : Prop :=
  (∀ a x, ((![v697, v848] : Fin 2 → IVec S16 32) a x).toNat < S8x896.size a)
theorem k0_idx95_inb : ∀ (v697 : IVec S16 32) (v848 : IVec S16 32) (k0_hw95 : k0_chk95 v697 v848), ∀ a x, ((![v697, v848] : Fin 2 → IVec S16 32) a x).toNat < S8x896.size a := fun v697 v848 k0_hw95 => k0_hw95
def k0_off196 (k0_t15 : Fin k0_t15_loop.trips) : Fin 2 → Nat :=
  let c5_i32_458 : BitVec 32 := 5#32
  let v851 : Index := Scalar.indexCast c5_i32_458
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![5, v852.toNat]
def k0_off197 (k0_t15 : Fin k0_t15_loop.trips) : Fin 2 → Nat :=
  let c5_i32_461 : BitVec 32 := 5#32
  let v856 : Index := Scalar.indexCast c5_i32_461
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![5, v857.toNat]

def k0_chk96 (v697 : IVec S16 32) (v862 : IVec S16 32) : Prop :=
  (∀ a x, ((![v697, v862] : Fin 2 → IVec S16 32) a x).toNat < S8x896.size a)
theorem k0_idx96_inb : ∀ (v697 : IVec S16 32) (v862 : IVec S16 32) (k0_hw96 : k0_chk96 v697 v862), ∀ a x, ((![v697, v862] : Fin 2 → IVec S16 32) a x).toNat < S8x896.size a := fun v697 v862 k0_hw96 => k0_hw96
def k0_off198 (k0_t15 : Fin k0_t15_loop.trips) : Fin 2 → Nat :=
  let c5_i32_464 : BitVec 32 := 5#32
  let v865 : Index := Scalar.indexCast c5_i32_464
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![5, v866.toNat]
def k0_off199 (k0_t15 : Fin k0_t15_loop.trips) : Fin 2 → Nat :=
  let c5_i32_467 : BitVec 32 := 5#32
  let v870 : Index := Scalar.indexCast c5_i32_467
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![5, v871.toNat]

def k0_chk97 (v697 : IVec S16 32) (v876 : IVec S16 32) : Prop :=
  (∀ a x, ((![v697, v876] : Fin 2 → IVec S16 32) a x).toNat < S8x896.size a)
theorem k0_idx97_inb : ∀ (v697 : IVec S16 32) (v876 : IVec S16 32) (k0_hw97 : k0_chk97 v697 v876), ∀ a x, ((![v697, v876] : Fin 2 → IVec S16 32) a x).toNat < S8x896.size a := fun v697 v876 k0_hw97 => k0_hw97
def k0_off200 (k0_t15 : Fin k0_t15_loop.trips) : Fin 2 → Nat :=
  let c5_i32_469 : BitVec 32 := 5#32
  let v879 : Index := Scalar.indexCast c5_i32_469
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![5, v880.toNat]
def k0_off201 (k0_t15 : Fin k0_t15_loop.trips) : Fin 2 → Nat :=
  let c5_i32_472 : BitVec 32 := 5#32
  let v884 : Index := Scalar.indexCast c5_i32_472
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![5, v885.toNat]

def k0_chk98 (v697 : IVec S16 32) (v890 : IVec S16 32) : Prop :=
  (∀ a x, ((![v697, v890] : Fin 2 → IVec S16 32) a x).toNat < S8x896.size a)
theorem k0_idx98_inb : ∀ (v697 : IVec S16 32) (v890 : IVec S16 32) (k0_hw98 : k0_chk98 v697 v890), ∀ a x, ((![v697, v890] : Fin 2 → IVec S16 32) a x).toNat < S8x896.size a := fun v697 v890 k0_hw98 => k0_hw98
def k0_off202 (k0_t15 : Fin k0_t15_loop.trips) : Fin 2 → Nat :=
  let c5_i32_475 : BitVec 32 := 5#32
  let v893 : Index := Scalar.indexCast c5_i32_475
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![5, v894.toNat]
def k0_off203 (k0_t15 : Fin k0_t15_loop.trips) : Fin 2 → Nat :=
  let c5_i32_478 : BitVec 32 := 5#32
  let v898 : Index := Scalar.indexCast c5_i32_478
  let c224_i32 : BitVec 32 := 224#32
  let c0_i32_438 : BitVec 32 := 0#32
  let c0_i32_376 : BitVec 32 := 0#32
  let c1_i32_378 : BitVec 32 := 1#32
  let arg13 : BitVec 32 := Scf.iv c0_i32_376 c1_i32_378 k0_t15
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![5, v899.toNat]
@[reducible] def k0_t16_loop : Scf.Loop 32 :=
  let c0_i32_381 : BitVec 32 := 0#32
  let c16_i32_382 : BitVec 32 := 16#32
  let v700 : BitVec 32 := Scalar.addi c0_i32_381 c16_i32_382
  let c1_i32_383 : BitVec 32 := 1#32
  ⟨c0_i32_381, v700, c1_i32_383⟩

def k0_chk99 (v699 : IVec S16 32) (v806 : IVec S16 32) : Prop :=
  (∀ a x, ((![v699, v806] : Fin 2 → IVec S16 32) a x).toNat < S8x896.size a)
theorem k0_idx99_inb : ∀ (v699 : IVec S16 32) (v806 : IVec S16 32) (k0_hw99 : k0_chk99 v699 v806), ∀ a x, ((![v699, v806] : Fin 2 → IVec S16 32) a x).toNat < S8x896.size a := fun v699 v806 k0_hw99 => k0_hw99
def k0_off204 (k0_t16 : Fin k0_t16_loop.trips) : Fin 2 → Nat :=
  let c6_i32_441 : BitVec 32 := 6#32
  let v809 : Index := Scalar.indexCast c6_i32_441
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![6, v810.toNat]
def k0_off205 (k0_t16 : Fin k0_t16_loop.trips) : Fin 2 → Nat :=
  let c6_i32_443 : BitVec 32 := 6#32
  let v814 : Index := Scalar.indexCast c6_i32_443
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![6, v815.toNat]

def k0_chk100 (v699 : IVec S16 32) (v820 : IVec S16 32) : Prop :=
  (∀ a x, ((![v699, v820] : Fin 2 → IVec S16 32) a x).toNat < S8x896.size a)
theorem k0_idx100_inb : ∀ (v699 : IVec S16 32) (v820 : IVec S16 32) (k0_hw100 : k0_chk100 v699 v820), ∀ a x, ((![v699, v820] : Fin 2 → IVec S16 32) a x).toNat < S8x896.size a := fun v699 v820 k0_hw100 => k0_hw100
def k0_off206 (k0_t16 : Fin k0_t16_loop.trips) : Fin 2 → Nat :=
  let c6_i32_447 : BitVec 32 := 6#32
  let v823 : Index := Scalar.indexCast c6_i32_447
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![6, v824.toNat]
def k0_off207 (k0_t16 : Fin k0_t16_loop.trips) : Fin 2 → Nat :=
  let c6_i32_450 : BitVec 32 := 6#32
  let v828 : Index := Scalar.indexCast c6_i32_450
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![6, v829.toNat]

def k0_chk101 (v699 : IVec S16 32) (v834 : IVec S16 32) : Prop :=
  (∀ a x, ((![v699, v834] : Fin 2 → IVec S16 32) a x).toNat < S8x896.size a)
theorem k0_idx101_inb : ∀ (v699 : IVec S16 32) (v834 : IVec S16 32) (k0_hw101 : k0_chk101 v699 v834), ∀ a x, ((![v699, v834] : Fin 2 → IVec S16 32) a x).toNat < S8x896.size a := fun v699 v834 k0_hw101 => k0_hw101
def k0_off208 (k0_t16 : Fin k0_t16_loop.trips) : Fin 2 → Nat :=
  let c6_i32_453 : BitVec 32 := 6#32
  let v837 : Index := Scalar.indexCast c6_i32_453
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![6, v838.toNat]
def k0_off209 (k0_t16 : Fin k0_t16_loop.trips) : Fin 2 → Nat :=
  let c6_i32_456 : BitVec 32 := 6#32
  let v842 : Index := Scalar.indexCast c6_i32_456
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![6, v843.toNat]

def k0_chk102 (v699 : IVec S16 32) (v848 : IVec S16 32) : Prop :=
  (∀ a x, ((![v699, v848] : Fin 2 → IVec S16 32) a x).toNat < S8x896.size a)
theorem k0_idx102_inb : ∀ (v699 : IVec S16 32) (v848 : IVec S16 32) (k0_hw102 : k0_chk102 v699 v848), ∀ a x, ((![v699, v848] : Fin 2 → IVec S16 32) a x).toNat < S8x896.size a := fun v699 v848 k0_hw102 => k0_hw102
def k0_off210 (k0_t16 : Fin k0_t16_loop.trips) : Fin 2 → Nat :=
  let c6_i32_458 : BitVec 32 := 6#32
  let v851 : Index := Scalar.indexCast c6_i32_458
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![6, v852.toNat]
def k0_off211 (k0_t16 : Fin k0_t16_loop.trips) : Fin 2 → Nat :=
  let c6_i32_461 : BitVec 32 := 6#32
  let v856 : Index := Scalar.indexCast c6_i32_461
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![6, v857.toNat]

def k0_chk103 (v699 : IVec S16 32) (v862 : IVec S16 32) : Prop :=
  (∀ a x, ((![v699, v862] : Fin 2 → IVec S16 32) a x).toNat < S8x896.size a)
theorem k0_idx103_inb : ∀ (v699 : IVec S16 32) (v862 : IVec S16 32) (k0_hw103 : k0_chk103 v699 v862), ∀ a x, ((![v699, v862] : Fin 2 → IVec S16 32) a x).toNat < S8x896.size a := fun v699 v862 k0_hw103 => k0_hw103
def k0_off212 (k0_t16 : Fin k0_t16_loop.trips) : Fin 2 → Nat :=
  let c6_i32_464 : BitVec 32 := 6#32
  let v865 : Index := Scalar.indexCast c6_i32_464
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![6, v866.toNat]
def k0_off213 (k0_t16 : Fin k0_t16_loop.trips) : Fin 2 → Nat :=
  let c6_i32_467 : BitVec 32 := 6#32
  let v870 : Index := Scalar.indexCast c6_i32_467
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![6, v871.toNat]

def k0_chk104 (v699 : IVec S16 32) (v876 : IVec S16 32) : Prop :=
  (∀ a x, ((![v699, v876] : Fin 2 → IVec S16 32) a x).toNat < S8x896.size a)
theorem k0_idx104_inb : ∀ (v699 : IVec S16 32) (v876 : IVec S16 32) (k0_hw104 : k0_chk104 v699 v876), ∀ a x, ((![v699, v876] : Fin 2 → IVec S16 32) a x).toNat < S8x896.size a := fun v699 v876 k0_hw104 => k0_hw104
def k0_off214 (k0_t16 : Fin k0_t16_loop.trips) : Fin 2 → Nat :=
  let c6_i32_469 : BitVec 32 := 6#32
  let v879 : Index := Scalar.indexCast c6_i32_469
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![6, v880.toNat]
def k0_off215 (k0_t16 : Fin k0_t16_loop.trips) : Fin 2 → Nat :=
  let c6_i32_472 : BitVec 32 := 6#32
  let v884 : Index := Scalar.indexCast c6_i32_472
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![6, v885.toNat]

def k0_chk105 (v699 : IVec S16 32) (v890 : IVec S16 32) : Prop :=
  (∀ a x, ((![v699, v890] : Fin 2 → IVec S16 32) a x).toNat < S8x896.size a)
theorem k0_idx105_inb : ∀ (v699 : IVec S16 32) (v890 : IVec S16 32) (k0_hw105 : k0_chk105 v699 v890), ∀ a x, ((![v699, v890] : Fin 2 → IVec S16 32) a x).toNat < S8x896.size a := fun v699 v890 k0_hw105 => k0_hw105
def k0_off216 (k0_t16 : Fin k0_t16_loop.trips) : Fin 2 → Nat :=
  let c6_i32_475 : BitVec 32 := 6#32
  let v893 : Index := Scalar.indexCast c6_i32_475
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![6, v894.toNat]
def k0_off217 (k0_t16 : Fin k0_t16_loop.trips) : Fin 2 → Nat :=
  let c6_i32_478 : BitVec 32 := 6#32
  let v898 : Index := Scalar.indexCast c6_i32_478
  let c224_i32 : BitVec 32 := 224#32
  let c0_i32_438 : BitVec 32 := 0#32
  let c0_i32_381 : BitVec 32 := 0#32
  let c1_i32_383 : BitVec 32 := 1#32
  let arg13 : BitVec 32 := Scf.iv c0_i32_381 c1_i32_383 k0_t16
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![6, v899.toNat]
@[reducible] def k0_t17_loop : Scf.Loop 32 :=
  let c0_i32_386 : BitVec 32 := 0#32
  let c16_i32_387 : BitVec 32 := 16#32
  let v702 : BitVec 32 := Scalar.addi c0_i32_386 c16_i32_387
  let c1_i32_388 : BitVec 32 := 1#32
  ⟨c0_i32_386, v702, c1_i32_388⟩

def k0_chk106 (v701 : IVec S16 32) (v806 : IVec S16 32) : Prop :=
  (∀ a x, ((![v701, v806] : Fin 2 → IVec S16 32) a x).toNat < S8x896.size a)
theorem k0_idx106_inb : ∀ (v701 : IVec S16 32) (v806 : IVec S16 32) (k0_hw106 : k0_chk106 v701 v806), ∀ a x, ((![v701, v806] : Fin 2 → IVec S16 32) a x).toNat < S8x896.size a := fun v701 v806 k0_hw106 => k0_hw106
def k0_off218 (k0_t17 : Fin k0_t17_loop.trips) : Fin 2 → Nat :=
  let c7_i32_441 : BitVec 32 := 7#32
  let v809 : Index := Scalar.indexCast c7_i32_441
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c0_i32_440 : BitVec 32 := 0#32
  let v808 : BitVec 32 := Scalar.addi v802 c0_i32_440
  let v810 : Index := Scalar.indexCast v808
  ![7, v810.toNat]
def k0_off219 (k0_t17 : Fin k0_t17_loop.trips) : Fin 2 → Nat :=
  let c7_i32_443 : BitVec 32 := 7#32
  let v814 : Index := Scalar.indexCast c7_i32_443
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32 : BitVec 32 := 112#32
  let v812 : BitVec 32 := Scalar.addi v802 c112_i32
  let c0_i32_442 : BitVec 32 := 0#32
  let v813 : BitVec 32 := Scalar.addi v812 c0_i32_442
  let v815 : Index := Scalar.indexCast v813
  ![7, v815.toNat]

def k0_chk107 (v701 : IVec S16 32) (v820 : IVec S16 32) : Prop :=
  (∀ a x, ((![v701, v820] : Fin 2 → IVec S16 32) a x).toNat < S8x896.size a)
theorem k0_idx107_inb : ∀ (v701 : IVec S16 32) (v820 : IVec S16 32) (k0_hw107 : k0_chk107 v701 v820), ∀ a x, ((![v701, v820] : Fin 2 → IVec S16 32) a x).toNat < S8x896.size a := fun v701 v820 k0_hw107 => k0_hw107
def k0_off220 (k0_t17 : Fin k0_t17_loop.trips) : Fin 2 → Nat :=
  let c7_i32_447 : BitVec 32 := 7#32
  let v823 : Index := Scalar.indexCast c7_i32_447
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c16_i32_446 : BitVec 32 := 16#32
  let v822 : BitVec 32 := Scalar.addi v802 c16_i32_446
  let v824 : Index := Scalar.indexCast v822
  ![7, v824.toNat]
def k0_off221 (k0_t17 : Fin k0_t17_loop.trips) : Fin 2 → Nat :=
  let c7_i32_450 : BitVec 32 := 7#32
  let v828 : Index := Scalar.indexCast c7_i32_450
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_448 : BitVec 32 := 112#32
  let v826 : BitVec 32 := Scalar.addi v802 c112_i32_448
  let c16_i32_449 : BitVec 32 := 16#32
  let v827 : BitVec 32 := Scalar.addi v826 c16_i32_449
  let v829 : Index := Scalar.indexCast v827
  ![7, v829.toNat]

def k0_chk108 (v701 : IVec S16 32) (v834 : IVec S16 32) : Prop :=
  (∀ a x, ((![v701, v834] : Fin 2 → IVec S16 32) a x).toNat < S8x896.size a)
theorem k0_idx108_inb : ∀ (v701 : IVec S16 32) (v834 : IVec S16 32) (k0_hw108 : k0_chk108 v701 v834), ∀ a x, ((![v701, v834] : Fin 2 → IVec S16 32) a x).toNat < S8x896.size a := fun v701 v834 k0_hw108 => k0_hw108
def k0_off222 (k0_t17 : Fin k0_t17_loop.trips) : Fin 2 → Nat :=
  let c7_i32_453 : BitVec 32 := 7#32
  let v837 : Index := Scalar.indexCast c7_i32_453
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c32_i32 : BitVec 32 := 32#32
  let v836 : BitVec 32 := Scalar.addi v802 c32_i32
  let v838 : Index := Scalar.indexCast v836
  ![7, v838.toNat]
def k0_off223 (k0_t17 : Fin k0_t17_loop.trips) : Fin 2 → Nat :=
  let c7_i32_456 : BitVec 32 := 7#32
  let v842 : Index := Scalar.indexCast c7_i32_456
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_454 : BitVec 32 := 112#32
  let v840 : BitVec 32 := Scalar.addi v802 c112_i32_454
  let c32_i32_455 : BitVec 32 := 32#32
  let v841 : BitVec 32 := Scalar.addi v840 c32_i32_455
  let v843 : Index := Scalar.indexCast v841
  ![7, v843.toNat]

def k0_chk109 (v701 : IVec S16 32) (v848 : IVec S16 32) : Prop :=
  (∀ a x, ((![v701, v848] : Fin 2 → IVec S16 32) a x).toNat < S8x896.size a)
theorem k0_idx109_inb : ∀ (v701 : IVec S16 32) (v848 : IVec S16 32) (k0_hw109 : k0_chk109 v701 v848), ∀ a x, ((![v701, v848] : Fin 2 → IVec S16 32) a x).toNat < S8x896.size a := fun v701 v848 k0_hw109 => k0_hw109
def k0_off224 (k0_t17 : Fin k0_t17_loop.trips) : Fin 2 → Nat :=
  let c7_i32_458 : BitVec 32 := 7#32
  let v851 : Index := Scalar.indexCast c7_i32_458
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c48_i32 : BitVec 32 := 48#32
  let v850 : BitVec 32 := Scalar.addi v802 c48_i32
  let v852 : Index := Scalar.indexCast v850
  ![7, v852.toNat]
def k0_off225 (k0_t17 : Fin k0_t17_loop.trips) : Fin 2 → Nat :=
  let c7_i32_461 : BitVec 32 := 7#32
  let v856 : Index := Scalar.indexCast c7_i32_461
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_459 : BitVec 32 := 112#32
  let v854 : BitVec 32 := Scalar.addi v802 c112_i32_459
  let c48_i32_460 : BitVec 32 := 48#32
  let v855 : BitVec 32 := Scalar.addi v854 c48_i32_460
  let v857 : Index := Scalar.indexCast v855
  ![7, v857.toNat]

def k0_chk110 (v701 : IVec S16 32) (v862 : IVec S16 32) : Prop :=
  (∀ a x, ((![v701, v862] : Fin 2 → IVec S16 32) a x).toNat < S8x896.size a)
theorem k0_idx110_inb : ∀ (v701 : IVec S16 32) (v862 : IVec S16 32) (k0_hw110 : k0_chk110 v701 v862), ∀ a x, ((![v701, v862] : Fin 2 → IVec S16 32) a x).toNat < S8x896.size a := fun v701 v862 k0_hw110 => k0_hw110
def k0_off226 (k0_t17 : Fin k0_t17_loop.trips) : Fin 2 → Nat :=
  let c7_i32_464 : BitVec 32 := 7#32
  let v865 : Index := Scalar.indexCast c7_i32_464
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c64_i32 : BitVec 32 := 64#32
  let v864 : BitVec 32 := Scalar.addi v802 c64_i32
  let v866 : Index := Scalar.indexCast v864
  ![7, v866.toNat]
def k0_off227 (k0_t17 : Fin k0_t17_loop.trips) : Fin 2 → Nat :=
  let c7_i32_467 : BitVec 32 := 7#32
  let v870 : Index := Scalar.indexCast c7_i32_467
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_465 : BitVec 32 := 112#32
  let v868 : BitVec 32 := Scalar.addi v802 c112_i32_465
  let c64_i32_466 : BitVec 32 := 64#32
  let v869 : BitVec 32 := Scalar.addi v868 c64_i32_466
  let v871 : Index := Scalar.indexCast v869
  ![7, v871.toNat]

def k0_chk111 (v701 : IVec S16 32) (v876 : IVec S16 32) : Prop :=
  (∀ a x, ((![v701, v876] : Fin 2 → IVec S16 32) a x).toNat < S8x896.size a)
theorem k0_idx111_inb : ∀ (v701 : IVec S16 32) (v876 : IVec S16 32) (k0_hw111 : k0_chk111 v701 v876), ∀ a x, ((![v701, v876] : Fin 2 → IVec S16 32) a x).toNat < S8x896.size a := fun v701 v876 k0_hw111 => k0_hw111
def k0_off228 (k0_t17 : Fin k0_t17_loop.trips) : Fin 2 → Nat :=
  let c7_i32_469 : BitVec 32 := 7#32
  let v879 : Index := Scalar.indexCast c7_i32_469
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c80_i32 : BitVec 32 := 80#32
  let v878 : BitVec 32 := Scalar.addi v802 c80_i32
  let v880 : Index := Scalar.indexCast v878
  ![7, v880.toNat]
def k0_off229 (k0_t17 : Fin k0_t17_loop.trips) : Fin 2 → Nat :=
  let c7_i32_472 : BitVec 32 := 7#32
  let v884 : Index := Scalar.indexCast c7_i32_472
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_470 : BitVec 32 := 112#32
  let v882 : BitVec 32 := Scalar.addi v802 c112_i32_470
  let c80_i32_471 : BitVec 32 := 80#32
  let v883 : BitVec 32 := Scalar.addi v882 c80_i32_471
  let v885 : Index := Scalar.indexCast v883
  ![7, v885.toNat]

def k0_chk112 (v701 : IVec S16 32) (v890 : IVec S16 32) : Prop :=
  (∀ a x, ((![v701, v890] : Fin 2 → IVec S16 32) a x).toNat < S8x896.size a)
theorem k0_idx112_inb : ∀ (v701 : IVec S16 32) (v890 : IVec S16 32) (k0_hw112 : k0_chk112 v701 v890), ∀ a x, ((![v701, v890] : Fin 2 → IVec S16 32) a x).toNat < S8x896.size a := fun v701 v890 k0_hw112 => k0_hw112
def k0_off230 (k0_t17 : Fin k0_t17_loop.trips) : Fin 2 → Nat :=
  let c7_i32_475 : BitVec 32 := 7#32
  let v893 : Index := Scalar.indexCast c7_i32_475
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c96_i32 : BitVec 32 := 96#32
  let v892 : BitVec 32 := Scalar.addi v802 c96_i32
  let v894 : Index := Scalar.indexCast v892
  ![7, v894.toNat]
def k0_off231 (k0_t17 : Fin k0_t17_loop.trips) : Fin 2 → Nat :=
  let c7_i32_478 : BitVec 32 := 7#32
  let v898 : Index := Scalar.indexCast c7_i32_478
  let c224_i32 : BitVec 32 := 224#32
  let c0_i32_438 : BitVec 32 := 0#32
  let c0_i32_386 : BitVec 32 := 0#32
  let c1_i32_388 : BitVec 32 := 1#32
  let arg13 : BitVec 32 := Scf.iv c0_i32_386 c1_i32_388 k0_t17
  let c1_i32_437 : BitVec 32 := 1#32
  let v800 : BitVec 32 := Scalar.muli arg13 c1_i32_437
  let v801 : BitVec 32 := Scalar.addi c0_i32_438 v800
  let v802 : BitVec 32 := Scalar.muli c224_i32 v801
  let c112_i32_476 : BitVec 32 := 112#32
  let v896 : BitVec 32 := Scalar.addi v802 c112_i32_476
  let c96_i32_477 : BitVec 32 := 96#32
  let v897 : BitVec 32 := Scalar.addi v896 c96_i32_477
  let v899 : Index := Scalar.indexCast v897
  ![7, v899.toNat]
def k0_off232 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c84_i32 : BitVec 32 := 84#32
  let v2 : BitVec 32 := Scalar.muli v1 c84_i32
  let c0_i32_82 : BitVec 32 := 0#32
  let c1_i32_83 : BitVec 32 := 1#32
  let arg12 : BitVec 32 := Scf.iv c0_i32_82 c1_i32_83 k0_t1
  let c2_i32_173 : BitVec 32 := 2#32
  let v379 : BitVec 32 := Scalar.muli arg12 c2_i32_173
  let c1_i32_303 : BitVec 32 := 1#32
  let v590 : BitVec 32 := Scalar.addi v379 c1_i32_303
  let v703 : BitVec 32 := Scalar.addi v2 v590
  let c0_i32_391 : BitVec 32 := 0#32
  let v705 : BitVec 1 := Scalar.cmpi .sgt v703 c0_i32_391
  let v706 : BitVec 32 := Scalar.extui v705
  let c0_i32_392 : BitVec 32 := 0#32
  let v707 : BitVec 1 := Scalar.cmpi .slt v703 c0_i32_392
  let v708 : BitVec 32 := Scalar.extui v707
  let v709 : BitVec 32 := Scalar.subi v706 v708
  let c672_i32_390 : BitVec 32 := 672#32
  let c0_i32_393 : BitVec 32 := 0#32
  let v710 : BitVec 1 := Scalar.cmpi .sgt c672_i32_390 c0_i32_393
  let v711 : BitVec 32 := Scalar.extui v710
  let c0_i32_394 : BitVec 32 := 0#32
  let v712 : BitVec 1 := Scalar.cmpi .slt c672_i32_390 c0_i32_394
  let v713 : BitVec 32 := Scalar.extui v712
  let v714 : BitVec 32 := Scalar.subi v711 v713
  let v715 : BitVec 1 := Scalar.cmpi .ne v709 v714
  let v716 : BitVec 32 := Scalar.remsi v703 c672_i32_390
  let c0_i32_395 : BitVec 32 := 0#32
  let v717 : BitVec 1 := Scalar.cmpi .ne v716 c0_i32_395
  let v718 : BitVec 1 := Scalar.andi v715 v717
  let v704 : BitVec 32 := Scalar.divsi v703 c672_i32_390
  let c1_i32_396 : BitVec 32 := 1#32
  let v719 : BitVec 32 := Scalar.subi v704 c1_i32_396
  let v720 : BitVec 32 := Scalar.select v718 v719 v704
  let c8_i32_429 : BitVec 32 := 8#32
  let c672_i32_397 : BitVec 32 := 672#32
  let c0_i32_398 : BitVec 32 := 0#32
  let v721 : BitVec 1 := Scalar.cmpi .eq c672_i32_397 c0_i32_398
  let c1_i32_399 : BitVec 32 := 1#32
  let v722 : BitVec 32 := Scalar.select v721 c1_i32_399 c672_i32_397
  let v723 : BitVec 32 := Scalar.remsi v703 v722
  let c0_i32_401 : BitVec 32 := 0#32
  let v725 : BitVec 1 := Scalar.cmpi .slt v723 c0_i32_401
  let c0_i32_402 : BitVec 32 := 0#32
  let v726 : BitVec 1 := Scalar.cmpi .slt v722 c0_i32_402
  let v727 : BitVec 1 := Scalar.xori v725 v726
  let c0_i32_400 : BitVec 32 := 0#32
  let v724 : BitVec 1 := Scalar.cmpi .ne v723 c0_i32_400
  let v728 : BitVec 1 := Scalar.andi v727 v724
  let v729 : BitVec 32 := Scalar.addi v723 v722
  let v730 : BitVec 32 := Scalar.select v728 v729 v723
  let c0_i32_404 : BitVec 32 := 0#32
  let v732 : BitVec 1 := Scalar.cmpi .sgt v730 c0_i32_404
  let v733 : BitVec 32 := Scalar.extui v732
  let c0_i32_405 : BitVec 32 := 0#32
  let v734 : BitVec 1 := Scalar.cmpi .slt v730 c0_i32_405
  let v735 : BitVec 32 := Scalar.extui v734
  let v736 : BitVec 32 := Scalar.subi v733 v735
  let c28_i32_403 : BitVec 32 := 28#32
  let c0_i32_406 : BitVec 32 := 0#32
  let v737 : BitVec 1 := Scalar.cmpi .sgt c28_i32_403 c0_i32_406
  let v738 : BitVec 32 := Scalar.extui v737
  let c0_i32_407 : BitVec 32 := 0#32
  let v739 : BitVec 1 := Scalar.cmpi .slt c28_i32_403 c0_i32_407
  let v740 : BitVec 32 := Scalar.extui v739
  let v741 : BitVec 32 := Scalar.subi v738 v740
  let v742 : BitVec 1 := Scalar.cmpi .ne v736 v741
  let v743 : BitVec 32 := Scalar.remsi v730 c28_i32_403
  let c0_i32_408 : BitVec 32 := 0#32
  let v744 : BitVec 1 := Scalar.cmpi .ne v743 c0_i32_408
  let v745 : BitVec 1 := Scalar.andi v742 v744
  let v731 : BitVec 32 := Scalar.divsi v730 c28_i32_403
  let c1_i32_409 : BitVec 32 := 1#32
  let v746 : BitVec 32 := Scalar.subi v731 c1_i32_409
  let v747 : BitVec 32 := Scalar.select v745 v746 v731
  let v785 : BitVec 32 := Scalar.muli c8_i32_429 v747
  let c25088_i32_432 : BitVec 32 := 25088#32
  let c28_i32_410 : BitVec 32 := 28#32
  let c0_i32_411 : BitVec 32 := 0#32
  let v748 : BitVec 1 := Scalar.cmpi .eq c28_i32_410 c0_i32_411
  let c1_i32_412 : BitVec 32 := 1#32
  let v749 : BitVec 32 := Scalar.select v748 c1_i32_412 c28_i32_410
  let v750 : BitVec 32 := Scalar.remsi v730 v749
  let c0_i32_414 : BitVec 32 := 0#32
  let v752 : BitVec 1 := Scalar.cmpi .slt v750 c0_i32_414
  let c0_i32_415 : BitVec 32 := 0#32
  let v753 : BitVec 1 := Scalar.cmpi .slt v749 c0_i32_415
  let v754 : BitVec 1 := Scalar.xori v752 v753
  let c0_i32_413 : BitVec 32 := 0#32
  let v751 : BitVec 1 := Scalar.cmpi .ne v750 c0_i32_413
  let v755 : BitVec 1 := Scalar.andi v754 v751
  let v756 : BitVec 32 := Scalar.addi v750 v749
  let v757 : BitVec 32 := Scalar.select v755 v756 v750
  let c0_i32_417 : BitVec 32 := 0#32
  let v759 : BitVec 1 := Scalar.cmpi .sgt v757 c0_i32_417
  let v760 : BitVec 32 := Scalar.extui v759
  let c0_i32_418 : BitVec 32 := 0#32
  let v761 : BitVec 1 := Scalar.cmpi .slt v757 c0_i32_418
  let v762 : BitVec 32 := Scalar.extui v761
  let v763 : BitVec 32 := Scalar.subi v760 v762
  let c7_i32_416 : BitVec 32 := 7#32
  let c0_i32_419 : BitVec 32 := 0#32
  let v764 : BitVec 1 := Scalar.cmpi .sgt c7_i32_416 c0_i32_419
  let v765 : BitVec 32 := Scalar.extui v764
  let c0_i32_420 : BitVec 32 := 0#32
  let v766 : BitVec 1 := Scalar.cmpi .slt c7_i32_416 c0_i32_420
  let v767 : BitVec 32 := Scalar.extui v766
  let v768 : BitVec 32 := Scalar.subi v765 v767
  let v769 : BitVec 1 := Scalar.cmpi .ne v763 v768
  let v770 : BitVec 32 := Scalar.remsi v757 c7_i32_416
  let c0_i32_421 : BitVec 32 := 0#32
  let v771 : BitVec 1 := Scalar.cmpi .ne v770 c0_i32_421
  let v772 : BitVec 1 := Scalar.andi v769 v771
  let v758 : BitVec 32 := Scalar.divsi v757 c7_i32_416
  let c1_i32_422 : BitVec 32 := 1#32
  let v773 : BitVec 32 := Scalar.subi v758 c1_i32_422
  let v774 : BitVec 32 := Scalar.select v772 v773 v758
  let v789 : BitVec 32 := Scalar.muli c25088_i32_432 v774
  let c3584_i32_433 : BitVec 32 := 3584#32
  let c7_i32_423 : BitVec 32 := 7#32
  let c0_i32_424 : BitVec 32 := 0#32
  let v775 : BitVec 1 := Scalar.cmpi .eq c7_i32_423 c0_i32_424
  let c1_i32_425 : BitVec 32 := 1#32
  let v776 : BitVec 32 := Scalar.select v775 c1_i32_425 c7_i32_423
  let v777 : BitVec 32 := Scalar.remsi v757 v776
  let c0_i32_427 : BitVec 32 := 0#32
  let v779 : BitVec 1 := Scalar.cmpi .slt v777 c0_i32_427
  let c0_i32_428 : BitVec 32 := 0#32
  let v780 : BitVec 1 := Scalar.cmpi .slt v776 c0_i32_428
  let v781 : BitVec 1 := Scalar.xori v779 v780
  let c0_i32_426 : BitVec 32 := 0#32
  let v778 : BitVec 1 := Scalar.cmpi .ne v777 c0_i32_426
  let v782 : BitVec 1 := Scalar.andi v781 v778
  let v783 : BitVec 32 := Scalar.addi v777 v776
  let v784 : BitVec 32 := Scalar.select v782 v783 v777
  let v790 : BitVec 32 := Scalar.muli c3584_i32_433 v784
  let v791 : BitVec 32 := Scalar.addi v789 v790
  ![v720.toNat, v785.toNat, v791.toNat]
def k0_cond4 (k0_t1 : Fin k0_t1_loop.trips) : BitVec 1 :=
  let c0_i32_82 : BitVec 32 := 0#32
  let c1_i32_83 : BitVec 32 := 1#32
  let arg12 : BitVec 32 := Scf.iv c0_i32_82 c1_i32_83 k0_t1
  let c2_i32_173 : BitVec 32 := 2#32
  let v379 : BitVec 32 := Scalar.muli arg12 c2_i32_173
  let c2_i32_434 : BitVec 32 := 2#32
  let v796 : BitVec 32 := Scalar.addi v379 c2_i32_434
  let c84_i32_435 : BitVec 32 := 84#32
  let v797 : BitVec 1 := Scalar.cmpi .slt v796 c84_i32_435
  let v798 : BitVec 32 := Scalar.extui v797
  let c0_i32_436 : BitVec 32 := 0#32
  let v799 : BitVec 1 := Scalar.cmpi .ne v798 c0_i32_436
  v799

def k0_off233 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c84_i32 : BitVec 32 := 84#32
  let v2 : BitVec 32 := Scalar.muli v1 c84_i32
  let c0_i32_82 : BitVec 32 := 0#32
  let c1_i32_83 : BitVec 32 := 1#32
  let arg12 : BitVec 32 := Scf.iv c0_i32_82 c1_i32_83 k0_t1
  let c2_i32_173 : BitVec 32 := 2#32
  let v379 : BitVec 32 := Scalar.muli arg12 c2_i32_173
  let c1_i32_303 : BitVec 32 := 1#32
  let v590 : BitVec 32 := Scalar.addi v379 c1_i32_303
  let c2_i32_437 : BitVec 32 := 2#32
  let v800 : BitVec 32 := Scalar.addi v590 c2_i32_437
  let v801 : BitVec 32 := Scalar.addi v2 v800
  let c0_i32_439 : BitVec 32 := 0#32
  let v803 : BitVec 1 := Scalar.cmpi .sgt v801 c0_i32_439
  let v804 : BitVec 32 := Scalar.extui v803
  let c0_i32_440 : BitVec 32 := 0#32
  let v805 : BitVec 1 := Scalar.cmpi .slt v801 c0_i32_440
  let v806 : BitVec 32 := Scalar.extui v805
  let v807 : BitVec 32 := Scalar.subi v804 v806
  let c672_i32_438 : BitVec 32 := 672#32
  let c0_i32_441 : BitVec 32 := 0#32
  let v808 : BitVec 1 := Scalar.cmpi .sgt c672_i32_438 c0_i32_441
  let v809 : BitVec 32 := Scalar.extui v808
  let c0_i32_442 : BitVec 32 := 0#32
  let v810 : BitVec 1 := Scalar.cmpi .slt c672_i32_438 c0_i32_442
  let v811 : BitVec 32 := Scalar.extui v810
  let v812 : BitVec 32 := Scalar.subi v809 v811
  let v813 : BitVec 1 := Scalar.cmpi .ne v807 v812
  let v814 : BitVec 32 := Scalar.remsi v801 c672_i32_438
  let c0_i32_443 : BitVec 32 := 0#32
  let v815 : BitVec 1 := Scalar.cmpi .ne v814 c0_i32_443
  let v816 : BitVec 1 := Scalar.andi v813 v815
  let v802 : BitVec 32 := Scalar.divsi v801 c672_i32_438
  let c1_i32_444 : BitVec 32 := 1#32
  let v817 : BitVec 32 := Scalar.subi v802 c1_i32_444
  let v818 : BitVec 32 := Scalar.select v816 v817 v802
  let c8_i32_477 : BitVec 32 := 8#32
  let c672_i32_445 : BitVec 32 := 672#32
  let c0_i32_446 : BitVec 32 := 0#32
  let v819 : BitVec 1 := Scalar.cmpi .eq c672_i32_445 c0_i32_446
  let c1_i32_447 : BitVec 32 := 1#32
  let v820 : BitVec 32 := Scalar.select v819 c1_i32_447 c672_i32_445
  let v821 : BitVec 32 := Scalar.remsi v801 v820
  let c0_i32_449 : BitVec 32 := 0#32
  let v823 : BitVec 1 := Scalar.cmpi .slt v821 c0_i32_449
  let c0_i32_450 : BitVec 32 := 0#32
  let v824 : BitVec 1 := Scalar.cmpi .slt v820 c0_i32_450
  let v825 : BitVec 1 := Scalar.xori v823 v824
  let c0_i32_448 : BitVec 32 := 0#32
  let v822 : BitVec 1 := Scalar.cmpi .ne v821 c0_i32_448
  let v826 : BitVec 1 := Scalar.andi v825 v822
  let v827 : BitVec 32 := Scalar.addi v821 v820
  let v828 : BitVec 32 := Scalar.select v826 v827 v821
  let c0_i32_452 : BitVec 32 := 0#32
  let v830 : BitVec 1 := Scalar.cmpi .sgt v828 c0_i32_452
  let v831 : BitVec 32 := Scalar.extui v830
  let c0_i32_453 : BitVec 32 := 0#32
  let v832 : BitVec 1 := Scalar.cmpi .slt v828 c0_i32_453
  let v833 : BitVec 32 := Scalar.extui v832
  let v834 : BitVec 32 := Scalar.subi v831 v833
  let c28_i32_451 : BitVec 32 := 28#32
  let c0_i32_454 : BitVec 32 := 0#32
  let v835 : BitVec 1 := Scalar.cmpi .sgt c28_i32_451 c0_i32_454
  let v836 : BitVec 32 := Scalar.extui v835
  let c0_i32_455 : BitVec 32 := 0#32
  let v837 : BitVec 1 := Scalar.cmpi .slt c28_i32_451 c0_i32_455
  let v838 : BitVec 32 := Scalar.extui v837
  let v839 : BitVec 32 := Scalar.subi v836 v838
  let v840 : BitVec 1 := Scalar.cmpi .ne v834 v839
  let v841 : BitVec 32 := Scalar.remsi v828 c28_i32_451
  let c0_i32_456 : BitVec 32 := 0#32
  let v842 : BitVec 1 := Scalar.cmpi .ne v841 c0_i32_456
  let v843 : BitVec 1 := Scalar.andi v840 v842
  let v829 : BitVec 32 := Scalar.divsi v828 c28_i32_451
  let c1_i32_457 : BitVec 32 := 1#32
  let v844 : BitVec 32 := Scalar.subi v829 c1_i32_457
  let v845 : BitVec 32 := Scalar.select v843 v844 v829
  let v883 : BitVec 32 := Scalar.muli c8_i32_477 v845
  let c6272_i32_478 : BitVec 32 := 6272#32
  let c28_i32_458 : BitVec 32 := 28#32
  let c0_i32_459 : BitVec 32 := 0#32
  let v846 : BitVec 1 := Scalar.cmpi .eq c28_i32_458 c0_i32_459
  let c1_i32_460 : BitVec 32 := 1#32
  let v847 : BitVec 32 := Scalar.select v846 c1_i32_460 c28_i32_458
  let v848 : BitVec 32 := Scalar.remsi v828 v847
  let c0_i32_462 : BitVec 32 := 0#32
  let v850 : BitVec 1 := Scalar.cmpi .slt v848 c0_i32_462
  let c0_i32_463 : BitVec 32 := 0#32
  let v851 : BitVec 1 := Scalar.cmpi .slt v847 c0_i32_463
  let v852 : BitVec 1 := Scalar.xori v850 v851
  let c0_i32_461 : BitVec 32 := 0#32
  let v849 : BitVec 1 := Scalar.cmpi .ne v848 c0_i32_461
  let v853 : BitVec 1 := Scalar.andi v852 v849
  let v854 : BitVec 32 := Scalar.addi v848 v847
  let v855 : BitVec 32 := Scalar.select v853 v854 v848
  let c0_i32_465 : BitVec 32 := 0#32
  let v857 : BitVec 1 := Scalar.cmpi .sgt v855 c0_i32_465
  let v858 : BitVec 32 := Scalar.extui v857
  let c0_i32_466 : BitVec 32 := 0#32
  let v859 : BitVec 1 := Scalar.cmpi .slt v855 c0_i32_466
  let v860 : BitVec 32 := Scalar.extui v859
  let v861 : BitVec 32 := Scalar.subi v858 v860
  let c7_i32_464 : BitVec 32 := 7#32
  let c0_i32_467 : BitVec 32 := 0#32
  let v862 : BitVec 1 := Scalar.cmpi .sgt c7_i32_464 c0_i32_467
  let v863 : BitVec 32 := Scalar.extui v862
  let c0_i32_468 : BitVec 32 := 0#32
  let v864 : BitVec 1 := Scalar.cmpi .slt c7_i32_464 c0_i32_468
  let v865 : BitVec 32 := Scalar.extui v864
  let v866 : BitVec 32 := Scalar.subi v863 v865
  let v867 : BitVec 1 := Scalar.cmpi .ne v861 v866
  let v868 : BitVec 32 := Scalar.remsi v855 c7_i32_464
  let c0_i32_469 : BitVec 32 := 0#32
  let v869 : BitVec 1 := Scalar.cmpi .ne v868 c0_i32_469
  let v870 : BitVec 1 := Scalar.andi v867 v869
  let v856 : BitVec 32 := Scalar.divsi v855 c7_i32_464
  let c1_i32_470 : BitVec 32 := 1#32
  let v871 : BitVec 32 := Scalar.subi v856 c1_i32_470
  let v872 : BitVec 32 := Scalar.select v870 v871 v856
  let v884 : BitVec 32 := Scalar.muli c6272_i32_478 v872
  let c896_i32_479 : BitVec 32 := 896#32
  let c7_i32_471 : BitVec 32 := 7#32
  let c0_i32_472 : BitVec 32 := 0#32
  let v873 : BitVec 1 := Scalar.cmpi .eq c7_i32_471 c0_i32_472
  let c1_i32_473 : BitVec 32 := 1#32
  let v874 : BitVec 32 := Scalar.select v873 c1_i32_473 c7_i32_471
  let v875 : BitVec 32 := Scalar.remsi v855 v874
  let c0_i32_475 : BitVec 32 := 0#32
  let v877 : BitVec 1 := Scalar.cmpi .slt v875 c0_i32_475
  let c0_i32_476 : BitVec 32 := 0#32
  let v878 : BitVec 1 := Scalar.cmpi .slt v874 c0_i32_476
  let v879 : BitVec 1 := Scalar.xori v877 v878
  let c0_i32_474 : BitVec 32 := 0#32
  let v876 : BitVec 1 := Scalar.cmpi .ne v875 c0_i32_474
  let v880 : BitVec 1 := Scalar.andi v879 v876
  let v881 : BitVec 32 := Scalar.addi v875 v874
  let v882 : BitVec 32 := Scalar.select v880 v881 v875
  let v885 : BitVec 32 := Scalar.muli c896_i32_479 v882
  let v886 : BitVec 32 := Scalar.addi v884 v885
  ![v818.toNat, v883.toNat, v886.toNat]
def k0_off234 (i : grid0.Coords) (c82_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c84_i32 : BitVec 32 := 84#32
  let v2 : BitVec 32 := Scalar.muli v1 c84_i32
  let v193 : BitVec 32 := Scalar.addi v2 c82_i32
  let c0_i32_86 : BitVec 32 := 0#32
  let v195 : BitVec 1 := Scalar.cmpi .sgt v193 c0_i32_86
  let v196 : BitVec 32 := Scalar.extui v195
  let c0_i32_87 : BitVec 32 := 0#32
  let v197 : BitVec 1 := Scalar.cmpi .slt v193 c0_i32_87
  let v198 : BitVec 32 := Scalar.extui v197
  let v199 : BitVec 32 := Scalar.subi v196 v198
  let c672_i32_85 : BitVec 32 := 672#32
  let c0_i32_88 : BitVec 32 := 0#32
  let v200 : BitVec 1 := Scalar.cmpi .sgt c672_i32_85 c0_i32_88
  let v201 : BitVec 32 := Scalar.extui v200
  let c0_i32_89 : BitVec 32 := 0#32
  let v202 : BitVec 1 := Scalar.cmpi .slt c672_i32_85 c0_i32_89
  let v203 : BitVec 32 := Scalar.extui v202
  let v204 : BitVec 32 := Scalar.subi v201 v203
  let v205 : BitVec 1 := Scalar.cmpi .ne v199 v204
  let v206 : BitVec 32 := Scalar.remsi v193 c672_i32_85
  let c0_i32_90 : BitVec 32 := 0#32
  let v207 : BitVec 1 := Scalar.cmpi .ne v206 c0_i32_90
  let v208 : BitVec 1 := Scalar.andi v205 v207
  let v194 : BitVec 32 := Scalar.divsi v193 c672_i32_85
  let c1_i32_91 : BitVec 32 := 1#32
  let v209 : BitVec 32 := Scalar.subi v194 c1_i32_91
  let v210 : BitVec 32 := Scalar.select v208 v209 v194
  let c8_i32_124 : BitVec 32 := 8#32
  let c672_i32_92 : BitVec 32 := 672#32
  let c0_i32_93 : BitVec 32 := 0#32
  let v211 : BitVec 1 := Scalar.cmpi .eq c672_i32_92 c0_i32_93
  let c1_i32_94 : BitVec 32 := 1#32
  let v212 : BitVec 32 := Scalar.select v211 c1_i32_94 c672_i32_92
  let v213 : BitVec 32 := Scalar.remsi v193 v212
  let c0_i32_96 : BitVec 32 := 0#32
  let v215 : BitVec 1 := Scalar.cmpi .slt v213 c0_i32_96
  let c0_i32_97 : BitVec 32 := 0#32
  let v216 : BitVec 1 := Scalar.cmpi .slt v212 c0_i32_97
  let v217 : BitVec 1 := Scalar.xori v215 v216
  let c0_i32_95 : BitVec 32 := 0#32
  let v214 : BitVec 1 := Scalar.cmpi .ne v213 c0_i32_95
  let v218 : BitVec 1 := Scalar.andi v217 v214
  let v219 : BitVec 32 := Scalar.addi v213 v212
  let v220 : BitVec 32 := Scalar.select v218 v219 v213
  let c0_i32_99 : BitVec 32 := 0#32
  let v222 : BitVec 1 := Scalar.cmpi .sgt v220 c0_i32_99
  let v223 : BitVec 32 := Scalar.extui v222
  let c0_i32_100 : BitVec 32 := 0#32
  let v224 : BitVec 1 := Scalar.cmpi .slt v220 c0_i32_100
  let v225 : BitVec 32 := Scalar.extui v224
  let v226 : BitVec 32 := Scalar.subi v223 v225
  let c28_i32_98 : BitVec 32 := 28#32
  let c0_i32_101 : BitVec 32 := 0#32
  let v227 : BitVec 1 := Scalar.cmpi .sgt c28_i32_98 c0_i32_101
  let v228 : BitVec 32 := Scalar.extui v227
  let c0_i32_102 : BitVec 32 := 0#32
  let v229 : BitVec 1 := Scalar.cmpi .slt c28_i32_98 c0_i32_102
  let v230 : BitVec 32 := Scalar.extui v229
  let v231 : BitVec 32 := Scalar.subi v228 v230
  let v232 : BitVec 1 := Scalar.cmpi .ne v226 v231
  let v233 : BitVec 32 := Scalar.remsi v220 c28_i32_98
  let c0_i32_103 : BitVec 32 := 0#32
  let v234 : BitVec 1 := Scalar.cmpi .ne v233 c0_i32_103
  let v235 : BitVec 1 := Scalar.andi v232 v234
  let v221 : BitVec 32 := Scalar.divsi v220 c28_i32_98
  let c1_i32_104 : BitVec 32 := 1#32
  let v236 : BitVec 32 := Scalar.subi v221 c1_i32_104
  let v237 : BitVec 32 := Scalar.select v235 v236 v221
  let v275 : BitVec 32 := Scalar.muli c8_i32_124 v237
  let c25088_i32_127 : BitVec 32 := 25088#32
  let c28_i32_105 : BitVec 32 := 28#32
  let c0_i32_106 : BitVec 32 := 0#32
  let v238 : BitVec 1 := Scalar.cmpi .eq c28_i32_105 c0_i32_106
  let c1_i32_107 : BitVec 32 := 1#32
  let v239 : BitVec 32 := Scalar.select v238 c1_i32_107 c28_i32_105
  let v240 : BitVec 32 := Scalar.remsi v220 v239
  let c0_i32_109 : BitVec 32 := 0#32
  let v242 : BitVec 1 := Scalar.cmpi .slt v240 c0_i32_109
  let c0_i32_110 : BitVec 32 := 0#32
  let v243 : BitVec 1 := Scalar.cmpi .slt v239 c0_i32_110
  let v244 : BitVec 1 := Scalar.xori v242 v243
  let c0_i32_108 : BitVec 32 := 0#32
  let v241 : BitVec 1 := Scalar.cmpi .ne v240 c0_i32_108
  let v245 : BitVec 1 := Scalar.andi v244 v241
  let v246 : BitVec 32 := Scalar.addi v240 v239
  let v247 : BitVec 32 := Scalar.select v245 v246 v240
  let c0_i32_112 : BitVec 32 := 0#32
  let v249 : BitVec 1 := Scalar.cmpi .sgt v247 c0_i32_112
  let v250 : BitVec 32 := Scalar.extui v249
  let c0_i32_113 : BitVec 32 := 0#32
  let v251 : BitVec 1 := Scalar.cmpi .slt v247 c0_i32_113
  let v252 : BitVec 32 := Scalar.extui v251
  let v253 : BitVec 32 := Scalar.subi v250 v252
  let c7_i32_111 : BitVec 32 := 7#32
  let c0_i32_114 : BitVec 32 := 0#32
  let v254 : BitVec 1 := Scalar.cmpi .sgt c7_i32_111 c0_i32_114
  let v255 : BitVec 32 := Scalar.extui v254
  let c0_i32_115 : BitVec 32 := 0#32
  let v256 : BitVec 1 := Scalar.cmpi .slt c7_i32_111 c0_i32_115
  let v257 : BitVec 32 := Scalar.extui v256
  let v258 : BitVec 32 := Scalar.subi v255 v257
  let v259 : BitVec 1 := Scalar.cmpi .ne v253 v258
  let v260 : BitVec 32 := Scalar.remsi v247 c7_i32_111
  let c0_i32_116 : BitVec 32 := 0#32
  let v261 : BitVec 1 := Scalar.cmpi .ne v260 c0_i32_116
  let v262 : BitVec 1 := Scalar.andi v259 v261
  let v248 : BitVec 32 := Scalar.divsi v247 c7_i32_111
  let c1_i32_117 : BitVec 32 := 1#32
  let v263 : BitVec 32 := Scalar.subi v248 c1_i32_117
  let v264 : BitVec 32 := Scalar.select v262 v263 v248
  let v279 : BitVec 32 := Scalar.muli c25088_i32_127 v264
  let c3584_i32_128 : BitVec 32 := 3584#32
  let c7_i32_118 : BitVec 32 := 7#32
  let c0_i32_119 : BitVec 32 := 0#32
  let v265 : BitVec 1 := Scalar.cmpi .eq c7_i32_118 c0_i32_119
  let c1_i32_120 : BitVec 32 := 1#32
  let v266 : BitVec 32 := Scalar.select v265 c1_i32_120 c7_i32_118
  let v267 : BitVec 32 := Scalar.remsi v247 v266
  let c0_i32_122 : BitVec 32 := 0#32
  let v269 : BitVec 1 := Scalar.cmpi .slt v267 c0_i32_122
  let c0_i32_123 : BitVec 32 := 0#32
  let v270 : BitVec 1 := Scalar.cmpi .slt v266 c0_i32_123
  let v271 : BitVec 1 := Scalar.xori v269 v270
  let c0_i32_121 : BitVec 32 := 0#32
  let v268 : BitVec 1 := Scalar.cmpi .ne v267 c0_i32_121
  let v272 : BitVec 1 := Scalar.andi v271 v268
  let v273 : BitVec 32 := Scalar.addi v267 v266
  let v274 : BitVec 32 := Scalar.select v272 v273 v267
  let v280 : BitVec 32 := Scalar.muli c3584_i32_128 v274
  let v281 : BitVec 32 := Scalar.addi v279 v280
  ![v210.toNat, v275.toNat, v281.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x192x25088 : Shape := ⟨3, ![4, 192, 25088]⟩
abbrev S100352 : Shape := ⟨1, ![100352]⟩
abbrev S_ : Shape := ⟨0, ![]⟩
abbrev S100352x1 : Shape := ⟨2, ![100352, 1]⟩
abbrev S100352x1x1 : Shape := ⟨3, ![100352, 1, 1]⟩
abbrev S4x192x100352x1 : Shape := ⟨4, ![4, 192, 100352, 1]⟩
abbrev S4x192x100352 : Shape := ⟨3, ![4, 192, 100352]⟩

abbrev nBuf : Space → Nat
  | .hbm => 145
  | .vmem => 0
  | .smem => 0
  | _ => 0

abbrev hbmTy0_0 (i : Nat) : BufTy := match i % 128 with
  | 0 => ⟨S4x192x25088, .f32⟩
  | 1 => ⟨S100352, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S100352, .i32⟩
  | 9 => ⟨S100352, .i32⟩
  | 10 => ⟨S_, .i32⟩
  | 11 => ⟨S100352, .i32⟩
  | 12 => ⟨S100352, .i1⟩
  | 13 => ⟨S_, .i32⟩
  | 14 => ⟨S100352, .i32⟩
  | 15 => ⟨S100352, .i1⟩
  | 16 => ⟨S_, .i32⟩
  | 17 => ⟨S_, .i1⟩
  | 18 => ⟨S100352, .i1⟩
  | 19 => ⟨S100352, .i1⟩
  | 20 => ⟨S100352, .i1⟩
  | 21 => ⟨S100352, .i32⟩
  | 22 => ⟨S100352, .i32⟩
  | 23 => ⟨S100352, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S100352, .i32⟩
  | 31 => ⟨S100352, .i32⟩
  | 32 => ⟨S_, .i32⟩
  | 33 => ⟨S100352, .i32⟩
  | 34 => ⟨S100352, .i1⟩
  | 35 => ⟨S_, .i32⟩
  | 36 => ⟨S100352, .i32⟩
  | 37 => ⟨S100352, .i1⟩
  | 38 => ⟨S_, .i32⟩
  | 39 => ⟨S_, .i1⟩
  | 40 => ⟨S100352, .i1⟩
  | 41 => ⟨S100352, .i1⟩
  | 42 => ⟨S100352, .i1⟩
  | 43 => ⟨S100352, .i32⟩
  | 44 => ⟨S100352, .i32⟩
  | 45 => ⟨S100352, .i32⟩
  | 46 => ⟨S_, .i32⟩
  | 47 => ⟨S_, .i32⟩
  | 48 => ⟨S100352, .i32⟩
  | 49 => ⟨S100352, .i32⟩
  | 50 => ⟨S100352, .i32⟩
  | 51 => ⟨S_, .i32⟩
  | 52 => ⟨S100352, .i32⟩
  | 53 => ⟨S100352, .i1⟩
  | 54 => ⟨S100352, .i32⟩
  | 55 => ⟨S100352, .i32⟩
  | 56 => ⟨S_, .i32⟩
  | 57 => ⟨S100352, .i32⟩
  | 58 => ⟨S100352, .i1⟩
  | 59 => ⟨S100352, .i1⟩
  | 60 => ⟨S_, .i32⟩
  | 61 => ⟨S100352, .i32⟩
  | 62 => ⟨S100352, .i32⟩
  | 63 => ⟨S100352, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S100352, .i32⟩
  | 71 => ⟨S100352, .i32⟩
  | 72 => ⟨S_, .i32⟩
  | 73 => ⟨S100352, .i32⟩
  | 74 => ⟨S100352, .i1⟩
  | 75 => ⟨S_, .i32⟩
  | 76 => ⟨S100352, .i32⟩
  | 77 => ⟨S100352, .i1⟩
  | 78 => ⟨S_, .i32⟩
  | 79 => ⟨S_, .i1⟩
  | 80 => ⟨S100352, .i1⟩
  | 81 => ⟨S100352, .i1⟩
  | 82 => ⟨S100352, .i1⟩
  | 83 => ⟨S100352, .i32⟩
  | 84 => ⟨S100352, .i32⟩
  | 85 => ⟨S100352, .i32⟩
  | 86 => ⟨S_, .i32⟩
  | 87 => ⟨S_, .i32⟩
  | 88 => ⟨S100352, .i32⟩
  | 89 => ⟨S100352, .i32⟩
  | 90 => ⟨S100352, .i32⟩
  | 91 => ⟨S_, .i32⟩
  | 92 => ⟨S100352, .i32⟩
  | 93 => ⟨S100352, .i1⟩
  | 94 => ⟨S100352, .i32⟩
  | 95 => ⟨S100352, .i32⟩
  | 96 => ⟨S_, .i32⟩
  | 97 => ⟨S100352, .i32⟩
  | 98 => ⟨S100352, .i1⟩
  | 99 => ⟨S100352, .i1⟩
  | 100 => ⟨S_, .i32⟩
  | 101 => ⟨S100352, .i32⟩
  | 102 => ⟨S100352, .i32⟩
  | 103 => ⟨S100352, .i32⟩
  | 104 => ⟨S_, .i32⟩
  | 105 => ⟨S_, .i32⟩
  | 106 => ⟨S100352, .i32⟩
  | 107 => ⟨S100352, .i32⟩
  | 108 => ⟨S100352, .i32⟩
  | 109 => ⟨S_, .i32⟩
  | 110 => ⟨S100352, .i32⟩
  | 111 => ⟨S100352, .i1⟩
  | 112 => ⟨S100352, .i32⟩
  | 113 => ⟨S100352, .i32⟩
  | 114 => ⟨S_, .i32⟩
  | 115 => ⟨S100352, .i32⟩
  | 116 => ⟨S100352, .i1⟩
  | 117 => ⟨S100352, .i1⟩
  | 118 => ⟨S_, .i32⟩
  | 119 => ⟨S100352, .i32⟩
  | 120 => ⟨S100352, .i32⟩
  | 121 => ⟨S100352, .i32⟩
  | 122 => ⟨S_, .i32⟩
  | 123 => ⟨S100352, .i32⟩
  | 124 => ⟨S100352, .i32⟩
  | 125 => ⟨S100352, .i32⟩
  | 126 => ⟨S_, .i32⟩
  | 127 => ⟨S100352, .i32⟩
  | _ => ⟨S4x192x25088, .f32⟩

abbrev hbmTy0_1 (i : Nat) : BufTy := match i % 128 with
  | 0 => ⟨S100352, .i32⟩
  | 1 => ⟨S100352, .i32⟩
  | 2 => ⟨S100352x1, .i32⟩
  | 3 => ⟨S_, .i32⟩
  | 4 => ⟨S100352x1, .i32⟩
  | 5 => ⟨S100352x1, .i1⟩
  | 6 => ⟨S_, .i32⟩
  | 7 => ⟨S100352x1, .i32⟩
  | 8 => ⟨S100352x1, .i32⟩
  | 9 => ⟨S100352x1, .i32⟩
  | 10 => ⟨S100352x1x1, .i32⟩
  | 11 => ⟨S4x192x100352x1, .f32⟩
  | 12 => ⟨S_, .f32⟩
  | 13 => ⟨S4x192x100352, .f32⟩
  | 14 => ⟨S_, .f32⟩
  | 15 => ⟨S4x192x100352, .f32⟩
  | 16 => ⟨S4x192x100352, .f32⟩
  | _ => ⟨S4x192x25088, .f32⟩

abbrev hbmTy (i : Nat) : BufTy := match i / 128 with
  | 0 => hbmTy0_0 i
  | 1 => hbmTy0_1 i
  | _ => ⟨S4x192x25088, .f32⟩

abbrev bufTy : (tb : Table) → Fin (tcTables nBuf tb) → BufTy
  | .hbm, ⟨i, _⟩ => hbmTy i
  | _, _ => ⟨S4x192x25088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v2 : Ref sig .tc := ⟨.hbm, 45, rfl⟩
abbrev main_c_1 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v3 : Ref sig .tc := ⟨.hbm, 63, rfl⟩
abbrev main_c_2 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_v5 : Ref sig .tc := ⟨.hbm, 73, rfl⟩
abbrev main_call3_v6 : Ref sig .tc := ⟨.hbm, 74, rfl⟩
abbrev main_call3_c_2 : Ref sig .tc := ⟨.hbm, 75, rfl⟩
abbrev main_call3_v7 : Ref sig .tc := ⟨.hbm, 76, rfl⟩
abbrev main_call3_v8 : Ref sig .tc := ⟨.hbm, 77, rfl⟩
abbrev main_call3_c_3 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_v4 : Ref sig .tc := ⟨.hbm, 85, rfl⟩
abbrev main_c_3 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_v6 : Ref sig .tc := ⟨.hbm, 93, rfl⟩
abbrev main_call4_v7 : Ref sig .tc := ⟨.hbm, 94, rfl⟩
abbrev main_call4_v8 : Ref sig .tc := ⟨.hbm, 95, rfl⟩
abbrev main_call4_c : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_c_0 : Ref sig .tc := ⟨.hbm, 100, rfl⟩
abbrev main_call4_v12 : Ref sig .tc := ⟨.hbm, 101, rfl⟩
abbrev main_call4_v13 : Ref sig .tc := ⟨.hbm, 102, rfl⟩
abbrev main_v5 : Ref sig .tc := ⟨.hbm, 103, rfl⟩
abbrev main_c_4 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_v6 : Ref sig .tc := ⟨.hbm, 111, rfl⟩
abbrev main_call5_v7 : Ref sig .tc := ⟨.hbm, 112, rfl⟩
abbrev main_call5_v8 : Ref sig .tc := ⟨.hbm, 113, rfl⟩
abbrev main_call5_c : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_0 : Ref sig .tc := ⟨.hbm, 118, rfl⟩
abbrev main_call5_v12 : Ref sig .tc := ⟨.hbm, 119, rfl⟩
abbrev main_call5_v13 : Ref sig .tc := ⟨.hbm, 120, rfl⟩
abbrev main_v6 : Ref sig .tc := ⟨.hbm, 121, rfl⟩
abbrev main_c_5 : Ref sig .tc := ⟨.hbm, 122, rfl⟩
abbrev main_v7 : Ref sig .tc := ⟨.hbm, 123, rfl⟩
abbrev main_v8 : Ref sig .tc := ⟨.hbm, 124, rfl⟩
abbrev main_v9 : Ref sig .tc := ⟨.hbm, 125, rfl⟩
abbrev main_c_6 : Ref sig .tc := ⟨.hbm, 126, rfl⟩
abbrev main_v10 : Ref sig .tc := ⟨.hbm, 127, rfl⟩
abbrev main_v11 : Ref sig .tc := ⟨.hbm, 128, rfl⟩
abbrev main_v12 : Ref sig .tc := ⟨.hbm, 129, rfl⟩
abbrev main_v13 : Ref sig .tc := ⟨.hbm, 130, rfl⟩
abbrev main_c_7 : Ref sig .tc := ⟨.hbm, 131, rfl⟩
abbrev main_v14 : Ref sig .tc := ⟨.hbm, 132, rfl⟩
abbrev main_v15 : Ref sig .tc := ⟨.hbm, 133, rfl⟩
abbrev main_c_8 : Ref sig .tc := ⟨.hbm, 134, rfl⟩
abbrev main_v16 : Ref sig .tc := ⟨.hbm, 135, rfl⟩
abbrev main_v17 : Ref sig .tc := ⟨.hbm, 136, rfl⟩
abbrev main_v18 : Ref sig .tc := ⟨.hbm, 137, rfl⟩
abbrev main_v19 : Ref sig .tc := ⟨.hbm, 138, rfl⟩
abbrev main_v20 : Ref sig .tc := ⟨.hbm, 139, rfl⟩
abbrev main_cst : Ref sig .tc := ⟨.hbm, 140, rfl⟩
abbrev main_v21 : Ref sig .tc := ⟨.hbm, 141, rfl⟩
abbrev main_cst_9 : Ref sig .tc := ⟨.hbm, 142, rfl⟩
abbrev main_v22 : Ref sig .tc := ⟨.hbm, 143, rfl⟩
abbrev main_v23 : Ref sig .tc := ⟨.hbm, 144, rfl⟩

abbrev nD : Nat := 1
abbrev τ : Topo := Topo.v7x

variable {F : FTy → Type} [FloatOps F]
-- ==== Proof.Setup.lean ====
/-
  The names the rest of the proof shares: the launch as the SparseCore library sees it, the resource algebra, the two
  arrays and the tile's four scratch buffers, and the thread of a grid coordinate.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The logic's resources, over the float values `F`. -/
abbrev MM (F : FTy → Type) : Type _ := MT nD τ sig (HIx 1) (Elt F) ℕ UU ℕ

abbrev EH : Emb UH (MM F) := embL
abbrev EC : UEmb Counters (MM F) := countersEmb

/-! ## Arrays, scratch buffers, semaphores -/

/-- `x` (the argument) and the result, as locations of device `d`. -/
abbrev xLoc (d : Dev nD) : Loc nD τ sig := (SparseCore.T d).loc main_arg0
abbrev oLoc (d : Dev nD) : Loc nD τ sig := (SparseCore.T d).loc main_v0

abbrev xV : Memref sig .scVector .hbm S4x192x25088 .f32 := Memref.whole main_arg0_scv
abbrev oV : Memref sig .scVector .hbm S4x192x100352 .f32 := Memref.whole main_v0_scv
/-- A tile's two input blocks and its two output blocks. -/
abbrev in0 : Memref sig .scVector .vmem S8x896 .f32 := Memref.whole cc0_scratch0
abbrev in1 : Memref sig .scVector .vmem S8x896 .f32 := Memref.whole cc0_scratch1
abbrev out0 : Memref sig .scVector .vmem S8x3584 .f32 := Memref.whole cc0_scratch2
abbrev out1 : Memref sig .scVector .vmem S8x3584 .f32 := Memref.whole cc0_scratch3

/-- The tile that runs grid coordinate `i`. -/
abbrev cV (i : grid0.Coords) : Fin τ.nSC := (i 0).castLE hcore0
abbrev sV (i : grid0.Coords) : Fin τ.nSub := (i 1).castLE hsub0
abbrev thr (d : Dev nD) (i : grid0.Coords) : Thread nD τ := V d (cV i) (sV i)

/-- The tile's programs. -/
abbrev TileProg (F : FTy → Type) [FloatOps F] (i : grid0.Coords) (α : Type) : Type 1 :=
  Prog (TpuEff nD τ sig (Elt F) Λ₀ (.scVector ((i 0).castLE hcore0) ((i 1).castLE hsub0))) α

/-- Weakest precondition of a tile's program. -/
abbrev tileWp [FloatOps F] (d : Dev nD) (i : grid0.Coords) {α : Type} (p : TileProg F i α) (Q : α → sProp (MM F)) : sProp (MM F) :=
  wp frame (wpE (defs₀ (F := F)) 𝒱₀ (thr d i) none) Set.univ p Q

end Cert.Proof.Unpool

end
-- ==== Proof.Trip.lean ====
/-
  One trip of the kernel's inner loop: seven gathers of sixteen lanes out of the input block, each stored twice into
  the output block. The trip is stated once, over the offsets and the index vectors it takes.
-/
module

public import proofs.«01_k».proof.Proof.Setup

@[expose] public section

noncomputable section

namespace Cert.Proof.Unpool

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- An offset at which sixteen lanes of a row of the output block lie inside it. -/
abbrev RowOff : Type := {o : Fin 2 → ℕ // ∀ a, o a + S1x16.size a ≤ S8x3584.size a}

/-- The sixteen lanes at an offset. -/
abbrev RowOff.rect (o : RowOff) : Rect S8x3584 := Rect.unit (s := S8x3584) o.1 S1x16.size o.2

/-- Load a row piece and store `w` over it. -/
def put (i : grid0.Coords) (dst : Memref sig .scVector .vmem S8x3584 .f32) (o : RowOff) (w : Vec F S16 .f32) : TileProg F i PUnit := do
  let _ ← Prog.lift (.load dst o.rect.toLoadRect (View.loadsAt_vmem h_S1x16))
  Prog.lift (.store dst o.rect (shapeCast S1x16 w shapeCasts_S16_S1x16) Finset.univ (View.stores_vmem_bits_univ h_S1x16 rfl) (.inl rfl))

/-- Gather sixteen lanes of the input block and store them at two offsets of the output block. -/
def gatherTwo (i : grid0.Coords) (src : Memref sig .scVector .vmem S8x896 .f32) (dst : Memref sig .scVector .vmem S8x3584 .f32)
    (cv ix : IVec S16 32) (o p : RowOff) : TileProg F i PUnit := do
  have hw : k0_chk1 cv ix := (← Prog.lift (TpuEff.assume (k0_chk1 cv ix) (k0_chk1.dec cv ix))).down
  let v : Vec F S16 .f32 ← SparseCore.vectorLoadIdx src ![cv, ix] (k0_idx1_inb cv ix hw) (View.loads_vmem h_S8x896)
  put i dst o v
  put i dst p v

/-- The trip. -/
def trip (i : grid0.Coords) (src : Memref sig .scVector .vmem S8x896 .f32) (dst : Memref sig .scVector .vmem S8x3584 .f32)
    (cv : IVec S16 32) (ix : Fin 7 → IVec S16 32) (o p : Fin 7 → RowOff) : TileProg F i PUnit := do
  gatherTwo i src dst cv (ix 0) (o 0) (p 0)
  gatherTwo i src dst cv (ix 1) (o 1) (p 1)
  gatherTwo i src dst cv (ix 2) (o 2) (p 2)
  gatherTwo i src dst cv (ix 3) (o 3) (p 3)
  gatherTwo i src dst cv (ix 4) (o 4) (p 4)
  gatherTwo i src dst cv (ix 5) (o 5) (p 5)
  gatherTwo i src dst cv (ix 6) (o 6) (p 6)
  pure ⟨⟩

/-! ## The block a finished output holds -/

/-- The input column that feeds output column `w`. -/
def srcCol (w : ℕ) : ℕ := 56 * (w / 224) + w % 112 / 2

theorem srcCol_lt {w : ℕ} (h : w < 3584) : srcCol w < 896 := by unfold srcCol; omega

/-- The input index that feeds an index of the output block. -/
def srcIdx (y : S8x3584.Idx) : S8x896.Idx
  | ⟨0, _⟩ => (y 0 : Fin 8)
  | ⟨1, _⟩ => (⟨srcCol (y 1).val, srcCol_lt (y 1).isLt⟩ : Fin 896)

/-- The output block an input block expands to. -/
def expand {α : Type} (f : S8x896.Idx → α) (y : S8x3584.Idx) : α := f (srcIdx y)

/-- Lane `l` of a vector of sixteen. -/
def lane (l : Fin 16) : S16.Idx
  | ⟨0, _⟩ => l

/-- `E` and what the view reads agree on the indices of `A`. -/
abbrev Agrees {α : Type} (A : S8x3584.Idx → Prop) (r E : S8x3584.Idx → α) : Prop := ∀ y, A y → r y = E y

section Steps

variable (d : Dev nD) (i : grid0.Coords) (dst : Memref sig .scVector .vmem S8x3584 .f32)

/-- A piece stored is a piece agreeing, where the lanes stored are those of `E`. -/
theorem put_spec (o : RowOff) (w : Vec F S16 .f32) (E : S8x3584.Idx → Elt F .f32) (A : S8x3584.Idx → Prop)
    (hw : ∀ (l : Fin 16) (y : S8x3584.Idx), (y 0).val = o.1 0 → (y 1).val = o.1 1 + l.val → w (lane l) = E y)
    (g : Buf (Elt F) (dst.view.loc (thr d i))) (hg : Agrees A (dst.view.read (Elt F) g) E) (Q : PUnit → sProp (MM F)) :
    (dst.view.loc (thr d i) ↦{fullShare} g)
      ⊢ iprop((∀ g', ⌜Agrees (fun y => A y ∨ y ∈ o.rect.set) (dst.view.read (Elt F) g') E⌝ -∗ (dst.view.loc (thr d i) ↦{fullShare} g') -∗ Q ⟨⟩)
        -∗ tileWp d i (put i dst o w) Q) := by
  unfold put
  simp only [Prog.lift, Prog.bind_op, Prog.bind_ret]
  iintro Hd HQ
  iapply (wp_load 𝒱₀ (thr d i) none Set.univ (m := dst) (S := Finset.univ) (Finset.subset_univ _)) $$ Hd
  iintro Hd
  iapply (wp_store 𝒱₀ (thr d i) none Set.univ (m := dst) (r := o.rect) (Mk := Finset.univ) (S := Finset.univ) (Finset.subset_univ _)) $$ Hd
  iintro Hd
  rw [wp_ret]; imodintro
  iapply HQ $$ [] Hd
  ipureintro
  intro y hy
  by_cases hm : y ∈ o.rect.set
  · obtain ⟨x, rfl⟩ := o.rect.exists_idx_of_mem hm
    refine (View.read_slice_write_emb o.rect _ _ (Finset.mem_univ x)).trans ?_
    rw [← hw (x 1) _ ?_ ?_]
    · refine (shapeCast_addUnit_apply ![16] w _ x).trans (congrArg w (funext fun a => ?_))
      match a with
      | ⟨0, _⟩ => rfl
    · have h0 : (x 0).val < 1 := (x 0).isLt
      show o.1 0 + 1 * (x 0).val = _; omega
    · show o.1 1 + 1 * (x 1).val = o.1 1 + (x 1).val; rw [Nat.one_mul]
  · refine (View.read_slice_write_of_not_mem o.rect _ _ _ (by rwa [Rect.map_emb_univ])).trans ?_
    exact hg y (hy.resolve_right hm)

variable (src : Memref sig .scVector .vmem S8x896 .f32)

omit [FloatOps F] in
theorem lane_eq (x : S16.Idx) : x = lane (x 0) := by
  funext a; match a with | ⟨0, _⟩ => rfl

/-- What a gather reads, by lane. -/
theorem loadIdx_lane (f : Vec F S8x896 .f32) {cv ix : IVec S16 32}
    (h : ∀ a x, ((![cv, ix] : Fin 2 → IVec S16 32) a x).toNat < S8x896.size a) (l : Fin 16) (y : S8x3584.Idx)
    (h0 : (cv (lane l)).toNat = (y 0).val) (h1 : (ix (lane l)).toNat = srcCol (y 1).val) :
    loadIdx (F := F) (e := .f32) f ![cv, ix] h (lane l) = expand f y := by
  unfold loadIdx expand
  refine congrArg f (funext fun a => ?_)
  match a with
  | ⟨0, _⟩ => exact Fin.ext h0
  | ⟨1, _⟩ => exact Fin.ext h1

/-- Two pieces gathered and stored: both agree with the expansion of the input block. -/
theorem gatherTwo_spec (cv ix : IVec S16 32) (o p : RowOff) (cc c0 w0 : ℕ)
    (hcc : cc < 8) (hcv : ∀ l, (cv (lane l)).toNat = cc)
    (hix : ∀ l : Fin 16, (ix (lane l)).toNat = c0 + l.val / 2) (hc0 : c0 + 8 ≤ 896)
    (ho : o.1 = ![cc, w0]) (hp : p.1 = ![cc, w0 + 112])
    (hso : ∀ l : Fin 16, srcCol (w0 + l.val) = c0 + l.val / 2) (hsp : ∀ l : Fin 16, srcCol (w0 + 112 + l.val) = c0 + l.val / 2)
    (A : S8x3584.Idx → Prop) (f : Buf (Elt F) (src.view.loc (thr d i)))
    (g : Buf (Elt F) (dst.view.loc (thr d i))) (hg : Agrees A (dst.view.read (Elt F) g) (expand (src.view.read (Elt F) f)))
    (Q : PUnit → sProp (MM F)) :
    iprop((src.view.loc (thr d i) ↦{fullShare} f) ∗ (dst.view.loc (thr d i) ↦{fullShare} g))
      ⊢ iprop((∀ g', ⌜Agrees (fun y => A y ∨ ((y 0).val = cc ∧ w0 ≤ (y 1).val ∧ (y 1).val < w0 + 16)
              ∨ ((y 0).val = cc ∧ w0 + 112 ≤ (y 1).val ∧ (y 1).val < w0 + 128)) (dst.view.read (Elt F) g') (expand (src.view.read (Elt F) f))⌝
            -∗ (src.view.loc (thr d i) ↦{fullShare} f) -∗ (dst.view.loc (thr d i) ↦{fullShare} g') -∗ Q ⟨⟩)
        -∗ tileWp d i (gatherTwo i src dst cv ix o p) Q) := by
  have hchk : k0_chk1 cv ix := by
    intro a x
    obtain ⟨l, rfl⟩ : ∃ l : Fin 16, x = lane l := ⟨x 0, lane_eq x⟩
    match a with
    | ⟨0, _⟩ => exact (hcv l).trans_lt hcc
    | ⟨1, _⟩ => exact (hix l).trans_lt (show c0 + l.val / 2 < 896 by omega)
  have hmem : ∀ (q : RowOff) (w : ℕ), q.1 = ![cc, w] → ∀ y : S8x3584.Idx,
      ((y 0).val = cc ∧ w ≤ (y 1).val ∧ (y 1).val < w + 16) → y ∈ q.rect.set := by
    intro q w hq y hy
    refine Rect.mem_set_unit.mpr fun a => ?_
    match a with
    | ⟨0, _⟩ => rw [hq]; show cc ≤ (y 0).val ∧ (y 0).val < cc + 1; omega
    | ⟨1, _⟩ => rw [hq]; show w ≤ (y 1).val ∧ (y 1).val < w + 16; omega
  unfold gatherTwo
  simp only [Prog.lift, Prog.bind_op, Prog.bind_ret]
  unfold tileWp
  iintro ⟨Hs, Hd⟩ HQ
  rw [wp_assume_of _ _ _ _ hchk]
  iapply (SparseCore.wp_vectorLoadIdx 𝒱₀ (thr d i) none Set.univ (base := src) (S := Finset.univ) (q := fullShare) (Finset.subset_univ _)) $$ Hs
  iintro Hs
  rw [wp_bind]
  have hrd : (src.access (.whole S8x896)).read (Elt F) f = src.view.read (Elt F) f := by
    funext x
    rw [View.read_apply, View.read_apply]; simp
  rw [hrd]
  iapply (put_spec d i dst o _ (expand (src.view.read (Elt F) f)) A ?_ g hg) $$ Hd
  · intro l y h0 h1
    rw [ho] at h0 h1
    exact loadIdx_lane _ _ l y ((hcv l).trans h0.symm) ((hix l).trans ((hso l).symm.trans (congrArg srcCol h1.symm)))
  iintro %g1 %hg1 Hd
  iapply (put_spec d i dst p _ (expand (src.view.read (Elt F) f)) _ ?_ g1 hg1) $$ Hd
  · intro l y h0 h1
    rw [hp] at h0 h1
    exact loadIdx_lane _ _ l y ((hcv l).trans h0.symm) ((hix l).trans ((hsp l).symm.trans (congrArg srcCol h1.symm)))
  iintro %g2 %hg2 Hd
  iapply HQ $$ [] Hs Hd
  ipureintro
  intro y hy
  refine hg2 y ?_
  rcases hy with hy | hy | hy
  · exact .inl (.inl hy)
  · exact .inl (.inr (hmem o w0 ho y hy))
  · exact .inr (hmem p (w0 + 112) hp y hy)

/-! ## The trip -/

/-- The index vector of gather `j` in trip `t`. -/
def colIdx (v5 : IVec S16 32) (t : ℕ) (j : BitVec 32) : IVec S16 32 :=
  addi (broadcast S16 (Scalar.addi (Scalar.muli 56#32 (Scalar.addi 0#32 (Scalar.muli (Scf.iv 0#32 1#32 t) 1#32))) j)) v5

/-- The seven column offsets of a trip's gathers. -/
def cols : Fin 7 → BitVec 32 := ![0#32, 8#32, 16#32, 24#32, 32#32, 40#32, 48#32]

omit [FloatOps F] in
theorem colIdx_lane : ∀ (t : Fin 16) (j : Fin 7) (l : Fin 16),
    (colIdx k0_pay129 t.val (cols j) (lane l)).toNat = 56 * t.val + 8 * j.val + l.val / 2 := by
  decide +kernel

/-- The part of the output block finished before trip `t` of channel `cc`. -/
def Done (cc t : ℕ) (y : S8x3584.Idx) : Prop := (y 0).val < cc ∨ (y 0).val = cc ∧ (y 1).val < 224 * t

/-- The part finished after `k` of trip `t`'s gathers. -/
def Part (cc t k : ℕ) (y : S8x3584.Idx) : Prop :=
  (y 0).val < cc ∨ (y 0).val = cc ∧ ((y 1).val < 224 * t + 16 * k ∨ (224 * t + 112 ≤ (y 1).val ∧ (y 1).val < 224 * t + 112 + 16 * k))

omit [FloatOps F] in
theorem part_succ {cc t k : ℕ} {y : S8x3584.Idx} (h : Part cc t (k + 1) y) :
    Part cc t k y ∨ ((y 0).val = cc ∧ 224 * t + 16 * k ≤ (y 1).val ∧ (y 1).val < 224 * t + 16 * k + 16)
      ∨ ((y 0).val = cc ∧ 224 * t + 16 * k + 112 ≤ (y 1).val ∧ (y 1).val < 224 * t + 16 * k + 128) := by
  unfold Part at h ⊢
  generalize (y 0).val = a at *
  generalize (y 1).val = b at *
  omega

omit [FloatOps F] in
theorem part_zero {cc t : ℕ} {y : S8x3584.Idx} (h : Part cc t 0 y) : Done cc t y := by
  unfold Part at h; unfold Done
  generalize (y 0).val = a at *
  generalize (y 1).val = b at *
  omega

omit [FloatOps F] in
theorem part_seven {cc t : ℕ} {y : S8x3584.Idx} (h : Done cc (t + 1) y) : Part cc t 7 y := by
  unfold Done at h; unfold Part
  generalize (y 0).val = a at *
  generalize (y 1).val = b at *
  omega

/-- A trip finishes the next 224 columns of its channel. -/
theorem trip_spec (cv : IVec S16 32) (ix : Fin 7 → IVec S16 32) (o p : Fin 7 → RowOff) (cc t : ℕ)
    (hcc : cc < 8) (ht : t < 16) (hcv : ∀ l, (cv (lane l)).toNat = cc)
    (hix : ∀ (j : Fin 7) (l : Fin 16), (ix j (lane l)).toNat = 56 * t + 8 * j.val + l.val / 2)
    (ho : ∀ j : Fin 7, (o j).1 = ![cc, 224 * t + 16 * j.val]) (hp : ∀ j : Fin 7, (p j).1 = ![cc, 224 * t + 16 * j.val + 112])
    (f : Buf (Elt F) (src.view.loc (thr d i)))
    (g : Buf (Elt F) (dst.view.loc (thr d i)))
    (hg : Agrees (Done cc t) (dst.view.read (Elt F) g) (expand (src.view.read (Elt F) f))) :
    iprop((src.view.loc (thr d i) ↦{fullShare} f) ∗ (dst.view.loc (thr d i) ↦{fullShare} g))
      ⊢ tileWp d i (trip i src dst cv ix o p) fun _ =>
          iprop((src.view.loc (thr d i) ↦{fullShare} f) ∗ ∃ g', ⌜Agrees (Done cc (t + 1)) (dst.view.read (Elt F) g') (expand (src.view.read (Elt F) f))⌝
            ∗ (dst.view.loc (thr d i) ↦{fullShare} g')) := by
  have step : ∀ (j : Fin 7) (g : Buf (Elt F) (dst.view.loc (thr d i)))
      (_ : Agrees (Part cc t j.val) (dst.view.read (Elt F) g) (expand (src.view.read (Elt F) f))) (Q : PUnit → sProp (MM F)),
      iprop((src.view.loc (thr d i) ↦{fullShare} f) ∗ (dst.view.loc (thr d i) ↦{fullShare} g))
        ⊢ iprop((∀ g', ⌜Agrees (Part cc t (j.val + 1)) (dst.view.read (Elt F) g') (expand (src.view.read (Elt F) f))⌝
              -∗ (src.view.loc (thr d i) ↦{fullShare} f) -∗ (dst.view.loc (thr d i) ↦{fullShare} g') -∗ Q ⟨⟩)
          -∗ tileWp d i (gatherTwo i src dst cv (ix j) (o j) (p j)) Q) := by
    intro j g hg Q
    have hj : j.val < 7 := j.isLt
    iintro H HQ
    iapply (gatherTwo_spec d i dst src cv (ix j) (o j) (p j) cc (56 * t + 8 * j.val) (224 * t + 16 * j.val) hcc hcv (hix j) (by omega)
      (ho j) (hp j) (by intro l; unfold srcCol; omega) (by intro l; unfold srcCol; omega) _ f g hg) $$ H
    iintro %g' %hg' Hs Hd
    iapply HQ $$ [] Hs Hd
    ipureintro
    exact fun y hy => hg' y (part_succ hy)
  unfold trip
  simp only [wp_bind]
  iintro H
  iapply (step 0 g fun y hy => hg y (part_zero hy)) $$ H
  iintro %g0 %hg0 Hs Hd
  iapply (step 1 g0 hg0) $$ [Hs Hd]
  · isplitl [Hs] <;> iassumption
  iintro %g1 %hg1 Hs Hd
  iapply (step 2 g1 hg1) $$ [Hs Hd]
  · isplitl [Hs] <;> iassumption
  iintro %g2 %hg2 Hs Hd
  iapply (step 3 g2 hg2) $$ [Hs Hd]
  · isplitl [Hs] <;> iassumption
  iintro %g3 %hg3 Hs Hd
  iapply (step 4 g3 hg3) $$ [Hs Hd]
  · isplitl [Hs] <;> iassumption
  iintro %g4 %hg4 Hs Hd
  iapply (step 5 g4 hg4) $$ [Hs Hd]
  · isplitl [Hs] <;> iassumption
  iintro %g5 %hg5 Hs Hd
  iapply (step 6 g5 hg5) $$ [Hs Hd]
  · isplitl [Hs] <;> iassumption
  iintro %g6 %hg6 Hs Hd
  rw [Prog.pure_eq_ret, wp_ret]; imodintro
  isplitl [Hs]; · iexact Hs
  iexists g6
  isplitr
  · ipureintro
    exact fun y hy => hg6 y (part_seven hy)
  · iexact Hd

/-! ## The loop over a channel's sixteen column groups -/

omit [FloatOps F] in
theorem done_wrap {cc t : ℕ} (ht : t = 16) {y : S8x3584.Idx} (h : Done (cc + 1) 0 y) : Done cc t y := by
  have hy : (y 1).val < 3584 := (y 1).isLt
  unfold Done at h ⊢
  generalize (y 0).val = a at *
  generalize (y 1).val = b at *
  omega

/-- The loop whose trips are `trip`s finishes a channel. -/
theorem loop_spec (L : Scf.Loop 32) (hok : L.OK) (hL : L.trips = 16) (body : Fin L.trips → Unit → TileProg F i Unit)
    (cv : IVec S16 32) (cc : ℕ) (o p : Fin L.trips → Fin 7 → RowOff) (hcc : cc < 8) (hcv : ∀ l, (cv (lane l)).toNat = cc)
    (hbody : ∀ t, body t ⟨⟩ = trip i src dst cv (fun j => colIdx k0_pay129 t.val (cols j)) (o t) (p t))
    (ho : ∀ t j, (o t j).1 = ![cc, 224 * t.val + 16 * j.val]) (hp : ∀ t j, (p t j).1 = ![cc, 224 * t.val + 16 * j.val + 112])
    (f : Buf (Elt F) (src.view.loc (thr d i))) (Q : Unit → sProp (MM F)) :
    iprop((src.view.loc (thr d i) ↦{fullShare} f)
        ∗ ∃ g, ⌜Agrees (Done cc 0) (dst.view.read (Elt F) g) (expand (src.view.read (Elt F) f))⌝ ∗ (dst.view.loc (thr d i) ↦{fullShare} g))
      ⊢ iprop((iprop((src.view.loc (thr d i) ↦{fullShare} f)
            ∗ ∃ g, ⌜Agrees (Done (cc + 1) 0) (dst.view.read (Elt F) g) (expand (src.view.read (Elt F) f))⌝ ∗ (dst.view.loc (thr d i) ↦{fullShare} g)) -∗ Q ⟨⟩)
        -∗ tileWp d i (Scf.Loop.for L hok ⟨⟩ body) Q) := by
  iintro H HQ
  iapply (Scf.wp_for Idealize.ShloMosaic.frame (wpE (defs₀ (F := F)) 𝒱₀ (thr d i) none) Set.univ L.lb L.ub L.st hok ⟨⟩ body
    (fun t _ => iprop((src.view.loc (thr d i) ↦{fullShare} f)
        ∗ ∃ g, ⌜Agrees (Done cc t) (dst.view.read (Elt F) g) (expand (src.view.read (Elt F) f))⌝ ∗ (dst.view.loc (thr d i) ↦{fullShare} g))) ?_)
  · intro t _
    have ht : t.val < 16 := t.isLt.trans_eq hL
    rw [hbody t]
    iintro ⟨Hs, %g, %hg, Hd⟩
    iapply (trip_spec d i dst src cv _ (o t) (p t) cc t.val hcc ht hcv (fun j l => colIdx_lane ⟨t.val, ht⟩ j l) (ho t) (hp t) f g hg)
    isplitl [Hs] <;> iassumption
  · isplitl [H]; · iexact H
    iintro %_ ⟨Hs, %g, %hg, Hd⟩
    iapply HQ
    isplitl [Hs]; · iexact Hs
    iexists g
    isplitr
    · ipureintro; exact fun y hy => hg y (done_wrap hL hy)
    · iexact Hd

end Steps

end Cert.Proof.Unpool

end
-- ==== Proof.Blocks.lean ====
/-
  The blocks of the two arrays: where block `k` of the input and block `k` of the result lie, the offsets the tile
  computes for them, and what a window at such an offset reads and covers.
-/
module

public import proofs.«01_k».proof.Proof.Trip

@[expose] public section

noncomputable section

namespace Cert.Proof.Unpool

open Cert.KernelIdeal Cert.KernelIdeal.Gen

open Idealize.ShloMosaic

/-! ## The offsets the tile computes -/

/-- The first block of the tile at `i`. -/
abbrev base (i : grid0.Coords) : ℕ := 84 * (2 * (i 1).val + (i 0).val)

/-- Where input block `k` begins. -/
abbrev inOff (k : ℕ) : Fin 3 → ℕ := ![k / 672, 8 * (k / 28 % 24), 896 * (k % 28)]
/-- Where result block `k` begins. -/
abbrev outOff (k : ℕ) : Fin 3 → ℕ := ![k / 672, 8 * (k / 28 % 24), 3584 * (k % 28)]

theorem off1_zero : ∀ (i : grid0.Coords) (a : Fin 3), k0_off1 i 0#32 a = inOff (base i) a := by decide +kernel
theorem off1_one : ∀ (i : grid0.Coords) (a : Fin 3), k0_off1 i 1#32 a = inOff (base i + 1) a := by decide +kernel
theorem off116_eq : ∀ (i : grid0.Coords) (t : Fin k0_t1_loop.trips) (a : Fin 3), k0_off116 i t a = outOff (base i + 2 * t.val) a := by decide +kernel
theorem off232_eq : ∀ (i : grid0.Coords) (t : Fin k0_t1_loop.trips) (a : Fin 3), k0_off232 i t a = outOff (base i + (2 * t.val + 1)) a := by decide +kernel
theorem off117_eq : ∀ (i : grid0.Coords) (t : Fin k0_t1_loop.trips), k0_cond2 t = 1#1 → ∀ a : Fin 3, k0_off117 i t a = inOff (base i + 2 * (t.val + 1)) a := by decide +kernel
theorem off233_eq : ∀ (i : grid0.Coords) (t : Fin k0_t1_loop.trips), k0_cond4 t = 1#1 → ∀ a : Fin 3, k0_off233 i t a = inOff (base i + (2 * (t.val + 1) + 1)) a := by decide +kernel

theorem cond1_iff : ∀ t : Fin k0_t1_loop.trips, k0_cond1 t = 1#1 ↔ t.val ≠ 0 := by decide +kernel
theorem cond2_iff : ∀ t : Fin k0_t1_loop.trips, k0_cond2 t = 1#1 ↔ t.val + 1 < 42 := by decide +kernel
theorem cond3_iff : ∀ t : Fin k0_t1_loop.trips, k0_cond3 t = 1#1 ↔ t.val ≠ 0 := by decide +kernel
theorem cond4_iff : ∀ t : Fin k0_t1_loop.trips, k0_cond4 t = 1#1 ↔ t.val + 1 < 42 := by decide +kernel
theorem t1_trips : k0_t1_loop.trips = 42 := by decide +kernel

theorem base_lt (i : grid0.Coords) : base i + 84 ≤ 2688 := by
  have h0 : (i 0).val < 2 := (i 0).isLt
  have h1 : (i 1).val < 16 := (i 1).isLt
  unfold base; omega

/-! ## The windows -/

/-- Block-sized window of the input at an offset. -/
abbrev xWin (o : Fin 3 → ℕ) (h : ∀ a, o a + S1x8x896.size a ≤ S4x192x25088.size a) : Memref sig .scVector .hbm S8x896 .f32 :=
  (xV.slice (Rect.unit (s := S4x192x25088) o S1x8x896.size h) (fun _ => rfl)).squeeze S8x896 squeezes_S1x8x896_S8x896
/-- Block-sized window of the result at an offset. -/
abbrev oWin (o : Fin 3 → ℕ) (h : ∀ a, o a + S1x8x3584.size a ≤ S4x192x100352.size a) : Memref sig .scVector .hbm S8x3584 .f32 :=
  (oV.slice (Rect.unit (s := S4x192x100352) o S1x8x3584.size h) (fun _ => rfl)).squeeze S8x3584 squeezes_S1x8x3584_S8x3584

/-- Element `y` of input block `k`. -/
def xIdx (k : ℕ) (y : S8x896.Idx) : S4x192x25088.Idx
  | ⟨0, _⟩ => (⟨k / 672 % 4, Nat.mod_lt _ (by decide)⟩ : Fin 4)
  | ⟨1, _⟩ => (⟨8 * (k / 28 % 24) + (y 0).val, by have h : (y 0).val < 8 := (y 0).isLt; omega⟩ : Fin 192)
  | ⟨2, _⟩ => (⟨896 * (k % 28) + (y 1).val, by have h : (y 1).val < 896 := (y 1).isLt; omega⟩ : Fin 25088)

/-- Element `y` of result block `k`. -/
def oIdx (k : ℕ) (y : S8x3584.Idx) : S4x192x100352.Idx
  | ⟨0, _⟩ => (⟨k / 672 % 4, Nat.mod_lt _ (by decide)⟩ : Fin 4)
  | ⟨1, _⟩ => (⟨8 * (k / 28 % 24) + (y 0).val, by have h : (y 0).val < 8 := (y 0).isLt; omega⟩ : Fin 192)
  | ⟨2, _⟩ => (⟨3584 * (k % 28) + (y 1).val, by have h : (y 1).val < 3584 := (y 1).isLt; omega⟩ : Fin 100352)

theorem xWin_emb {o : Fin 3 → ℕ} (h : ∀ a, o a + S1x8x896.size a ≤ S4x192x25088.size a) {k : ℕ} (hk : k < 2688)
    (ho : ∀ a, o a = inOff k a) (y : S8x896.Idx) : (xWin o h).view.emb y = xIdx k y := by
  show ((xV.view.slice (Rect.unit (s := S4x192x25088) o S1x8x896.size h)).reshape S8x896 squeezes_S1x8x896_S8x896.numel_eq).emb y = _
  rw [View.emb_reshape, View.emb_slice]
  show (Rect.unit (s := S4x192x25088) o S1x8x896.size h).emb (Shape.reshapeEquiv _ y) = _
  rw [Shape.reshapeEquiv_cons_one]
  funext a
  apply Fin.ext
  match a with
  | ⟨0, _⟩ => show o 0 + 1 * 0 = k / 672 % 4; rw [ho]; show k / 672 + 1 * 0 = _; omega
  | ⟨1, _⟩ => show o 1 + 1 * (y 0).val = 8 * (k / 28 % 24) + (y 0).val; rw [ho, Nat.one_mul]; rfl
  | ⟨2, _⟩ => show o 2 + 1 * (y 1).val = 896 * (k % 28) + (y 1).val; rw [ho, Nat.one_mul]; rfl

theorem oWin_emb {o : Fin 3 → ℕ} (h : ∀ a, o a + S1x8x3584.size a ≤ S4x192x100352.size a) {k : ℕ} (hk : k < 2688)
    (ho : ∀ a, o a = outOff k a) (y : S8x3584.Idx) : (oWin o h).view.emb y = oIdx k y := by
  show ((oV.view.slice (Rect.unit (s := S4x192x100352) o S1x8x3584.size h)).reshape S8x3584 squeezes_S1x8x3584_S8x3584.numel_eq).emb y = _
  rw [View.emb_reshape, View.emb_slice]
  show (Rect.unit (s := S4x192x100352) o S1x8x3584.size h).emb (Shape.reshapeEquiv _ y) = _
  rw [Shape.reshapeEquiv_cons_one]
  funext a
  apply Fin.ext
  match a with
  | ⟨0, _⟩ => show o 0 + 1 * 0 = k / 672 % 4; rw [ho]; show k / 672 + 1 * 0 = _; omega
  | ⟨1, _⟩ => show o 1 + 1 * (y 0).val = 8 * (k / 28 % 24) + (y 0).val; rw [ho, Nat.one_mul]; rfl
  | ⟨2, _⟩ => show o 2 + 1 * (y 1).val = 3584 * (k % 28) + (y 1).val; rw [ho, Nat.one_mul]; rfl

/-! ## The result's blocks as sets -/

/-- The block a result element lies in. -/
def blkOf (x : S4x192x100352.Idx) : ℕ := 672 * (x 0).val + 28 * ((x 1).val / 8) + (x 2).val / 3584

/-- Result block `k`. -/
def blk (k : ℕ) : Finset S4x192x100352.Idx := Finset.univ.filter fun x => blkOf x = k

theorem blkOf_lt (x : S4x192x100352.Idx) : blkOf x < 2688 := by
  have h0 : (x 0).val < 4 := (x 0).isLt
  have h1 : (x 1).val < 192 := (x 1).isLt
  have h2 : (x 2).val < 100352 := (x 2).isLt
  unfold blkOf; omega

theorem blkOf_oIdx {k : ℕ} (hk : k < 2688) (y : S8x3584.Idx) : blkOf (oIdx k y) = k := by
  have h0 : (y 0).val < 8 := (y 0).isLt
  have h1 : (y 1).val < 3584 := (y 1).isLt
  show 672 * (k / 672 % 4) + 28 * ((8 * (k / 28 % 24) + (y 0).val) / 8) + (3584 * (k % 28) + (y 1).val) / 3584 = k
  have e1 : (8 * (k / 28 % 24) + (y 0).val) / 8 = k / 28 % 24 := by omega
  have e2 : (3584 * (k % 28) + (y 1).val) / 3584 = k % 28 := by omega
  rw [e1, e2]; omega

/-- The position in its block of a result element. -/
def inBlk (x : S4x192x100352.Idx) : S8x3584.Idx
  | ⟨0, _⟩ => (⟨(x 1).val % 8, Nat.mod_lt _ (by decide)⟩ : Fin 8)
  | ⟨1, _⟩ => (⟨(x 2).val % 3584, Nat.mod_lt _ (by decide)⟩ : Fin 3584)

theorem oIdx_inBlk (x : S4x192x100352.Idx) : oIdx (blkOf x) (inBlk x) = x := by
  have h0 : (x 0).val < 4 := (x 0).isLt
  have h1 : (x 1).val < 192 := (x 1).isLt
  have h2 : (x 2).val < 100352 := (x 2).isLt
  funext a
  apply Fin.ext
  match a with
  | ⟨0, _⟩ => show blkOf x / 672 % 4 = (x 0).val; unfold blkOf; omega
  | ⟨1, _⟩ => show 8 * (blkOf x / 28 % 24) + (x 1).val % 8 = (x 1).val; unfold blkOf; omega
  | ⟨2, _⟩ => show 3584 * (blkOf x % 28) + (x 2).val % 3584 = (x 2).val; unfold blkOf; omega

theorem mem_blk_iff {k : ℕ} (hk : k < 2688) (x : S4x192x100352.Idx) : x ∈ blk k ↔ ∃ y, oIdx k y = x := by
  unfold blk
  rw [Finset.mem_filter]
  constructor
  · rintro ⟨-, rfl⟩; exact ⟨inBlk x, oIdx_inBlk x⟩
  · rintro ⟨y, rfl⟩; exact ⟨Finset.mem_univ _, blkOf_oIdx hk y⟩

theorem oWin_set {o : Fin 3 → ℕ} (h : ∀ a, o a + S1x8x3584.size a ≤ S4x192x100352.size a) {k : ℕ} (hk : k < 2688)
    (ho : ∀ a, o a = outOff k a) : (oWin o h).view.set = blk k := by
  ext x
  rw [mem_blk_iff hk]
  constructor
  · intro hx
    obtain ⟨y, -, rfl⟩ := Finset.mem_map.mp hx
    exact ⟨y, (oWin_emb h hk ho y).symm⟩
  · rintro ⟨y, rfl⟩
    exact Finset.mem_map.mpr ⟨y, Finset.mem_univ _, oWin_emb h hk ho y⟩

/-! ## What the result holds -/

/-- The input column a result column repeats. -/
def gsrc (v : ℕ) : ℕ := 56 * (v / 224) + v % 112 / 2

theorem gsrc_lt {v : ℕ} (h : v < 100352) : gsrc v < 25088 := by unfold gsrc; omega

/-- The input element a result element repeats. -/
def gIdx (x : S4x192x100352.Idx) : S4x192x25088.Idx
  | ⟨0, _⟩ => (x 0 : Fin 4)
  | ⟨1, _⟩ => (x 1 : Fin 192)
  | ⟨2, _⟩ => (⟨gsrc (x 2).val, gsrc_lt (x 2).isLt⟩ : Fin 25088)

/-- The result as a function of the input. -/
def unpool {F : FTy → Type} (f : Vec F S4x192x25088 .f32) : Vec F S4x192x100352 .f32 := fun x => f (gIdx x)

/-- Input block `k`. -/
def xBlk {F : FTy → Type} (f : Vec F S4x192x25088 .f32) (k : ℕ) : Vec F S8x896 .f32 := fun y => f (xIdx k y)

/-- Block `k` of the result is block `k` of the input, expanded. -/
theorem unpool_oIdx {F : FTy → Type} (f : Vec F S4x192x25088 .f32) (k : ℕ) (y : S8x3584.Idx) :
    unpool f (oIdx k y) = expand (xBlk f k) y := by
  show f (gIdx (oIdx k y)) = f (xIdx k (srcIdx y))
  congr 1
  have h1 : (y 1).val < 3584 := (y 1).isLt
  funext a
  apply Fin.ext
  match a with
  | ⟨0, _⟩ => rfl
  | ⟨1, _⟩ => rfl
  | ⟨2, _⟩ =>
    show gsrc (3584 * (k % 28) + (y 1).val) = 896 * (k % 28) + srcCol (y 1).val
    unfold gsrc srcCol; omega

end Cert.Proof.Unpool

end
-- ==== Proof.Loops.lean ====
/-
  The sixteen inner loops of the kernel — eight channels of the block in each of the two buffers — are the loop of
  `Trip`: each theorem names one printed loop and the fourteen offsets its trip stores at.
-/
module

public import proofs.«01_k».proof.Proof.Trip

@[expose] public section

noncomputable section

namespace Cert.Proof.Unpool

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.Sem

variable {F : FTy → Type} [FloatOps F]

/-- An input block at `f` and an output block whose first `cc` channels hold the expansion of `f`. -/
def Blocks (d : Dev nD) (i : grid0.Coords) (src : Memref sig .scVector .vmem S8x896 .f32) (dst : Memref sig .scVector .vmem S8x3584 .f32)
    (f : Buf (Elt F) (src.view.loc (thr d i))) (cc : ℕ) : sProp (MM F) :=
  iprop((src.view.loc (thr d i) ↦{fullShare} f)
    ∗ ∃ g, ⌜Agrees (Done cc 0) (dst.view.read (Elt F) g) (expand (src.view.read (Elt F) f))⌝ ∗ (dst.view.loc (thr d i) ↦{fullShare} g))

/-- A loop takes the blocks from `cc` finished channels to one more. -/
abbrev Finishes (d : Dev nD) (i : grid0.Coords) (src : Memref sig .scVector .vmem S8x896 .f32) (dst : Memref sig .scVector .vmem S8x3584 .f32)
    (cc : ℕ) (p : TileProg F i Unit) : Prop :=
  ∀ (f : Buf (Elt F) (src.view.loc (thr d i))) (Q : Unit → sProp (MM F)),
    Blocks d i src dst f cc ⊢ iprop((Blocks d i src dst f (cc + 1) -∗ Q ⟨⟩) -∗ tileWp d i p Q)

section Loops

variable (d : Dev nD) (i : grid0.Coords) (arg2 : Memref sig .scVector .hbm S4x192x25088 .f32) (harg2 : arg2.IsWhole)
  (arg3 : Memref sig .scVector .hbm S4x192x100352 .f32) (harg3 : arg3.IsWhole) (arg4 : Memref sig .scVector .vmem S8x896 .f32) (harg4 : arg4.IsWhole)
  (arg5 : Memref sig .scVector .vmem S8x896 .f32) (harg5 : arg5.IsWhole) (arg6 : Memref sig .scVector .vmem S8x3584 .f32) (harg6 : arg6.IsWhole)
  (arg7 : Memref sig .scVector .vmem S8x3584 .f32) (harg7 : arg7.IsWhole) (arg8 arg9 arg10 arg11 : DmaSems sig S_)
  (v2 : BitVec 32) (k0_t1 : Fin k0_t1_loop.trips)

theorem t2_spec (v379 v380 v425 v452 v454 v455 : BitVec 32) (v456 v457 : BitVec 1) : Finishes (F := F) d i arg4 arg6 0 (Scf.Loop.for k0_t2_loop k0_t2_ok ⟨⟩ (k0_t2_body i arg2 harg2 arg3 harg3 arg4 harg4 arg5 harg5 arg6 harg6 arg7 harg7 arg8 arg9 arg10 arg11 v2 k0_pay129 k0_t1 v379 v380 v425 v452 v454 v455 v456 v457)) :=
  loop_spec d i arg6 arg4 k0_t2_loop k0_t2_ok (by decide) _ k0_pay113 0
    (fun t => ![⟨k0_off4 t, k0_off4_inb t⟩, ⟨k0_off6 t, k0_off6_inb t⟩, ⟨k0_off8 t, k0_off8_inb t⟩, ⟨k0_off10 t, k0_off10_inb t⟩, ⟨k0_off12 t, k0_off12_inb t⟩, ⟨k0_off14 t, k0_off14_inb t⟩, ⟨k0_off16 t, k0_off16_inb t⟩])
    (fun t => ![⟨k0_off5 t, k0_off5_inb t⟩, ⟨k0_off7 t, k0_off7_inb t⟩, ⟨k0_off9 t, k0_off9_inb t⟩, ⟨k0_off11 t, k0_off11_inb t⟩, ⟨k0_off13 t, k0_off13_inb t⟩, ⟨k0_off15 t, k0_off15_inb t⟩, ⟨k0_off17 t, k0_off17_inb t⟩])
    (by decide) (by decide +kernel) (fun _ => rfl) (by decide +kernel) (by decide +kernel)

theorem t3_spec (v379 v380 v425 v452 v454 v455 : BitVec 32) (v456 v457 : BitVec 1) : Finishes (F := F) d i arg4 arg6 1 (Scf.Loop.for k0_t3_loop k0_t3_ok ⟨⟩ (k0_t3_body i arg2 harg2 arg3 harg3 arg4 harg4 arg5 harg5 arg6 harg6 arg7 harg7 arg8 arg9 arg10 arg11 v2 k0_pay129 k0_t1 v379 v380 v425 v452 v454 v455 v456 v457)) :=
  loop_spec d i arg6 arg4 k0_t3_loop k0_t3_ok (by decide) _ k0_pay114 1
    (fun t => ![⟨k0_off18 t, k0_off18_inb t⟩, ⟨k0_off20 t, k0_off20_inb t⟩, ⟨k0_off22 t, k0_off22_inb t⟩, ⟨k0_off24 t, k0_off24_inb t⟩, ⟨k0_off26 t, k0_off26_inb t⟩, ⟨k0_off28 t, k0_off28_inb t⟩, ⟨k0_off30 t, k0_off30_inb t⟩])
    (fun t => ![⟨k0_off19 t, k0_off19_inb t⟩, ⟨k0_off21 t, k0_off21_inb t⟩, ⟨k0_off23 t, k0_off23_inb t⟩, ⟨k0_off25 t, k0_off25_inb t⟩, ⟨k0_off27 t, k0_off27_inb t⟩, ⟨k0_off29 t, k0_off29_inb t⟩, ⟨k0_off31 t, k0_off31_inb t⟩])
    (by decide) (by decide +kernel) (fun _ => rfl) (by decide +kernel) (by decide +kernel)

theorem t4_spec (v379 v380 v425 v452 v454 v455 : BitVec 32) (v456 v457 : BitVec 1) : Finishes (F := F) d i arg4 arg6 2 (Scf.Loop.for k0_t4_loop k0_t4_ok ⟨⟩ (k0_t4_body i arg2 harg2 arg3 harg3 arg4 harg4 arg5 harg5 arg6 harg6 arg7 harg7 arg8 arg9 arg10 arg11 v2 k0_pay129 k0_t1 v379 v380 v425 v452 v454 v455 v456 v457)) :=
  loop_spec d i arg6 arg4 k0_t4_loop k0_t4_ok (by decide) _ k0_pay115 2
    (fun t => ![⟨k0_off32 t, k0_off32_inb t⟩, ⟨k0_off34 t, k0_off34_inb t⟩, ⟨k0_off36 t, k0_off36_inb t⟩, ⟨k0_off38 t, k0_off38_inb t⟩, ⟨k0_off40 t, k0_off40_inb t⟩, ⟨k0_off42 t, k0_off42_inb t⟩, ⟨k0_off44 t, k0_off44_inb t⟩])
    (fun t => ![⟨k0_off33 t, k0_off33_inb t⟩, ⟨k0_off35 t, k0_off35_inb t⟩, ⟨k0_off37 t, k0_off37_inb t⟩, ⟨k0_off39 t, k0_off39_inb t⟩, ⟨k0_off41 t, k0_off41_inb t⟩, ⟨k0_off43 t, k0_off43_inb t⟩, ⟨k0_off45 t, k0_off45_inb t⟩])
    (by decide) (by decide +kernel) (fun _ => rfl) (by decide +kernel) (by decide +kernel)

theorem t5_spec (v379 v380 v425 v452 v454 v455 : BitVec 32) (v456 v457 : BitVec 1) : Finishes (F := F) d i arg4 arg6 3 (Scf.Loop.for k0_t5_loop k0_t5_ok ⟨⟩ (k0_t5_body i arg2 harg2 arg3 harg3 arg4 harg4 arg5 harg5 arg6 harg6 arg7 harg7 arg8 arg9 arg10 arg11 v2 k0_pay129 k0_t1 v379 v380 v425 v452 v454 v455 v456 v457)) :=
  loop_spec d i arg6 arg4 k0_t5_loop k0_t5_ok (by decide) _ k0_pay116 3
    (fun t => ![⟨k0_off46 t, k0_off46_inb t⟩, ⟨k0_off48 t, k0_off48_inb t⟩, ⟨k0_off50 t, k0_off50_inb t⟩, ⟨k0_off52 t, k0_off52_inb t⟩, ⟨k0_off54 t, k0_off54_inb t⟩, ⟨k0_off56 t, k0_off56_inb t⟩, ⟨k0_off58 t, k0_off58_inb t⟩])
    (fun t => ![⟨k0_off47 t, k0_off47_inb t⟩, ⟨k0_off49 t, k0_off49_inb t⟩, ⟨k0_off51 t, k0_off51_inb t⟩, ⟨k0_off53 t, k0_off53_inb t⟩, ⟨k0_off55 t, k0_off55_inb t⟩, ⟨k0_off57 t, k0_off57_inb t⟩, ⟨k0_off59 t, k0_off59_inb t⟩])
    (by decide) (by decide +kernel) (fun _ => rfl) (by decide +kernel) (by decide +kernel)

theorem t6_spec (v380 : BitVec 32) : Finishes (F := F) d i arg4 arg6 4 (Scf.Loop.for k0_t6_loop k0_t6_ok ⟨⟩ (k0_t6_body i arg2 harg2 arg3 harg3 arg4 harg4 arg5 harg5 arg6 harg6 arg7 harg7 arg8 arg9 arg10 arg11 v2 k0_pay129 v380)) :=
  loop_spec d i arg6 arg4 k0_t6_loop k0_t6_ok (by decide) _ k0_pay117 4
    (fun t => ![⟨k0_off60 t, k0_off60_inb t⟩, ⟨k0_off62 t, k0_off62_inb t⟩, ⟨k0_off64 t, k0_off64_inb t⟩, ⟨k0_off66 t, k0_off66_inb t⟩, ⟨k0_off68 t, k0_off68_inb t⟩, ⟨k0_off70 t, k0_off70_inb t⟩, ⟨k0_off72 t, k0_off72_inb t⟩])
    (fun t => ![⟨k0_off61 t, k0_off61_inb t⟩, ⟨k0_off63 t, k0_off63_inb t⟩, ⟨k0_off65 t, k0_off65_inb t⟩, ⟨k0_off67 t, k0_off67_inb t⟩, ⟨k0_off69 t, k0_off69_inb t⟩, ⟨k0_off71 t, k0_off71_inb t⟩, ⟨k0_off73 t, k0_off73_inb t⟩])
    (by decide) (by decide +kernel) (fun _ => rfl) (by decide +kernel) (by decide +kernel)

theorem t7_spec (v380 : BitVec 32) : Finishes (F := F) d i arg4 arg6 5 (Scf.Loop.for k0_t7_loop k0_t7_ok ⟨⟩ (k0_t7_body i arg2 harg2 arg3 harg3 arg4 harg4 arg5 harg5 arg6 harg6 arg7 harg7 arg8 arg9 arg10 arg11 v2 k0_pay129 v380)) :=
  loop_spec d i arg6 arg4 k0_t7_loop k0_t7_ok (by decide) _ k0_pay118 5
    (fun t => ![⟨k0_off74 t, k0_off74_inb t⟩, ⟨k0_off76 t, k0_off76_inb t⟩, ⟨k0_off78 t, k0_off78_inb t⟩, ⟨k0_off80 t, k0_off80_inb t⟩, ⟨k0_off82 t, k0_off82_inb t⟩, ⟨k0_off84 t, k0_off84_inb t⟩, ⟨k0_off86 t, k0_off86_inb t⟩])
    (fun t => ![⟨k0_off75 t, k0_off75_inb t⟩, ⟨k0_off77 t, k0_off77_inb t⟩, ⟨k0_off79 t, k0_off79_inb t⟩, ⟨k0_off81 t, k0_off81_inb t⟩, ⟨k0_off83 t, k0_off83_inb t⟩, ⟨k0_off85 t, k0_off85_inb t⟩, ⟨k0_off87 t, k0_off87_inb t⟩])
    (by decide) (by decide +kernel) (fun _ => rfl) (by decide +kernel) (by decide +kernel)

theorem t8_spec (v380 : BitVec 32) : Finishes (F := F) d i arg4 arg6 6 (Scf.Loop.for k0_t8_loop k0_t8_ok ⟨⟩ (k0_t8_body i arg2 harg2 arg3 harg3 arg4 harg4 arg5 harg5 arg6 harg6 arg7 harg7 arg8 arg9 arg10 arg11 v2 k0_pay129 v380)) :=
  loop_spec d i arg6 arg4 k0_t8_loop k0_t8_ok (by decide) _ k0_pay119 6
    (fun t => ![⟨k0_off88 t, k0_off88_inb t⟩, ⟨k0_off90 t, k0_off90_inb t⟩, ⟨k0_off92 t, k0_off92_inb t⟩, ⟨k0_off94 t, k0_off94_inb t⟩, ⟨k0_off96 t, k0_off96_inb t⟩, ⟨k0_off98 t, k0_off98_inb t⟩, ⟨k0_off100 t, k0_off100_inb t⟩])
    (fun t => ![⟨k0_off89 t, k0_off89_inb t⟩, ⟨k0_off91 t, k0_off91_inb t⟩, ⟨k0_off93 t, k0_off93_inb t⟩, ⟨k0_off95 t, k0_off95_inb t⟩, ⟨k0_off97 t, k0_off97_inb t⟩, ⟨k0_off99 t, k0_off99_inb t⟩, ⟨k0_off101 t, k0_off101_inb t⟩])
    (by decide) (by decide +kernel) (fun _ => rfl) (by decide +kernel) (by decide +kernel)

theorem t9_spec (v380 : BitVec 32) : Finishes (F := F) d i arg4 arg6 7 (Scf.Loop.for k0_t9_loop k0_t9_ok ⟨⟩ (k0_t9_body i arg2 harg2 arg3 harg3 arg4 harg4 arg5 harg5 arg6 harg6 arg7 harg7 arg8 arg9 arg10 arg11 v2 k0_pay129 v380)) :=
  loop_spec d i arg6 arg4 k0_t9_loop k0_t9_ok (by decide) _ k0_pay120 7
    (fun t => ![⟨k0_off102 t, k0_off102_inb t⟩, ⟨k0_off104 t, k0_off104_inb t⟩, ⟨k0_off106 t, k0_off106_inb t⟩, ⟨k0_off108 t, k0_off108_inb t⟩, ⟨k0_off110 t, k0_off110_inb t⟩, ⟨k0_off112 t, k0_off112_inb t⟩, ⟨k0_off114 t, k0_off114_inb t⟩])
    (fun t => ![⟨k0_off103 t, k0_off103_inb t⟩, ⟨k0_off105 t, k0_off105_inb t⟩, ⟨k0_off107 t, k0_off107_inb t⟩, ⟨k0_off109 t, k0_off109_inb t⟩, ⟨k0_off111 t, k0_off111_inb t⟩, ⟨k0_off113 t, k0_off113_inb t⟩, ⟨k0_off115 t, k0_off115_inb t⟩])
    (by decide) (by decide +kernel) (fun _ => rfl) (by decide +kernel) (by decide +kernel)

theorem t10_spec (v379 v590 v635 v662 v664 v665 : BitVec 32) (v670 : BitVec 1) : Finishes (F := F) d i arg5 arg7 0 (Scf.Loop.for k0_t10_loop k0_t10_ok ⟨⟩ (k0_t10_body i arg2 harg2 arg3 harg3 arg4 harg4 arg5 harg5 arg6 harg6 arg7 harg7 arg8 arg9 arg10 arg11 v2 k0_pay129 k0_t1 v379 v590 v635 v662 v664 v665 v670)) :=
  loop_spec d i arg7 arg5 k0_t10_loop k0_t10_ok (by decide) _ k0_pay121 0
    (fun t => ![⟨k0_off120 t, k0_off120_inb t⟩, ⟨k0_off122 t, k0_off122_inb t⟩, ⟨k0_off124 t, k0_off124_inb t⟩, ⟨k0_off126 t, k0_off126_inb t⟩, ⟨k0_off128 t, k0_off128_inb t⟩, ⟨k0_off130 t, k0_off130_inb t⟩, ⟨k0_off132 t, k0_off132_inb t⟩])
    (fun t => ![⟨k0_off121 t, k0_off121_inb t⟩, ⟨k0_off123 t, k0_off123_inb t⟩, ⟨k0_off125 t, k0_off125_inb t⟩, ⟨k0_off127 t, k0_off127_inb t⟩, ⟨k0_off129 t, k0_off129_inb t⟩, ⟨k0_off131 t, k0_off131_inb t⟩, ⟨k0_off133 t, k0_off133_inb t⟩])
    (by decide) (by decide +kernel) (fun _ => rfl) (by decide +kernel) (by decide +kernel)

theorem t11_spec (v379 v590 v635 v662 v664 v665 : BitVec 32) (v670 : BitVec 1) : Finishes (F := F) d i arg5 arg7 1 (Scf.Loop.for k0_t11_loop k0_t11_ok ⟨⟩ (k0_t11_body i arg2 harg2 arg3 harg3 arg4 harg4 arg5 harg5 arg6 harg6 arg7 harg7 arg8 arg9 arg10 arg11 v2 k0_pay129 k0_t1 v379 v590 v635 v662 v664 v665 v670)) :=
  loop_spec d i arg7 arg5 k0_t11_loop k0_t11_ok (by decide) _ k0_pay122 1
    (fun t => ![⟨k0_off134 t, k0_off134_inb t⟩, ⟨k0_off136 t, k0_off136_inb t⟩, ⟨k0_off138 t, k0_off138_inb t⟩, ⟨k0_off140 t, k0_off140_inb t⟩, ⟨k0_off142 t, k0_off142_inb t⟩, ⟨k0_off144 t, k0_off144_inb t⟩, ⟨k0_off146 t, k0_off146_inb t⟩])
    (fun t => ![⟨k0_off135 t, k0_off135_inb t⟩, ⟨k0_off137 t, k0_off137_inb t⟩, ⟨k0_off139 t, k0_off139_inb t⟩, ⟨k0_off141 t, k0_off141_inb t⟩, ⟨k0_off143 t, k0_off143_inb t⟩, ⟨k0_off145 t, k0_off145_inb t⟩, ⟨k0_off147 t, k0_off147_inb t⟩])
    (by decide) (by decide +kernel) (fun _ => rfl) (by decide +kernel) (by decide +kernel)

theorem t12_spec (v379 v590 v635 v662 v664 v665 : BitVec 32) (v670 : BitVec 1) : Finishes (F := F) d i arg5 arg7 2 (Scf.Loop.for k0_t12_loop k0_t12_ok ⟨⟩ (k0_t12_body i arg2 harg2 arg3 harg3 arg4 harg4 arg5 harg5 arg6 harg6 arg7 harg7 arg8 arg9 arg10 arg11 v2 k0_pay129 k0_t1 v379 v590 v635 v662 v664 v665 v670)) :=
  loop_spec d i arg7 arg5 k0_t12_loop k0_t12_ok (by decide) _ k0_pay123 2
    (fun t => ![⟨k0_off148 t, k0_off148_inb t⟩, ⟨k0_off150 t, k0_off150_inb t⟩, ⟨k0_off152 t, k0_off152_inb t⟩, ⟨k0_off154 t, k0_off154_inb t⟩, ⟨k0_off156 t, k0_off156_inb t⟩, ⟨k0_off158 t, k0_off158_inb t⟩, ⟨k0_off160 t, k0_off160_inb t⟩])
    (fun t => ![⟨k0_off149 t, k0_off149_inb t⟩, ⟨k0_off151 t, k0_off151_inb t⟩, ⟨k0_off153 t, k0_off153_inb t⟩, ⟨k0_off155 t, k0_off155_inb t⟩, ⟨k0_off157 t, k0_off157_inb t⟩, ⟨k0_off159 t, k0_off159_inb t⟩, ⟨k0_off161 t, k0_off161_inb t⟩])
    (by decide) (by decide +kernel) (fun _ => rfl) (by decide +kernel) (by decide +kernel)

theorem t13_spec (v379 v590 v635 v662 v664 v665 : BitVec 32) (v670 : BitVec 1) : Finishes (F := F) d i arg5 arg7 3 (Scf.Loop.for k0_t13_loop k0_t13_ok ⟨⟩ (k0_t13_body i arg2 harg2 arg3 harg3 arg4 harg4 arg5 harg5 arg6 harg6 arg7 harg7 arg8 arg9 arg10 arg11 v2 k0_pay129 k0_t1 v379 v590 v635 v662 v664 v665 v670)) :=
  loop_spec d i arg7 arg5 k0_t13_loop k0_t13_ok (by decide) _ k0_pay124 3
    (fun t => ![⟨k0_off162 t, k0_off162_inb t⟩, ⟨k0_off164 t, k0_off164_inb t⟩, ⟨k0_off166 t, k0_off166_inb t⟩, ⟨k0_off168 t, k0_off168_inb t⟩, ⟨k0_off170 t, k0_off170_inb t⟩, ⟨k0_off172 t, k0_off172_inb t⟩, ⟨k0_off174 t, k0_off174_inb t⟩])
    (fun t => ![⟨k0_off163 t, k0_off163_inb t⟩, ⟨k0_off165 t, k0_off165_inb t⟩, ⟨k0_off167 t, k0_off167_inb t⟩, ⟨k0_off169 t, k0_off169_inb t⟩, ⟨k0_off171 t, k0_off171_inb t⟩, ⟨k0_off173 t, k0_off173_inb t⟩, ⟨k0_off175 t, k0_off175_inb t⟩])
    (by decide) (by decide +kernel) (fun _ => rfl) (by decide +kernel) (by decide +kernel)

theorem t14_spec (v590 : BitVec 32) : Finishes (F := F) d i arg5 arg7 4 (Scf.Loop.for k0_t14_loop k0_t14_ok ⟨⟩ (k0_t14_body i arg2 harg2 arg3 harg3 arg4 harg4 arg5 harg5 arg6 harg6 arg7 harg7 arg8 arg9 arg10 arg11 v2 k0_pay129 v590 k0_pay125 0#32)) :=
  loop_spec d i arg7 arg5 k0_t14_loop k0_t14_ok (by decide) _ k0_pay125 4
    (fun t => ![⟨k0_off176 t, k0_off176_inb t⟩, ⟨k0_off178 t, k0_off178_inb t⟩, ⟨k0_off180 t, k0_off180_inb t⟩, ⟨k0_off182 t, k0_off182_inb t⟩, ⟨k0_off184 t, k0_off184_inb t⟩, ⟨k0_off186 t, k0_off186_inb t⟩, ⟨k0_off188 t, k0_off188_inb t⟩])
    (fun t => ![⟨k0_off177 t, k0_off177_inb t⟩, ⟨k0_off179 t, k0_off179_inb t⟩, ⟨k0_off181 t, k0_off181_inb t⟩, ⟨k0_off183 t, k0_off183_inb t⟩, ⟨k0_off185 t, k0_off185_inb t⟩, ⟨k0_off187 t, k0_off187_inb t⟩, ⟨k0_off189 t, k0_off189_inb t⟩])
    (by decide) (by decide +kernel) (fun _ => rfl) (by decide +kernel) (by decide +kernel)

theorem t15_spec (v590 : BitVec 32) : Finishes (F := F) d i arg5 arg7 5 (Scf.Loop.for k0_t15_loop k0_t15_ok ⟨⟩ (k0_t15_body i arg2 harg2 arg3 harg3 arg4 harg4 arg5 harg5 arg6 harg6 arg7 harg7 arg8 arg9 arg10 arg11 v2 k0_pay129 v590 k0_pay125 0#32)) :=
  loop_spec d i arg7 arg5 k0_t15_loop k0_t15_ok (by decide) _ k0_pay126 5
    (fun t => ![⟨k0_off190 t, k0_off190_inb t⟩, ⟨k0_off192 t, k0_off192_inb t⟩, ⟨k0_off194 t, k0_off194_inb t⟩, ⟨k0_off196 t, k0_off196_inb t⟩, ⟨k0_off198 t, k0_off198_inb t⟩, ⟨k0_off200 t, k0_off200_inb t⟩, ⟨k0_off202 t, k0_off202_inb t⟩])
    (fun t => ![⟨k0_off191 t, k0_off191_inb t⟩, ⟨k0_off193 t, k0_off193_inb t⟩, ⟨k0_off195 t, k0_off195_inb t⟩, ⟨k0_off197 t, k0_off197_inb t⟩, ⟨k0_off199 t, k0_off199_inb t⟩, ⟨k0_off201 t, k0_off201_inb t⟩, ⟨k0_off203 t, k0_off203_inb t⟩])
    (by decide) (by decide +kernel) (fun _ => rfl) (by decide +kernel) (by decide +kernel)

theorem t16_spec (v590 : BitVec 32) : Finishes (F := F) d i arg5 arg7 6 (Scf.Loop.for k0_t16_loop k0_t16_ok ⟨⟩ (k0_t16_body i arg2 harg2 arg3 harg3 arg4 harg4 arg5 harg5 arg6 harg6 arg7 harg7 arg8 arg9 arg10 arg11 v2 k0_pay129 v590 k0_pay125 0#32)) :=
  loop_spec d i arg7 arg5 k0_t16_loop k0_t16_ok (by decide) _ k0_pay127 6
    (fun t => ![⟨k0_off204 t, k0_off204_inb t⟩, ⟨k0_off206 t, k0_off206_inb t⟩, ⟨k0_off208 t, k0_off208_inb t⟩, ⟨k0_off210 t, k0_off210_inb t⟩, ⟨k0_off212 t, k0_off212_inb t⟩, ⟨k0_off214 t, k0_off214_inb t⟩, ⟨k0_off216 t, k0_off216_inb t⟩])
    (fun t => ![⟨k0_off205 t, k0_off205_inb t⟩, ⟨k0_off207 t, k0_off207_inb t⟩, ⟨k0_off209 t, k0_off209_inb t⟩, ⟨k0_off211 t, k0_off211_inb t⟩, ⟨k0_off213 t, k0_off213_inb t⟩, ⟨k0_off215 t, k0_off215_inb t⟩, ⟨k0_off217 t, k0_off217_inb t⟩])
    (by decide) (by decide +kernel) (fun _ => rfl) (by decide +kernel) (by decide +kernel)

theorem t17_spec (v590 : BitVec 32) : Finishes (F := F) d i arg5 arg7 7 (Scf.Loop.for k0_t17_loop k0_t17_ok ⟨⟩ (k0_t17_body i arg2 harg2 arg3 harg3 arg4 harg4 arg5 harg5 arg6 harg6 arg7 harg7 arg8 arg9 arg10 arg11 v2 k0_pay129 v590 k0_pay125 0#32)) :=
  loop_spec d i arg7 arg5 k0_t17_loop k0_t17_ok (by decide) _ k0_pay128 7
    (fun t => ![⟨k0_off218 t, k0_off218_inb t⟩, ⟨k0_off220 t, k0_off220_inb t⟩, ⟨k0_off222 t, k0_off222_inb t⟩, ⟨k0_off224 t, k0_off224_inb t⟩, ⟨k0_off226 t, k0_off226_inb t⟩, ⟨k0_off228 t, k0_off228_inb t⟩, ⟨k0_off230 t, k0_off230_inb t⟩])
    (fun t => ![⟨k0_off219 t, k0_off219_inb t⟩, ⟨k0_off221 t, k0_off221_inb t⟩, ⟨k0_off223 t, k0_off223_inb t⟩, ⟨k0_off225 t, k0_off225_inb t⟩, ⟨k0_off227 t, k0_off227_inb t⟩, ⟨k0_off229 t, k0_off229_inb t⟩, ⟨k0_off231 t, k0_off231_inb t⟩])
    (by decide) (by decide +kernel) (fun _ => rfl) (by decide +kernel) (by decide +kernel)

end Loops

end Cert.Proof.Unpool

end
-- ==== Proof.Dma.lean ====
/-
  The tile's four kinds of step on a transfer: start fetching an input block, wait for it, start writing a result
  block out, wait for it. At most one transfer is in flight on each semaphore.
-/
module

public import proofs.«01_k».proof.Proof.Blocks
public import proofs.«01_k».proof.Proof.Loops
public import Idealize.ShloMosaic.Lib.SparseCore.FromWhole

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

section Steps

variable (d : Dev nD) (i : grid0.Coords) (m : (ℓ : Loc nD τ sig) → Buf (Elt F) ℓ)

/-- The input array as a vector of floats. -/
abbrev xv (d : Dev nD) (m : (ℓ : Loc nD τ sig) → Buf (Elt F) ℓ) : Vec F S4x192x25088 .f32 := m (xLoc d)

/-- A read share of the input. -/
abbrev XSh (q : PosShare TreeShare) : sProp (MM F) := xLoc d ↦{q} m (xLoc d)
/-- Result block `k` as it was, and as it will be. -/
abbrev OOld (k : ℕ) : sProp (MM F) := oLoc d ↦[blk k]{fullShare} m (oLoc d)
abbrev ONew (k : ℕ) : sProp (MM F) := oLoc d ↦[blk k]{fullShare} (unpool (xv d m) : Buf (Elt F) (oLoc d))

/-- An input buffer at some contents, and at input block `k`. -/
abbrev InAny (b : Memref sig .scVector .vmem S8x896 .f32) : sProp (MM F) := iprop(∃ f, b.view.loc (thr d i) ↦{fullShare} f)
abbrev InHas (b : Memref sig .scVector .vmem S8x896 .f32) (k : ℕ) : sProp (MM F) :=
  iprop(∃ f, ⌜b.view.read (Elt F) f = xBlk (xv d m) k⌝ ∗ b.view.loc (thr d i) ↦{fullShare} f)
/-- An output buffer at some contents. -/
abbrev OutAny (o : Memref sig .scVector .vmem S8x3584 .f32) : sProp (MM F) := iprop(∃ g, o.view.loc (thr d i) ↦{fullShare} g)

/-- What the write-out of a block adds to its counter. -/
abbrev outCredit : ℕ := (oWin (k0_off116 (fun | 0 => (⟨0, by decide⟩ : Fin 2) | 1 => (⟨0, by decide⟩ : Fin 16)) ⟨0, by decide⟩) (k0_off116_inb _ _)).view.dmaCredit

/-- A semaphore of the tile at zero. -/
abbrev Zero (s : DmaSem sig) : sProp (MM F) := semVal (thr d i, SemLoc.dma s) 0

/-- The fetch of input block `k` in flight; the write-out of result block `k` in flight. -/
def InFl (b : Memref sig .scVector .vmem S8x896 .f32) (s : DmaSem sig) (q : PosShare TreeShare) (k : ℕ) : sProp (MM F) :=
  Transfers.Flight EC (thr d i) (.dma s) none b.view.dmaCredit iprop(InHas d i m b k ∗ XSh d m q)
def OutFl (o : Memref sig .scVector .vmem S8x3584 .f32) (s : DmaSem sig) (k : ℕ) : sProp (MM F) :=
  Transfers.Flight EC (thr d i) (.dma s) none outCredit iprop(ONew d m k ∗ OutAny d i o)

/-- What the tile owes, and the waits it has made. -/
def Ow (O : CellTallies nD τ sig (HIx 1)) (W : Waits sig (HIx 1)) : sProp (MM F) :=
  iprop(Transfers.MayWaits (thr d i) none O ∗ ∃ W', ⌜∀ p ∈ W', p ∈ W ∨ p.2 = none⌝ ∗ owes (thr d i) O W')

variable {O : CellTallies nD τ sig (HIx 1)} {W : Waits sig (HIx 1)}

theorem wait_spec {sp sp' : Space} {s s' : Shape} {e e' : EltTy} {sem : DmaSem sig}
    {srcw : Memref sig .scVector sp' s' e'} {dstw : Memref sig .scVector sp s e} {hsrc : srcw.view.WordExact} {hdst : dstw.view.WordExact}
    {N : ℕ} (hN : dstw.view.dmaCredit = N) (D : sProp (MM F)) (Q : PUnit → sProp (MM F)) :
    iprop(Transfers.Flight EC (thr d i) (.dma sem) none N D ∗ Ow d i O W)
      ⊢ iprop((iprop(D ∗ Zero d i sem ∗ Ow d i O W) -∗ Q ⟨⟩) -∗ tileWp d i (Prog.lift (.waitDma2 sem srcw dstw hsrc hdst)) Q) := by
  iintro ⟨Hfl, Ho⟩ HQ
  unfold Ow
  icases Ho with ⟨#Hmw, %W', %hW, HO⟩
  iapply (Transfers.wp_waitLocalO EC 𝒱₀ (thr d i) none none hN (O := O) (W := W')) $$ [Hfl HO]
  · isplitl [Hfl]; · iexact Hfl
    isplitl [HO]; · iexact HO
    iapply (Transfers.MayWaits.elim (SemLoc.dma sem)); iexact Hmw
  iintro ⟨HD, Hz, HO⟩
  rw [wp_ret]
  imodintro
  iapply HQ
  isplitl [HD]; · iexact HD
  isplitl [Hz]; · iexact Hz
  isplitr; · iexact Hmw
  iexists (insert (SemLoc.dma sem, none) W')
  isplitr
  · ipureintro
    intro p hp
    rcases Finset.mem_insert.mp hp with hp | hp
    · exact .inr (by rw [hp])
    · exact hW p hp
  · iexact HO

theorem in_read (b : Memref sig .scVector .vmem S8x896 .f32) {o : Fin 3 → ℕ} (h : ∀ a, o a + S1x8x896.size a ≤ S4x192x25088.size a)
    {k : ℕ} (hk : k < 2688) (ho : ∀ a, o a = inOff k a) (fd : Buf (Elt F) (b.view.loc (thr d i))) :
    b.view.read (Elt F) (b.view.write (Elt F) fd (ReadAs.same.apply ((xWin o h).view.read (Elt F) (m (xLoc d)))) Finset.univ) = xBlk (xv d m) k := by
  rw [View.read_write_univ]
  funext y
  show (xWin o h).view.read (Elt F) (m (xLoc d)) y = xBlk (xv d m) k y
  rw [View.read_apply, xWin_emb h hk ho]
  rfl

theorem start_in (b : Memref sig .scVector .vmem S8x896 .f32) (s : DmaSem sig) (q : PosShare TreeShare) {o : Fin 3 → ℕ}
    (h : ∀ a, o a + S1x8x896.size a ≤ S4x192x25088.size a) {k : ℕ} (hk : k < 2688) (ho : ∀ a, o a = inOff k a)
    {h1 : (xWin o h).view.WordExact} {h2 : (DmaTarget.here (nD := nD) (τ := τ) (p := (thr d i).2) b).view.WordExact}
    {h3 : (DmaTarget.here (nD := nD) (τ := τ) (p := (thr d i).2) b).Typed .hbm (SemLoc.dma s)} (Q : PUnit → sProp (MM F)) :
    iprop(XSh d m q ∗ InAny d i b ∗ Zero d i s)
      ⊢ iprop((InFl d i m b s q k -∗ Q ⟨⟩) -∗ tileWp d i (Prog.lift (.enqueueDma (xWin o h) (.here b) (.dma s) h1 h2 h3)) Q) := by
  iintro ⟨Hx, ⟨%fd, Hb⟩, Hz⟩ HQ
  iapply (Transfers.wp_dmaFromWhole EC 𝒱₀ (thr d i) none (src := xWin o h) (dst := b) (q := q) (fs := m (xLoc d)) (fd := fd) (Sd := Finset.univ) none b.view.dmaCredit rfl
    (View.dmaCredit_pos _ (by decide)) (Finset.subset_univ _)) $$ [Hx Hb Hz]
  · isplitl [Hx]; · iexact Hx
    isplitl [Hb]; · iexact Hb
    iexact Hz
  iintro Hfl
  rw [wp_ret]
  imodintro
  iapply HQ
  unfold InFl
  iapply (Transfers.Flight_mono EC (thr d i) ?_) $$ Hfl
  iintro ⟨Hb, Hx⟩
  isplitl [Hb]
  · iexists _
    isplitr
    · ipureintro; exact in_read d i m b h hk ho fd
    · iexact Hb
  · iexact Hx

theorem out_written {o : Fin 3 → ℕ} (h : ∀ a, o a + S1x8x3584.size a ≤ S4x192x100352.size a) {k : ℕ} (hk : k < 2688)
    (ho : ∀ a, o a = outOff k a) (w : Vec F S8x3584 .f32) (hw : ∀ y, w y = expand (xBlk (xv d m) k) y) (fd : Buf (Elt F) (oLoc d)) :
    ∀ x ∈ blk k, (oWin o h).view.write (Elt F) fd w Finset.univ x = unpool (xv d m) x := by
  intro x hx
  obtain ⟨y, rfl⟩ := (mem_blk_iff hk x).mp hx
  rw [unpool_oIdx, ← hw y, ← oWin_emb h hk ho y, View.write_emb_of_mem _ _ (Finset.mem_univ y)]
  rfl

theorem start_out (b : Memref sig .scVector .vmem S8x896 .f32) (b' : Memref sig .scVector .vmem S8x3584 .f32) (s : DmaSem sig) {o : Fin 3 → ℕ}
    (h : ∀ a, o a + S1x8x3584.size a ≤ S4x192x100352.size a) {k : ℕ} (hk : k < 2688) (ho : ∀ a, o a = outOff k a)
    {h1 : b'.view.WordExact} {h2 : (DmaTarget.here (nD := nD) (τ := τ) (p := (thr d i).2) (oWin o h)).view.WordExact}
    {h3 : (DmaTarget.here (nD := nD) (τ := τ) (p := (thr d i).2) (oWin o h)).Typed .vmem (SemLoc.dma s)}
    (f : Buf (Elt F) (b.view.loc (thr d i))) (hf : b.view.read (Elt F) f = xBlk (xv d m) k) (Q : PUnit → sProp (MM F)) :
    iprop(Blocks d i b b' f 8 ∗ OOld d m k ∗ Zero d i s)
      ⊢ iprop((iprop(InAny d i b ∗ OutFl d i m b' s k) -∗ Q ⟨⟩) -∗ tileWp d i (Prog.lift (.enqueueDma b' (.here (oWin o h)) (.dma s) h1 h2 h3)) Q) := by
  unfold Blocks
  iintro ⟨⟨Hb, %g, %hg, Hg⟩, Ho, Hz⟩ HQ
  iapply (Transfers.wp_dmaFromWhole EC 𝒱₀ (thr d i) none (src := b') (dst := oWin o h) (q := fullShare) (fs := g) (fd := m (oLoc d)) (Sd := blk k) none outCredit rfl
    (View.dmaCredit_pos _ (by decide)) (oWin_set h hk ho).subset) $$ [Hg Ho Hz]
  · isplitl [Hg]; · iexact Hg
    isplitl [Ho]; · iexact Ho
    iexact Hz
  iintro Hfl
  rw [wp_ret]
  imodintro
  iapply HQ
  isplitl [Hb]
  · iexists f; iexact Hb
  unfold OutFl
  iapply (Transfers.Flight_mono EC (thr d i) ?_) $$ Hfl
  have hw : ∀ y, b'.view.read (Elt F) g y = expand (xBlk (xv d m) k) y := by
    intro y
    have hy : (y 0).val < 8 := (y 0).isLt
    rw [← hf]
    exact hg y (.inl hy)
  iintro ⟨Ho, Hg⟩
  isplitl [Ho]
  · iapply (Entails.of_eq (pointsTo_congr (out_written d m h hk ho _ hw (m (oLoc d))))) $$ Ho
  · iexists g; iexact Hg

end Steps

end Cert.Proof.Unpool

end
-- ==== Proof.Parts.lean ====
/-
  The pieces of one trip of the tile's outer loop: take the two waits and expand the input block, then start the
  write-out and the next fetch; once for each of the two slots.
-/
module

public import proofs.«01_k».proof.Proof.Dma

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

section Parts

variable (d : Dev nD) (i : grid0.Coords) (m : (ℓ : Loc nD τ sig) → Buf (Elt F) ℓ)

/-- A program that only returns a value: its postcondition holds of whatever it returns. -/
theorem pure_part {α : Type} {p : TileProg F i α} (h : ∃ r, p = .ret r) {Q : α → sProp (MM F)} :
    iprop(∀ r, Q r) ⊢ tileWp d i p Q := by
  obtain ⟨r, rfl⟩ := h
  iintro H
  unfold tileWp
  rw [wp_ret]
  imodintro
  iapply H

/-- Block `t` of slot `p`. -/
abbrev bn (p t : ℕ) : ℕ := base i + (2 * t + p)

/-- The slot's output side before trip `t`: idle, or the previous block on its way out. -/
def Out (o : Memref sig .scVector .vmem S8x3584 .f32) (s : DmaSem sig) (p : ℕ) : ℕ → sProp (MM F)
  | 0 => iprop(OutAny d i o ∗ Zero d i s)
  | t + 1 => OutFl d i m o s (bn i p t)

/-- The slot's input side before trip `t`: the block on its way in, or idle after the last. -/
def In (b : Memref sig .scVector .vmem S8x896 .f32) (s : DmaSem sig) (q : PosShare TreeShare) (p t : ℕ) : sProp (MM F) :=
  if t < 42 then InFl d i m b s q (bn i p t) else iprop(InAny d i b ∗ XSh d m q ∗ Zero d i s)

/-- The result block trip `t` finds written. -/
def Got (p : ℕ) : ℕ → sProp (MM F)
  | 0 => iprop(emp)
  | t + 1 => ONew d m (bn i p t)

/-- The input block of trip `t` in its buffer and its first `n` rows expanded. -/
def Ready (b : Memref sig .scVector .vmem S8x896 .f32) (o : Memref sig .scVector .vmem S8x3584 .f32) (p t n : ℕ) : sProp (MM F) :=
  iprop(∃ f, ⌜b.view.read (Elt F) f = xBlk (xv d m) (bn i p t)⌝ ∗ Blocks d i b o f n)

theorem ready_zero (b : Memref sig .scVector .vmem S8x896 .f32) (o : Memref sig .scVector .vmem S8x3584 .f32) (p t : ℕ) :
    iprop(InHas d i m b (bn i p t) ∗ OutAny d i o) ⊢ Ready d i m b o p t 0 := by
  unfold Ready Blocks
  iintro ⟨⟨%f, %hf, Hb⟩, %g, Hg⟩
  iexists f
  isplitr; · ipureintro; exact hf
  isplitl [Hb]; · iexact Hb
  iexists g
  isplitr
  · ipureintro
    rintro y (hy | ⟨-, hy⟩)
    · exact absurd hy (Nat.not_lt_zero _)
    · exact absurd (hy.trans_eq (Nat.mul_zero 224)) (Nat.not_lt_zero _)
  · iexact Hg

theorem ready_step {b : Memref sig .scVector .vmem S8x896 .f32} {o : Memref sig .scVector .vmem S8x3584 .f32} {n : ℕ} {pr : TileProg F i Unit}
    (h : Finishes d i b o n pr) (p t : ℕ) (Q : Unit → sProp (MM F)) :
    Ready d i m b o p t n ⊢ iprop((Ready d i m b o p t (n + 1) -∗ Q ⟨⟩) -∗ tileWp d i pr Q) := by
  unfold Ready
  iintro ⟨%f, %hf, H⟩ HQ
  iapply (h f Q) $$ H
  iintro H
  iapply HQ
  iexists f
  isplitr; · ipureintro; exact hf
  iexact H

variable {O : CellTallies nD τ sig (HIx 1)} {W : Waits sig (HIx 1)}
variable (harg2 : xV.IsWhole) (harg3 : oV.IsWhole) (arg4 : Memref sig .scVector .vmem S8x896 .f32) (harg4 : arg4.IsWhole)
  (arg5 : Memref sig .scVector .vmem S8x896 .f32) (harg5 : arg5.IsWhole) (arg6 : Memref sig .scVector .vmem S8x3584 .f32) (harg6 : arg6.IsWhole)
  (arg7 : Memref sig .scVector .vmem S8x3584 .f32) (harg7 : arg7.IsWhole) (arg8 arg9 arg10 arg11 : DmaSems sig S_)
  (v2 : BitVec 32) (k0_t1 : Fin k0_t1_loop.trips) (q : PosShare TreeShare)

/-- Slot 0: the first four rows. -/
theorem rows59 (v379 v380 v425 v452 v454 v455 : BitVec 32) (v456 v457 : BitVec 1) (n : ℕ) (Q : PUnit → sProp (MM F)) :
    Ready d i m arg4 arg6 0 n 0 ⊢ iprop((Ready d i m arg4 arg6 0 n 4 -∗ Q ⟨⟩) -∗ tileWp d i (do
      Scf.Loop.for k0_t2_loop k0_t2_ok ⟨⟩ (k0_t2_body i xV harg2 oV harg3 arg4 harg4 arg5 harg5 arg6 harg6 arg7 harg7 arg8 arg9 arg10 arg11 v2 k0_pay129 k0_t1 v379 v380 v425 v452 v454 v455 v456 v457)
      Scf.Loop.for k0_t3_loop k0_t3_ok ⟨⟩ (k0_t3_body i xV harg2 oV harg3 arg4 harg4 arg5 harg5 arg6 harg6 arg7 harg7 arg8 arg9 arg10 arg11 v2 k0_pay129 k0_t1 v379 v380 v425 v452 v454 v455 v456 v457)
      Scf.Loop.for k0_t4_loop k0_t4_ok ⟨⟩ (k0_t4_body i xV harg2 oV harg3 arg4 harg4 arg5 harg5 arg6 harg6 arg7 harg7 arg8 arg9 arg10 arg11 v2 k0_pay129 k0_t1 v379 v380 v425 v452 v454 v455 v456 v457)
      Scf.Loop.for k0_t5_loop k0_t5_ok ⟨⟩ (k0_t5_body i xV harg2 oV harg3 arg4 harg4 arg5 harg5 arg6 harg6 arg7 harg7 arg8 arg9 arg10 arg11 v2 k0_pay129 k0_t1 v379 v380 v425 v452 v454 v455 v456 v457)
      pure ⟨⟩) Q) := by
  unfold tileWp
  simp only [wp_bind, wp_pure]
  iintro H HQ
  iapply (ready_step d i m (t2_spec d i xV harg2 oV harg3 arg4 harg4 arg5 harg5 arg6 harg6 arg7 harg7 arg8 arg9 arg10 arg11 v2 k0_t1 v379 v380 v425 v452 v454 v455 v456 v457) 0 n _) $$ H
  iintro H
  iapply (ready_step d i m (t3_spec d i xV harg2 oV harg3 arg4 harg4 arg5 harg5 arg6 harg6 arg7 harg7 arg8 arg9 arg10 arg11 v2 k0_t1 v379 v380 v425 v452 v454 v455 v456 v457) 0 n _) $$ H
  iintro H
  iapply (ready_step d i m (t4_spec d i xV harg2 oV harg3 arg4 harg4 arg5 harg5 arg6 harg6 arg7 harg7 arg8 arg9 arg10 arg11 v2 k0_t1 v379 v380 v425 v452 v454 v455 v456 v457) 0 n _) $$ H
  iintro H
  iapply (ready_step d i m (t5_spec d i xV harg2 oV harg3 arg4 harg4 arg5 harg5 arg6 harg6 arg7 harg7 arg8 arg9 arg10 arg11 v2 k0_t1 v379 v380 v425 v452 v454 v455 v456 v457) 0 n _) $$ H
  iintro H
  imodintro
  iapply HQ $$ H

/-- Slot 0: the two waits and the first four rows. -/
theorem part59_spec (v379 v380 v425 v452 v454 v455 : BitVec 32) (v456 v457 : BitVec 1) (n : ℕ) (hn : k0_t1.val = n) (Q : PUnit → sProp (MM F)) :
    iprop(InFl d i m arg4 arg8.sem q (bn i 0 n) ∗ Out d i m arg6 arg10.sem 0 n ∗ Ow d i O W)
      ⊢ iprop((iprop(Ready d i m arg4 arg6 0 n 4 ∗ XSh d m q ∗ Zero d i arg8.sem ∗ Zero d i arg10.sem ∗ Got d i m 0 n ∗ Ow d i O W) -∗ Q ⟨⟩)
        -∗ tileWp d i (k0_part59 i xV harg2 oV harg3 arg4 harg4 arg5 harg5 arg6 harg6 arg7 harg7 arg8 arg9 arg10 arg11 v2 k0_pay129 k0_t1 v379 v380 v425 v452 v454 v455 v456 v457) Q) := by
  rw [k0_part59_eq_skeleton]
  unfold k0_part59_skel tileWp InFl
  simp only [wp_bind]
  iintro ⟨Hin, Hout, Ho⟩ HQ
  iapply (wait_spec d i rfl _ _) $$ [Hin Ho]
  · isplitl [Hin] <;> iassumption
  iintro ⟨⟨Hb, Hx⟩, Hz, Ho⟩
  cases n with
  | zero =>
    rw [dif_neg (fun h => (cond1_iff k0_t1).mp h hn)]
    unfold Out Got
    icases Hout with ⟨Hg, Hzo⟩
    iapply (rows59 d i m harg2 harg3 arg4 harg4 arg5 harg5 arg6 harg6 arg7 harg7 arg8 arg9 arg10 arg11 v2 k0_t1 v379 v380 v425 v452 v454 v455 v456 v457 0 Q) $$ [Hb Hg]
    · iapply (ready_zero d i m arg4 arg6 0 0)
      isplitl [Hb] <;> iassumption
    iintro H
    iapply HQ
    isplitl [H]; · iexact H
    isplitl [Hx]; · iexact Hx
    isplitl [Hz]; · iexact Hz
    isplitl [Hzo]; · iexact Hzo
    isplitr; · iempintro
    iexact Ho
  | succ n =>
    rw [dif_pos ((cond1_iff k0_t1).mpr (by omega)), wp_bind]
    unfold Out Got OutFl
    iapply (pure_part d i ?_)
    · exact ⟨_, rfl⟩
    iintro %_
    rw [wp_bind]
    iapply (pure_part d i ?_)
    · exact ⟨_, rfl⟩
    iintro %_
    rw [wp_bind]
    iapply (wait_spec d i rfl _ _) $$ [Hout Ho]
    · isplitl [Hout] <;> iassumption
    iintro ⟨⟨Hn, Hg⟩, Hzo, Ho⟩
    iapply (rows59 d i m harg2 harg3 arg4 harg4 arg5 harg5 arg6 harg6 arg7 harg7 arg8 arg9 arg10 arg11 v2 k0_t1 v379 v380 v425 v452 v454 v455 v456 v457 (n + 1) Q) $$ [Hb Hg]
    · iapply (ready_zero d i m arg4 arg6 0 (n + 1))
      isplitl [Hb] <;> iassumption
    iintro H
    iapply HQ
    isplitl [H]; · iexact H
    isplitl [Hx]; · iexact Hx
    isplitl [Hz]; · iexact Hz
    isplitl [Hzo]; · iexact Hzo
    isplitl [Hn]; · iexact Hn
    iexact Ho

/-- Slot 0: the last four rows. -/
theorem part60_spec (v380 : BitVec 32) (n : ℕ) (Q : (Σ' (_ : BitVec 32) (_ : BitVec 32), BitVec 32) → sProp (MM F)) :
    Ready d i m arg4 arg6 0 n 4 ⊢ iprop((Ready d i m arg4 arg6 0 n 8 -∗ ∀ r, Q r)
      -∗ tileWp d i (k0_part60 i xV harg2 oV harg3 arg4 harg4 arg5 harg5 arg6 harg6 arg7 harg7 arg8 arg9 arg10 arg11 v2 k0_pay129 v380) Q) := by
  rw [k0_part60_eq_skeleton]
  unfold k0_part60_skel tileWp
  simp only [wp_bind, wp_pure]
  iintro H HQ
  iapply (ready_step d i m (t6_spec d i xV harg2 oV harg3 arg4 harg4 arg5 harg5 arg6 harg6 arg7 harg7 arg8 arg9 arg10 arg11 v2 v380) 0 n _) $$ H
  iintro H
  iapply (ready_step d i m (t7_spec d i xV harg2 oV harg3 arg4 harg4 arg5 harg5 arg6 harg6 arg7 harg7 arg8 arg9 arg10 arg11 v2 v380) 0 n _) $$ H
  iintro H
  iapply (ready_step d i m (t8_spec d i xV harg2 oV harg3 arg4 harg4 arg5 harg5 arg6 harg6 arg7 harg7 arg8 arg9 arg10 arg11 v2 v380) 0 n _) $$ H
  iintro H
  iapply (ready_step d i m (t9_spec d i xV harg2 oV harg3 arg4 harg4 arg5 harg5 arg6 harg6 arg7 harg7 arg8 arg9 arg10 arg11 v2 v380) 0 n _) $$ H
  iintro H
  imodintro
  iapply HQ $$ H

theorem start_out' (b : Memref sig .scVector .vmem S8x896 .f32) (b' : Memref sig .scVector .vmem S8x3584 .f32) (s : DmaSem sig) {o : Fin 3 → ℕ}
    (h : ∀ a, o a + S1x8x3584.size a ≤ S4x192x100352.size a) {p t : ℕ} (hk : bn i p t < 2688) (ho : ∀ a, o a = outOff (bn i p t) a)
    {h1 : b'.view.WordExact} {h2 : (DmaTarget.here (nD := nD) (τ := τ) (p := (thr d i).2) (oWin o h)).view.WordExact}
    {h3 : (DmaTarget.here (nD := nD) (τ := τ) (p := (thr d i).2) (oWin o h)).Typed .vmem (SemLoc.dma s)} (Q : PUnit → sProp (MM F)) :
    iprop(Ready d i m b b' p t 8 ∗ OOld d m (bn i p t) ∗ Zero d i s)
      ⊢ iprop((iprop(InAny d i b ∗ Out d i m b' s p (t + 1)) -∗ Q ⟨⟩) -∗ tileWp d i (Prog.lift (.enqueueDma b' (.here (oWin o h)) (.dma s) h1 h2 h3)) Q) := by
  unfold Ready Out
  iintro ⟨⟨%f, %hf, H⟩, Ho, Hz⟩ HQ
  iapply (start_out d i m b b' s h hk ho f hf Q) $$ [H Ho Hz]
  · isplitl [H]; · iexact H
    isplitl [Ho] <;> iassumption
  iexact HQ

theorem bn_lt {p t : ℕ} (hp : p < 2) (ht : t < 42) : bn i p t < 2688 := by
  have h := base_lt i
  unfold bn; omega

/-- Slot 0: the write-out starts, and the next fetch. -/
theorem part62_spec (v379 v380 v537 v547 c7 v548 v550 c0 : BitVec 32) (n : ℕ) (hn : k0_t1.val = n) (Q : BitVec 32 → sProp (MM F)) :
    iprop(Ready d i m arg4 arg6 0 n 8 ∗ XSh d m q ∗ Zero d i arg8.sem ∗ Zero d i arg10.sem ∗ OOld d m (bn i 0 n))
      ⊢ iprop((iprop(In d i m arg4 arg8.sem q 0 (n + 1) ∗ Out d i m arg6 arg10.sem 0 (n + 1)) -∗ ∀ r, Q r)
        -∗ tileWp d i (k0_part62 i xV harg2 oV harg3 arg4 harg4 arg5 harg5 arg6 harg6 arg7 harg7 arg8 arg9 arg10 arg11 v2 k0_t1 v379 v380 v537 v547 c7 v548 v550 c0) Q) := by
  subst hn
  have ht : k0_t1.val < 42 := k0_t1.isLt.trans_eq t1_trips
  rw [k0_part62_eq_skeleton]
  unfold k0_part62_skel tileWp
  rw [wp_bind]
  iintro ⟨H, Hx, Hz, Hzo, Ho⟩ HQ
  iapply (start_out' d i m arg4 arg6 arg10.sem (k0_off116_inb i k0_t1) (bn_lt i (p := 0) (by decide) ht) (off116_eq i k0_t1) _) $$ [H Ho Hzo]
  · isplitl [H]; · iexact H
    isplitl [Ho] <;> iassumption
  iintro ⟨Hb, Hout⟩
  by_cases hc : k0_t1.val + 1 < 42
  · have hc2 : k0_cond2 k0_t1 = 1#1 := (cond2_iff k0_t1).mpr hc
    rw [dif_pos hc2, wp_bind]
    iapply (pure_part d i ?_)
    · exact ⟨_, rfl⟩
    iintro %_
    rw [wp_bind]
    iapply (pure_part d i ?_)
    · exact ⟨_, rfl⟩
    iintro %_
    rw [wp_bind]
    iapply (start_in d i m arg4 arg8.sem q (k0_off117_inb i k0_t1 hc2) (bn_lt i (p := 0) (by decide) hc) (off117_eq i k0_t1 hc2) _) $$ [Hx Hb Hz]
    · isplitl [Hx]; · iexact Hx
      isplitl [Hb] <;> iassumption
    iintro Hin
    simp only [wp_bind, wp_pure]
    imodintro
    iapply HQ $$ [Hin Hout]
    unfold In
    rw [if_pos hc]
    isplitl [Hin] <;> iassumption
  · rw [dif_neg (fun h => hc ((cond2_iff k0_t1).mp h))]
    simp only [wp_bind, wp_pure]
    imodintro
    iapply HQ $$ [Hb Hx Hz Hout]
    unfold In
    rw [if_neg hc]
    isplitr [Hout]
    · isplitl [Hb]; · iexact Hb
      isplitl [Hx] <;> iassumption
    · iexact Hout

/-- Slot 1: the first four rows. -/
theorem rows65 (v379 v590 v635 v662 v664 v665 : BitVec 32) (v670 : BitVec 1) (n : ℕ) (Q : (Σ' (_ : IVec S16 32), BitVec 32) → sProp (MM F)) :
    Ready d i m arg5 arg7 1 n 0 ⊢ iprop((Ready d i m arg5 arg7 1 n 4 -∗ Q ⟨k0_pay125, 0#32⟩) -∗ tileWp d i (do
      Scf.Loop.for k0_t10_loop k0_t10_ok ⟨⟩ (k0_t10_body i xV harg2 oV harg3 arg4 harg4 arg5 harg5 arg6 harg6 arg7 harg7 arg8 arg9 arg10 arg11 v2 k0_pay129 k0_t1 v379 v590 v635 v662 v664 v665 v670)
      Scf.Loop.for k0_t11_loop k0_t11_ok ⟨⟩ (k0_t11_body i xV harg2 oV harg3 arg4 harg4 arg5 harg5 arg6 harg6 arg7 harg7 arg8 arg9 arg10 arg11 v2 k0_pay129 k0_t1 v379 v590 v635 v662 v664 v665 v670)
      Scf.Loop.for k0_t12_loop k0_t12_ok ⟨⟩ (k0_t12_body i xV harg2 oV harg3 arg4 harg4 arg5 harg5 arg6 harg6 arg7 harg7 arg8 arg9 arg10 arg11 v2 k0_pay129 k0_t1 v379 v590 v635 v662 v664 v665 v670)
      Scf.Loop.for k0_t13_loop k0_t13_ok ⟨⟩ (k0_t13_body i xV harg2 oV harg3 arg4 harg4 arg5 harg5 arg6 harg6 arg7 harg7 arg8 arg9 arg10 arg11 v2 k0_pay129 k0_t1 v379 v590 v635 v662 v664 v665 v670)
      pure ⟨k0_pay125, 0#32⟩) Q) := by
  unfold tileWp
  simp only [wp_bind, wp_pure]
  iintro H HQ
  iapply (ready_step d i m (t10_spec d i xV harg2 oV harg3 arg4 harg4 arg5 harg5 arg6 harg6 arg7 harg7 arg8 arg9 arg10 arg11 v2 k0_t1 v379 v590 v635 v662 v664 v665 v670) 1 n _) $$ H
  iintro H
  iapply (ready_step d i m (t11_spec d i xV harg2 oV harg3 arg4 harg4 arg5 harg5 arg6 harg6 arg7 harg7 arg8 arg9 arg10 arg11 v2 k0_t1 v379 v590 v635 v662 v664 v665 v670) 1 n _) $$ H
  iintro H
  iapply (ready_step d i m (t12_spec d i xV harg2 oV harg3 arg4 harg4 arg5 harg5 arg6 harg6 arg7 harg7 arg8 arg9 arg10 arg11 v2 k0_t1 v379 v590 v635 v662 v664 v665 v670) 1 n _) $$ H
  iintro H
  iapply (ready_step d i m (t13_spec d i xV harg2 oV harg3 arg4 harg4 arg5 harg5 arg6 harg6 arg7 harg7 arg8 arg9 arg10 arg11 v2 k0_t1 v379 v590 v635 v662 v664 v665 v670) 1 n _) $$ H
  iintro H
  imodintro
  iapply HQ $$ H

/-- Slot 1: the two waits and the first four rows. -/
theorem part65_spec (v379 v590 v635 v662 v664 v665 : BitVec 32) (v670 : BitVec 1) (n : ℕ) (hn : k0_t1.val = n)
    (Q : (Σ' (_ : IVec S16 32), BitVec 32) → sProp (MM F)) :
    iprop(InFl d i m arg5 arg9.sem q (bn i 1 n) ∗ Out d i m arg7 arg11.sem 1 n ∗ Ow d i O W)
      ⊢ iprop((iprop(Ready d i m arg5 arg7 1 n 4 ∗ XSh d m q ∗ Zero d i arg9.sem ∗ Zero d i arg11.sem ∗ Got d i m 1 n ∗ Ow d i O W) -∗ Q ⟨k0_pay125, 0#32⟩)
        -∗ tileWp d i (k0_part65 i xV harg2 oV harg3 arg4 harg4 arg5 harg5 arg6 harg6 arg7 harg7 arg8 arg9 arg10 arg11 v2 k0_pay129 k0_t1 v379 v590 v635 v662 v664 v665 v670) Q) := by
  rw [k0_part65_eq_skeleton]
  unfold k0_part65_skel tileWp InFl
  simp only [wp_bind]
  iintro ⟨Hin, Hout, Ho⟩ HQ
  iapply (wait_spec d i rfl _ _) $$ [Hin Ho]
  · isplitl [Hin] <;> iassumption
  iintro ⟨⟨Hb, Hx⟩, Hz, Ho⟩
  cases n with
  | zero =>
    rw [dif_neg (fun h => (cond3_iff k0_t1).mp h hn)]
    unfold Out Got
    icases Hout with ⟨Hg, Hzo⟩
    iapply (rows65 d i m harg2 harg3 arg4 harg4 arg5 harg5 arg6 harg6 arg7 harg7 arg8 arg9 arg10 arg11 v2 k0_t1 v379 v590 v635 v662 v664 v665 v670 0 Q) $$ [Hb Hg]
    · iapply (ready_zero d i m arg5 arg7 1 0)
      isplitl [Hb] <;> iassumption
    iintro H
    iapply HQ
    isplitl [H]; · iexact H
    isplitl [Hx]; · iexact Hx
    isplitl [Hz]; · iexact Hz
    isplitl [Hzo]; · iexact Hzo
    isplitr; · iempintro
    iexact Ho
  | succ n =>
    rw [dif_pos ((cond3_iff k0_t1).mpr (by omega)), wp_bind]
    unfold Out Got OutFl
    iapply (pure_part d i ?_)
    · exact ⟨_, rfl⟩
    iintro %_
    rw [wp_bind]
    iapply (pure_part d i ?_)
    · exact ⟨_, rfl⟩
    iintro %_
    rw [wp_bind]
    iapply (wait_spec d i rfl _ _) $$ [Hout Ho]
    · isplitl [Hout] <;> iassumption
    iintro ⟨⟨Hn, Hg⟩, Hzo, Ho⟩
    iapply (rows65 d i m harg2 harg3 arg4 harg4 arg5 harg5 arg6 harg6 arg7 harg7 arg8 arg9 arg10 arg11 v2 k0_t1 v379 v590 v635 v662 v664 v665 v670 (n + 1) Q) $$ [Hb Hg]
    · iapply (ready_zero d i m arg5 arg7 1 (n + 1))
      isplitl [Hb] <;> iassumption
    iintro H
    iapply HQ
    isplitl [H]; · iexact H
    isplitl [Hx]; · iexact Hx
    isplitl [Hz]; · iexact Hz
    isplitl [Hzo]; · iexact Hzo
    isplitl [Hn]; · iexact Hn
    iexact Ho

/-- Slot 1: the last four rows. -/
theorem part66_spec (v590 : BitVec 32) (n : ℕ) (Q : (Σ' (_ : BitVec 32), BitVec 32) → sProp (MM F)) :
    Ready d i m arg5 arg7 1 n 4 ⊢ iprop((Ready d i m arg5 arg7 1 n 8 -∗ ∀ r, Q r)
      -∗ tileWp d i (k0_part66 i xV harg2 oV harg3 arg4 harg4 arg5 harg5 arg6 harg6 arg7 harg7 arg8 arg9 arg10 arg11 v2 k0_pay129 v590 k0_pay125 0#32) Q) := by
  rw [k0_part66_eq_skeleton]
  unfold k0_part66_skel tileWp
  simp only [wp_bind, wp_pure]
  iintro H HQ
  iapply (ready_step d i m (t14_spec d i xV harg2 oV harg3 arg4 harg4 arg5 harg5 arg6 harg6 arg7 harg7 arg8 arg9 arg10 arg11 v2 v590) 1 n _) $$ H
  iintro H
  iapply (ready_step d i m (t15_spec d i xV harg2 oV harg3 arg4 harg4 arg5 harg5 arg6 harg6 arg7 harg7 arg8 arg9 arg10 arg11 v2 v590) 1 n _) $$ H
  iintro H
  iapply (ready_step d i m (t16_spec d i xV harg2 oV harg3 arg4 harg4 arg5 harg5 arg6 harg6 arg7 harg7 arg8 arg9 arg10 arg11 v2 v590) 1 n _) $$ H
  iintro H
  iapply (ready_step d i m (t17_spec d i xV harg2 oV harg3 arg4 harg4 arg5 harg5 arg6 harg6 arg7 harg7 arg8 arg9 arg10 arg11 v2 v590) 1 n _) $$ H
  iintro H
  imodintro
  iapply HQ $$ H

end Parts

end Cert.Proof.Unpool

end
-- ==== Proof.Body.lean ====
/-
  The tile's program: one trip of the outer loop, the loop, and the whole body.
-/
module

public import proofs.«01_k».proof.Proof.Parts

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

section Body

variable (d : Dev nD) (i : grid0.Coords) (m : (ℓ : Loc nD τ sig) → Buf (Elt F) ℓ)

/-! ## The result blocks still to write and those written -/

/-- Slot `p`'s result blocks from trip `t` on, as they were. -/
def Todo (p t : ℕ) : sProp (MM F) := bigSep (Finset.Ico t 42) fun j => OOld d m (bn i p j)
/-- Slot `p`'s first `t` result blocks, written. -/
def Written (p t : ℕ) : sProp (MM F) := bigSep (Finset.range t) fun j => ONew d m (bn i p j)

theorem todo_step (p t : ℕ) (ht : t < 42) : Todo d i m p t ⊢ iprop(OOld d m (bn i p t) ∗ Todo d i m p (t + 1)) := by
  unfold Todo
  have e : Finset.Ico t 42 = insert t (Finset.Ico (t + 1) 42) := by
    ext j; simp only [Finset.mem_insert, Finset.mem_Ico]; omega
  rw [e, SparseCore.bigSep_insert' (by simp)]

theorem written_step (p t : ℕ) : iprop(Written d i m p (t - 1) ∗ Got d i m p t) ⊢ Written d i m p t := by
  cases t with
  | zero =>
    unfold Got
    iintro ⟨H, -⟩
    iexact H
  | succ t =>
    unfold Written Got
    rw [Finset.range_add_one, SparseCore.bigSep_insert' (by simp)]
    iintro ⟨H, Hn⟩
    isplitl [Hn]; · iexact Hn
    iexact H

theorem in_lt (b : Memref sig .scVector .vmem S8x896 .f32) (s : DmaSem sig) (q : PosShare TreeShare) (p : ℕ) {t : ℕ} (h : t < 42) :
    In d i m b s q p t = InFl d i m b s q (bn i p t) := if_pos h
theorem in_ge (b : Memref sig .scVector .vmem S8x896 .f32) (s : DmaSem sig) (q : PosShare TreeShare) (p : ℕ) {t : ℕ} (h : ¬ t < 42) :
    In d i m b s q p t = iprop(InAny d i b ∗ XSh d m q ∗ Zero d i s) := if_neg h

variable {O : CellTallies nD τ sig (HIx 1)} {W : Waits sig (HIx 1)}
variable (harg2 : xV.IsWhole) (harg3 : oV.IsWhole) (arg4 : Memref sig .scVector .vmem S8x896 .f32) (harg4 : arg4.IsWhole)
  (arg5 : Memref sig .scVector .vmem S8x896 .f32) (harg5 : arg5.IsWhole) (arg6 : Memref sig .scVector .vmem S8x3584 .f32) (harg6 : arg6.IsWhole)
  (arg7 : Memref sig .scVector .vmem S8x3584 .f32) (harg7 : arg7.IsWhole) (arg8 arg9 arg10 arg11 : DmaSems sig S_)
  (v2 : BitVec 32) (q0 q1 : PosShare TreeShare)

/-- Both slots up to slot 1's write-out. -/
theorem part68_spec (c0 c1 : BitVec 32) (k0_t1 : Fin k0_t1_loop.trips) (n : ℕ) (hn : k0_t1.val = n) (Q : (Σ' (_ : BitVec 32), BitVec 32) → sProp (MM F)) :
    iprop(InFl d i m arg4 arg8.sem q0 (bn i 0 n) ∗ Out d i m arg6 arg10.sem 0 n ∗ OOld d m (bn i 0 n)
        ∗ InFl d i m arg5 arg9.sem q1 (bn i 1 n) ∗ Out d i m arg7 arg11.sem 1 n ∗ OOld d m (bn i 1 n) ∗ Ow d i O W)
      ⊢ iprop((iprop(In d i m arg4 arg8.sem q0 0 (n + 1) ∗ Out d i m arg6 arg10.sem 0 (n + 1) ∗ Got d i m 0 n
          ∗ InAny d i arg5 ∗ XSh d m q1 ∗ Zero d i arg9.sem ∗ Out d i m arg7 arg11.sem 1 (n + 1) ∗ Got d i m 1 n ∗ Ow d i O W) -∗ ∀ r, Q r)
        -∗ tileWp d i (k0_part68 i xV harg2 oV harg3 arg4 harg4 arg5 harg5 arg6 harg6 arg7 harg7 arg8 arg9 arg10 arg11 v2 k0_pay129 c0 c1 k0_t1) Q) := by
  have ht : n < 42 := hn ▸ k0_t1.isLt.trans_eq t1_trips
  rw [k0_part68_eq_skeleton]
  unfold k0_part68_skel tileWp
  iintro ⟨Hi0, Ho0, Hd0, Hi1, Ho1, Hd1, Ho⟩ HQ
  rw [wp_bind]
  iapply (pure_part d i ?_)
  · exact ⟨_, rfl⟩
  iintro %_
  rw [wp_bind]
  iapply (pure_part d i ?_)
  · exact ⟨_, rfl⟩
  iintro %_
  rw [wp_bind]
  iapply (part59_spec d i m harg2 harg3 arg4 harg4 arg5 harg5 arg6 harg6 arg7 harg7 arg8 arg9 arg10 arg11 v2 k0_t1 q0 _ _ _ _ _ _ _ _ n hn _) $$ [Hi0 Ho0 Ho]
  · isplitl [Hi0]; · iexact Hi0
    isplitl [Ho0] <;> iassumption
  iintro ⟨HR, Hx0, Hz0, Hzo0, Hn0, Ho⟩
  rw [wp_bind]
  iapply (part60_spec d i m harg2 harg3 arg4 harg4 arg5 harg5 arg6 harg6 arg7 harg7 arg8 arg9 arg10 arg11 v2 _ n _) $$ HR
  iintro HR %_
  rw [wp_bind]
  iapply (pure_part d i ?_)
  · exact ⟨_, rfl⟩
  iintro %_
  rw [wp_bind]
  iapply (part62_spec d i m harg2 harg3 arg4 harg4 arg5 harg5 arg6 harg6 arg7 harg7 arg8 arg9 arg10 arg11 v2 k0_t1 q0 _ _ _ _ _ _ _ _ n hn _) $$ [HR Hx0 Hz0 Hzo0 Hd0]
  · isplitl [HR]; · iexact HR
    isplitl [Hx0]; · iexact Hx0
    isplitl [Hz0]; · iexact Hz0
    isplitl [Hzo0] <;> iassumption
  iintro ⟨Hi0, Ho0⟩ %_
  rw [wp_bind]
  iapply (pure_part d i ?_)
  · exact ⟨_, rfl⟩
  iintro %_
  rw [wp_bind]
  iapply (pure_part d i ?_)
  · exact ⟨_, rfl⟩
  iintro %_
  rw [wp_bind]
  iapply (part65_spec d i m harg2 harg3 arg4 harg4 arg5 harg5 arg6 harg6 arg7 harg7 arg8 arg9 arg10 arg11 v2 k0_t1 q1 _ _ _ _ _ _ _ n hn _) $$ [Hi1 Ho1 Ho]
  · isplitl [Hi1]; · iexact Hi1
    isplitl [Ho1] <;> iassumption
  iintro ⟨HR, Hx1, Hz1, Hzo1, Hn1, Ho⟩
  rw [wp_bind]
  iapply (part66_spec d i m harg2 harg3 arg4 harg4 arg5 harg5 arg6 harg6 arg7 harg7 arg8 arg9 arg10 arg11 v2 _ n _) $$ HR
  iintro HR %_
  rw [wp_bind]
  iapply (pure_part d i ?_)
  · exact ⟨_, rfl⟩
  iintro %_
  rw [wp_bind]
  iapply (start_out' d i m arg5 arg7 arg11.sem (k0_off232_inb i k0_t1) (bn_lt i (p := 1) (by decide) ht) (hn ▸ off232_eq i k0_t1) _) $$ [HR Hd1 Hzo1]
  · isplitl [HR]; · iexact HR
    isplitl [Hd1] <;> iassumption
  iintro ⟨Hb1, Ho1⟩
  rw [wp_pure]
  imodintro
  iapply HQ $$ [Hi0 Ho0 Hn0 Hb1 Hx1 Hz1 Ho1 Hn1 Ho]
  iframe Hi0 Ho0 Hn0 Hb1 Hx1 Hz1 Ho1 Hn1 Ho

/-- The outer loop's invariant before trip `t`. -/
def Inv (O : CellTallies nD τ sig (HIx 1)) (W : Waits sig (HIx 1)) (t : ℕ) : sProp (MM F) :=
  iprop(In d i m arg4 arg8.sem q0 0 t ∗ Out d i m arg6 arg10.sem 0 t ∗ Todo d i m 0 t ∗ Written d i m 0 (t - 1)
    ∗ In d i m arg5 arg9.sem q1 1 t ∗ Out d i m arg7 arg11.sem 1 t ∗ Todo d i m 1 t ∗ Written d i m 1 (t - 1) ∗ Ow d i O W)

/-- One trip of the outer loop. -/
theorem t1_spec (v143 v153 c7 v154 v156 v158 : BitVec 32) (k0_t1 : Fin k0_t1_loop.trips) :
    Inv d i m arg4 arg5 arg6 arg7 arg8 arg9 arg10 arg11 q0 q1 O W k0_t1.val
      ⊢ tileWp d i (k0_t1_body i xV harg2 oV harg3 arg4 harg4 arg5 harg5 arg6 harg6 arg7 harg7 arg8 arg9 arg10 arg11 v2 k0_pay129 v143 v153 c7 v154 v156 v158 k0_t1 ⟨⟩)
        (fun _ => Inv d i m arg4 arg5 arg6 arg7 arg8 arg9 arg10 arg11 q0 q1 O W (k0_t1.val + 1)) := by
  have ht : k0_t1.val < 42 := k0_t1.isLt.trans_eq t1_trips
  unfold k0_t1_body tileWp Inv
  rw [in_lt d i m arg4 arg8.sem q0 0 ht, in_lt d i m arg5 arg9.sem q1 1 ht]
  simp only [wp_bind]
  iintro ⟨Hi0, Ho0, Ht0, Hw0, Hi1, Ho1, Ht1, Hw1, Ho⟩
  ihave Ht0' := (todo_step d i m 0 _ ht) $$ Ht0
  icases Ht0' with ⟨Hd0, Ht0⟩
  ihave Ht1' := (todo_step d i m 1 _ ht) $$ Ht1
  icases Ht1' with ⟨Hd1, Ht1⟩
  iapply (part68_spec d i m harg2 harg3 arg4 harg4 arg5 harg5 arg6 harg6 arg7 harg7 arg8 arg9 arg10 arg11 v2 q0 q1 _ _ k0_t1 _ rfl _) $$ [Hi0 Ho0 Hd0 Hi1 Ho1 Hd1 Ho]
  · iframe Hi0 Ho0 Hd0 Hi1 Ho1 Hd1 Ho
  iintro ⟨Hi0, Ho0, Hn0, Hb1, Hx1, Hz1, Ho1, Hn1, Ho⟩ %_
  ihave Hw0 := (written_step d i m 0 k0_t1.val) $$ [Hw0 Hn0]
  · isplitl [Hw0] <;> iassumption
  ihave Hw1 := (written_step d i m 1 k0_t1.val) $$ [Hw1 Hn1]
  · isplitl [Hw1] <;> iassumption
  by_cases hc : k0_t1.val + 1 < 42
  · have hc4 : k0_cond4 k0_t1 = 1#1 := (cond4_iff k0_t1).mpr hc
    rw [dif_pos hc4, wp_bind]
    iapply (pure_part d i ?_)
    · exact ⟨_, rfl⟩
    iintro %_
    rw [wp_bind]
    iapply (pure_part d i ?_)
    · exact ⟨_, rfl⟩
    iintro %_
    rw [wp_bind]
    iapply (start_in d i m arg5 arg9.sem q1 (k0_off233_inb i k0_t1 hc4) (bn_lt i (p := 1) (by decide) hc) (off233_eq i k0_t1 hc4) _) $$ [Hx1 Hb1 Hz1]
    · isplitl [Hx1]; · iexact Hx1
      isplitl [Hb1] <;> iassumption
    iintro Hi1
    simp only [wp_bind, wp_pure]
    imodintro
    iframe Hi0 Ho0 Ht0 Hw0 Ho1 Ht1 Hw1 Ho
    rw [in_lt d i m arg5 arg9.sem q1 1 hc]
    iexact Hi1
  · rw [dif_neg (fun h => hc ((cond4_iff k0_t1).mp h))]
    simp only [wp_bind, wp_pure]
    imodintro
    iframe Hi0 Ho0 Ht0 Hw0 Ho1 Ht1 Hw1 Ho
    rw [in_ge d i m arg5 arg9.sem q1 1 hc]
    isplitl [Hb1]; · iexact Hb1
    isplitl [Hx1] <;> iassumption

/-- The outer loop. -/
theorem loop1_spec (v143 v153 c7 v154 v156 v158 : BitVec 32) (Q : Unit → sProp (MM F)) :
    Inv d i m arg4 arg5 arg6 arg7 arg8 arg9 arg10 arg11 q0 q1 O W 0
      ⊢ iprop((Inv d i m arg4 arg5 arg6 arg7 arg8 arg9 arg10 arg11 q0 q1 O W 42 -∗ Q ⟨⟩)
        -∗ tileWp d i (Scf.Loop.for k0_t1_loop k0_t1_ok ⟨⟩ (k0_t1_body i xV harg2 oV harg3 arg4 harg4 arg5 harg5 arg6 harg6 arg7 harg7 arg8 arg9 arg10 arg11 v2 k0_pay129 v143 v153 c7 v154 v156 v158)) Q) := by
  iintro H HQ
  iapply (Scf.wp_for Idealize.ShloMosaic.frame (wpE (defs₀ (F := F)) 𝒱₀ (thr d i) none) Set.univ k0_t1_loop.lb k0_t1_loop.ub k0_t1_loop.st k0_t1_ok ⟨⟩
    (k0_t1_body i xV harg2 oV harg3 arg4 harg4 arg5 harg5 arg6 harg6 arg7 harg7 arg8 arg9 arg10 arg11 v2 k0_pay129 v143 v153 c7 v154 v156 v158)
    (fun t _ => Inv d i m arg4 arg5 arg6 arg7 arg8 arg9 arg10 arg11 q0 q1 O W t)
    (fun t _ => t1_spec d i m harg2 harg3 arg4 harg4 arg5 harg5 arg6 harg6 arg7 harg7 arg8 arg9 arg10 arg11 v2 q0 q1 v143 v153 c7 v154 v156 v158 t))
  isplitl [H]; · iexact H
  iintro %_ H
  iapply HQ
  ihave H' := (Entails.of_eq (congrArg (Inv d i m arg4 arg5 arg6 arg7 arg8 arg9 arg10 arg11 q0 q1 O W) t1_trips)) $$ H
  iexact H'

/-- A program that only returns a value, of which something is known. -/
theorem pure_part_of {α : Type} {p : TileProg F i α} (φ : α → Prop) (h : ∃ r, p = .ret r ∧ φ r) {Q : α → sProp (MM F)} :
    iprop(∀ r, ⌜φ r⌝ -∗ Q r) ⊢ tileWp d i p Q := by
  obtain ⟨r, rfl, hr⟩ := h
  iintro H
  unfold tileWp
  rw [wp_ret]
  imodintro
  iapply H
  ipureintro; exact hr

/-- The first fetch of slot 0. -/
theorem part71_spec (v50 v60 v77 c7 : BitVec 32) (v78 : BitVec 1) (Q : (Σ' (_ : BitVec 32) (_ : BitVec 32) (_ : BitVec 1), BitVec 32) → sProp (MM F)) :
    iprop(XSh d m q0 ∗ InAny d i arg4 ∗ Zero d i arg8.sem) ⊢ iprop((In d i m arg4 arg8.sem q0 0 0 -∗ ∀ r, Q r)
      -∗ tileWp d i (k0_part71 i xV harg2 oV harg3 arg4 harg4 arg5 harg5 arg6 harg6 arg7 harg7 arg8 arg9 arg10 arg11 v2 v50 v60 v77 c7 v78) Q) := by
  rw [k0_part71_eq_skeleton]
  unfold k0_part71_skel tileWp
  simp only [wp_bind, wp_pure]
  iintro H HQ
  iapply (start_in d i m arg4 arg8.sem q0 (k0_off1_inb i 0) (bn_lt i (p := 0) (t := 0) (by decide) (by decide)) (off1_zero i) _) $$ H
  iintro H
  imodintro
  iapply HQ $$ [H]
  rw [in_lt d i m arg4 arg8.sem q0 0 (by decide)]
  iexact H

/-- The first fetch of slot 1, and the outer loop. -/
theorem part73_spec (v143 v153 c7 v154 v156 v158 : BitVec 32) (Q : (Σ' (_ : BitVec 32) (_ : BitVec 32), BitVec 32) → sProp (MM F)) :
    iprop(In d i m arg4 arg8.sem q0 0 0 ∗ (OutAny d i arg6 ∗ Zero d i arg10.sem) ∗ Todo d i m 0 0
        ∗ (XSh d m q1 ∗ InAny d i arg5 ∗ Zero d i arg9.sem) ∗ (OutAny d i arg7 ∗ Zero d i arg11.sem) ∗ Todo d i m 1 0 ∗ Ow d i O W)
      ⊢ iprop((Inv d i m arg4 arg5 arg6 arg7 arg8 arg9 arg10 arg11 q0 q1 O W 42 -∗ ∀ r, Q r)
      -∗ tileWp d i (k0_part73 i xV harg2 oV harg3 arg4 harg4 arg5 harg5 arg6 harg6 arg7 harg7 arg8 arg9 arg10 arg11 v2 k0_pay129 v143 v153 c7 v154 v156 v158) Q) := by
  rw [k0_part73_eq_skeleton]
  unfold k0_part73_skel tileWp
  simp only [wp_bind, wp_pure]
  iintro ⟨Hi0, Ho0, Ht0, Hx1, Ho1, Ht1, Ho⟩ HQ
  iapply (start_in d i m arg5 arg9.sem q1 (k0_off1_inb i 1) (bn_lt i (p := 1) (t := 0) (by decide) (by decide)) (off1_one i) _) $$ Hx1
  iintro Hi1
  iapply (loop1_spec d i m harg2 harg3 arg4 harg4 arg5 harg5 arg6 harg6 arg7 harg7 arg8 arg9 arg10 arg11 v2 q0 q1 v143 v153 c7 v154 v156 v158 _) $$ [Hi0 Ho0 Ht0 Hi1 Ho1 Ht1 Ho]
  · unfold Inv Out Written
    iframe Hi0 Ho0 Ht0 Ho1 Ht1 Ho
    rw [in_lt d i m arg5 arg9.sem q1 1 (by decide), show Finset.range (0 - 1) = ∅ from rfl, BI.bigSep_empty]
    isplitr; · iempintro
    isplitl [Hi1]; · iexact Hi1
    iempintro
  iintro H
  imodintro
  iapply HQ $$ H

/-- Slot 0's last write-out is waited for. -/
theorem part76_spec (v264 v274 : BitVec 32) (Q : (Σ' (_ : BitVec 32) (_ : BitVec 32) (_ : BitVec 32), BitVec 32) → sProp (MM F)) :
    iprop(Out d i m arg6 arg10.sem 0 42 ∗ Written d i m 0 41 ∗ Ow d i O W)
      ⊢ iprop((iprop(Written d i m 0 42 ∗ OutAny d i arg6 ∗ Zero d i arg10.sem ∗ Ow d i O W) -∗ ∀ r, Q r)
      -∗ tileWp d i (k0_part76 i xV harg2 oV harg3 arg4 harg4 arg5 harg5 arg6 harg6 arg7 harg7 arg8 arg9 arg10 arg11 v2 v264 v274) Q) := by
  rw [k0_part76_eq_skeleton]
  unfold k0_part76_skel tileWp Out OutFl
  simp only [wp_bind, wp_pure]
  iintro ⟨Hfl, Hw, Ho⟩ HQ
  iapply (wait_spec d i rfl _ _) $$ [Hfl Ho]
  · isplitl [Hfl] <;> iassumption
  iintro ⟨⟨Hn, Hg⟩, Hz, Ho⟩
  imodintro
  iapply HQ $$ [Hw Hn Hg Hz Ho]
  isplitl [Hw Hn]
  · iapply (written_step d i m 0 42)
    isplitl [Hw]; · iexact Hw
    rw [show Got d i m 0 42 = ONew d m (bn i 0 41) from rfl]
    iexact Hn
  iframe Hg Hz Ho

/-- The whole body: every block of the tile is written, and everything else comes back as it was. -/
theorem body_spec (Q : PUnit → sProp (MM F)) :
    iprop((XSh d m q0 ∗ InAny d i arg4 ∗ Zero d i arg8.sem) ∗ (OutAny d i arg6 ∗ Zero d i arg10.sem) ∗ Todo d i m 0 0
        ∗ (XSh d m q1 ∗ InAny d i arg5 ∗ Zero d i arg9.sem) ∗ (OutAny d i arg7 ∗ Zero d i arg11.sem) ∗ Todo d i m 1 0 ∗ Ow d i O W)
      ⊢ iprop((iprop((XSh d m q0 ∗ InAny d i arg4 ∗ Zero d i arg8.sem) ∗ (OutAny d i arg6 ∗ Zero d i arg10.sem) ∗ Written d i m 0 42
        ∗ (XSh d m q1 ∗ InAny d i arg5 ∗ Zero d i arg9.sem) ∗ (OutAny d i arg7 ∗ Zero d i arg11.sem) ∗ Written d i m 1 42 ∗ Ow d i O W) -∗ Q ⟨⟩)
      -∗ tileWp d i (cc0__unpool_body i xV harg2 oV harg3 arg4 harg4 arg5 harg5 arg6 harg6 arg7 harg7 arg8 arg9 arg10 arg11) Q) := by
  rw [cc0__unpool_body_eq_skeleton]
  unfold cc0__unpool_body_skel tileWp
  simp only [wp_bind, wp_pure]
  iintro ⟨Hx0, Ho0, Ht0, Hx1, Ho1, Ht1, Ho⟩ HQ
  iapply (pure_part_of d i (fun r => r.2.1 = k0_pay129) ?_)
  · exact ⟨_, rfl, rfl⟩
  iintro %r %hr
  obtain ⟨v2, v5, v33, c28, v34, v36, v37⟩ := r
  obtain rfl : v5 = k0_pay129 := hr
  iapply (pure_part d i ?_)
  · exact ⟨_, rfl⟩
  iintro %_
  iapply (part71_spec d i m harg2 harg3 arg4 harg4 arg5 harg5 arg6 harg6 arg7 harg7 arg8 arg9 arg10 arg11 v2 q0 _ _ _ _ _ _) $$ Hx0
  iintro Hi0 %_
  iapply (pure_part d i ?_)
  · exact ⟨_, rfl⟩
  iintro %_
  iapply (part73_spec d i m harg2 harg3 arg4 harg4 arg5 harg5 arg6 harg6 arg7 harg7 arg8 arg9 arg10 arg11 v2 q0 q1 _ _ _ _ _ _ _) $$ [Hi0 Ho0 Ht0 Hx1 Ho1 Ht1 Ho]
  · iframe Hi0 Ho0 Ht0 Hx1 Ho1 Ht1 Ho
  iintro H %_
  unfold Inv
  icases H with ⟨Hi0, Ho0, -, Hw0, Hi1, Ho1, -, Hw1, Ho⟩
  iapply (pure_part d i ?_)
  · exact ⟨_, rfl⟩
  iintro %_
  iapply (pure_part d i ?_)
  · exact ⟨_, rfl⟩
  iintro %_
  iapply (part76_spec d i m harg2 harg3 arg4 harg4 arg5 harg5 arg6 harg6 arg7 harg7 arg8 arg9 arg10 arg11 v2 _ _ _) $$ [Ho0 Hw0 Ho]
  · iframe Ho0 Hw0 Ho
  iintro ⟨Hw0, Hg0, Hzo0, Ho⟩ %_
  iapply (pure_part d i ?_)
  · exact ⟨_, rfl⟩
  iintro %_
  ihave Ho1 := (Entails.of_eq (show Out d i m arg7 arg11.sem 1 42 = Transfers.Flight EC (thr d i) (.dma arg11.sem) none outCredit iprop(ONew d m (bn i 1 41) ∗ OutAny d i arg7) from rfl)) $$ Ho1
  iapply (wait_spec d i rfl _ _) $$ [Ho1 Ho]
  · isplitl [Ho1] <;> iassumption
  iintro ⟨⟨Hn, Hg1⟩, Hzo1, Ho⟩
  ihave Hw1 := (written_step d i m 1 42) $$ [Hw1 Hn]
  · isplitl [Hw1]; · iexact Hw1
    rw [show Got d i m 1 42 = ONew d m (bn i 1 41) from rfl]
    iexact Hn
  ihave Hi0 := (Entails.of_eq (in_ge d i m arg4 arg8.sem q0 0 (t := 42) (by decide))) $$ Hi0
  icases Hi0 with ⟨Hb0, Hx0, Hz0⟩
  ihave Hi1 := (Entails.of_eq (in_ge d i m arg5 arg9.sem q1 1 (t := 42) (by decide))) $$ Hi1
  icases Hi1 with ⟨Hb1, Hx1, Hz1⟩
  imodintro
  iapply HQ
  iframe Hb0 Hx0 Hz0 Hb1 Hx1 Hz1 Hg0 Hzo0 Hg1 Hzo1 Hw0 Hw1 Ho

end Body

end Cert.Proof.Unpool

end
-- ==== Proof.Split.lean ====
/-
  How the two arrays go out to the tiles: the result as its blocks, 84 to a tile, 42 to each of the tile's two slots;
  the input as read shares, half of it to a SparseCore and a token of that half to each of its tiles.
-/
module

public import proofs.«01_k».proof.Proof.Body
public import Idealize.ShloMosaic.Lib.Ring

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The grid coordinate of tile `s` of SparseCore `c`. -/
def tileAt (c : Fin (grid0.bound 0)) (s : Fin (grid0.bound 1)) : grid0.Coords :=
  fun | 0 => c | 1 => s | ⟨_ + 2, h⟩ => absurd h (Nat.not_lt.2 (Nat.le_add_left _ _))

theorem base_tileAt (c : Fin (grid0.bound 0)) (s : Fin (grid0.bound 1)) : base (tileAt c s) = 84 * (2 * s.val + c.val) := by
  unfold base tileAt; first | rfl | omega

theorem bn_tileAt (c : Fin (grid0.bound 0)) (s : Fin (grid0.bound 1)) (p j : ℕ) : 84 * (2 * s.val + c.val) + (2 * j + p) = bn (tileAt c s) p j := by
  unfold bn; rw [base_tileAt]

/-! ## Numbers below a product, in chunks -/

theorem bigSep_chunks (n a : ℕ) (Φ : ℕ → sProp (MM F)) :
    bigSep (Finset.range (n * a)) Φ = bigSep (Finset.range n) fun w => bigSep (Finset.range a) fun k => Φ (a * w + k) := by
  induction n with
  | zero => rw [Nat.zero_mul, Finset.range_zero, bigSep_empty, bigSep_empty]
  | succ n ih =>
    have hm : (Finset.range a).map ⟨fun k => a * n + k, fun _ _ e => Nat.add_left_cancel e⟩ = Finset.Ico (n * a) ((n + 1) * a) := by
      ext k
      rw [Finset.mem_map, Finset.mem_Ico, Nat.succ_mul, Nat.mul_comm n a]
      constructor
      · rintro ⟨j, hj, rfl⟩
        have := Finset.mem_range.mp hj
        exact ⟨Nat.le_add_right _ _, Nat.add_lt_add_left this _⟩
      · rintro ⟨h1, h2⟩
        exact ⟨k - a * n, Finset.mem_range.mpr (by omega), by show a * n + (k - a * n) = k; omega⟩
    have hu : Finset.range ((n + 1) * a) = Finset.Ico (n * a) ((n + 1) * a) ∪ Finset.range (n * a) := by
      ext k
      rw [Finset.mem_union, Finset.mem_Ico, Finset.mem_range, Finset.mem_range, Nat.succ_mul]
      omega
    have hd : Disjoint (Finset.Ico (n * a) ((n + 1) * a)) (Finset.range (n * a)) :=
      Finset.disjoint_left.mpr fun k h1 h2 => absurd (Finset.mem_range.mp h2) (Nat.not_lt.mpr (Finset.mem_Ico.mp h1).1)
    rw [hu, SparseCore.bigSep_union' hd, ih, Finset.range_add_one, SparseCore.bigSep_insert' (by simp), ← hm, bigSep_map]
    rfl

theorem bigSep_range_fin (n : ℕ) (Φ : ℕ → sProp (MM F)) : bigSep (Finset.range n) Φ = bigSep (Finset.univ : Finset (Fin n)) fun k => Φ k.val := by
  rw [← Nat.Iio_eq_range, ← Fin.map_valEmbedding_univ, bigSep_map]; rfl

/-- The 2688 blocks, dealt to SparseCores, tiles and slots. -/
theorem deal (Φ : ℕ → sProp (MM F)) :
    bigSep (Finset.range 2688) Φ = bigSep Finset.univ fun c : Fin (grid0.bound 0) => bigSep Finset.univ fun s : Fin (grid0.bound 1) =>
      iprop((bigSep (Finset.range 42) fun j => Φ (bn (tileAt c s) 0 j)) ∗ bigSep (Finset.range 42) fun j => Φ (bn (tileAt c s) 1 j)) := by
  rw [show 2688 = 32 * 84 from rfl, bigSep_chunks, show (32 : ℕ) = 2 * 16 from rfl, Ring.bigSep_range_deinterleave]
  refine Eq.trans ?_ (bigSep_fin_two _).symm
  rw [bigSep_range_fin 16, bigSep_range_fin 16]
  refine congrArg₂ _ (bigSep_congr fun s _ => ?_) (bigSep_congr fun s _ => ?_)
  · refine (Ring.bigSep_range_deinterleave 42 fun k => Φ (84 * (2 * s.val) + k)).trans ?_
    exact congrArg₂ _ (bigSep_congr fun j _ => congrArg Φ (bn_tileAt ⟨0, by decide⟩ s 0 j)) (bigSep_congr fun j _ => congrArg Φ (bn_tileAt ⟨0, by decide⟩ s 1 j))
  · refine (Ring.bigSep_range_deinterleave 42 fun k => Φ (84 * (2 * s.val + 1) + k)).trans ?_
    exact congrArg₂ _ (bigSep_congr fun j _ => congrArg Φ (bn_tileAt ⟨1, by decide⟩ s 0 j)) (bigSep_congr fun j _ => congrArg Φ (bn_tileAt ⟨1, by decide⟩ s 1 j))

theorem blk_disjoint {k k' : ℕ} (h : k ≠ k') : Disjoint (blk k) (blk k') := by
  unfold blk
  exact Finset.disjoint_filter.mpr fun x _ h1 h2 => h (h1.symm.trans h2)

theorem blk_cover : (Finset.range 2688).biUnion blk = Finset.univ := by
  refine Finset.eq_univ_of_forall fun x => ?_
  rw [Finset.mem_biUnion]
  refine ⟨blkOf x, Finset.mem_range.mpr (blkOf_lt x), ?_⟩
  unfold blk
  rw [Finset.mem_filter]
  exact ⟨Finset.mem_univ _, rfl⟩

section Arrays

variable (d : Dev nD) (m : (ℓ : Loc nD τ sig) → Buf (Elt F) ℓ)

/-- The result array is its blocks. -/
theorem blocks_of (f : Buf (Elt F) (oLoc d)) :
    (oLoc d ↦{fullShare} f : sProp (MM F)) = bigSep (Finset.range 2688) fun k => oLoc d ↦[blk k]{fullShare} f := by
  rw [← pointsTo_biUnion (Finset.range 2688) (ℓ := oLoc d) blk (fun k _ k' _ h => blk_disjoint h), blk_cover]

/-- A SparseCore's part of the input. -/
abbrev half (c : Fin (grid0.bound 0)) : PosShare TreeShare := if c.val = 0 then fullShare.left else fullShare.right
/-- A tile's part of its SparseCore's. -/
abbrev tok (c : Fin (grid0.bound 0)) (s : Fin (grid0.bound 1)) : PosShare TreeShare := Transfers.shareTok (half c) 16 s

/-- What a tile's blocks of the result are before it runs, and after. -/
abbrev TileOld (L : grid0.Coords) : sProp (MM F) := iprop(Todo d L m 0 0 ∗ Todo d L m 1 0)
abbrev TileNew (L : grid0.Coords) : sProp (MM F) := iprop(Written d L m 0 42 ∗ Written d L m 1 42)

/-- What a tile's task is handed, and what it brings back. -/
abbrev Go (c : Fin (grid0.bound 0)) (s : Fin (grid0.bound 1)) : sProp (MM F) := iprop(XSh d m (tok c s) ∗ TileOld d m (tileAt c s))
abbrev Td (c : Fin (grid0.bound 0)) (s : Fin (grid0.bound 1)) : sProp (MM F) := iprop(XSh d m (tok c s) ∗ TileNew d m (tileAt c s))
/-- The same of a SparseCore. -/
abbrev CoreIn (c : Fin (grid0.bound 0)) : sProp (MM F) := iprop(XSh d m (half c) ∗ bigSep Finset.univ fun s : Fin (grid0.bound 1) => TileOld d m (tileAt c s))
abbrev CoreOut (c : Fin (grid0.bound 0)) : sProp (MM F) := iprop(XSh d m (half c) ∗ bigSep Finset.univ fun s : Fin (grid0.bound 1) => TileNew d m (tileAt c s))

/-- The result array before the call, and after it. -/
theorem old_deal : (oLoc d ↦{fullShare} m (oLoc d) : sProp (MM F))
    = bigSep Finset.univ fun c : Fin (grid0.bound 0) => bigSep Finset.univ fun s : Fin (grid0.bound 1) => TileOld d m (tileAt c s) := by
  rw [blocks_of, deal]
  refine bigSep_congr fun c _ => bigSep_congr fun s _ => ?_
  unfold TileOld Todo
  rw [Finset.range_eq_Ico]
theorem new_deal : (oLoc d ↦{fullShare} (unpool (xv d m) : Buf (Elt F) (oLoc d)) : sProp (MM F))
    = bigSep Finset.univ fun c : Fin (grid0.bound 0) => bigSep Finset.univ fun s : Fin (grid0.bound 1) => TileNew d m (tileAt c s) := by
  rw [blocks_of, deal]
  rfl

/-- A SparseCore's part, dealt to its tiles and taken back from them. -/
theorem core_deal (c : Fin (grid0.bound 0)) :
    CoreIn d m c ⊢ iprop((bigSep Finset.univ fun s : Fin (grid0.bound 1) => Go d m c s)
      ∗ ((bigSep Finset.univ fun s : Fin (grid0.bound 1) => Td d m c s) -∗ CoreOut d m c)) := by
  unfold Go Td
  rw [bigSep_sep' _ (fun s : Fin (grid0.bound 1) => XSh d m (tok c s)) (fun s => TileOld d m (tileAt c s)),
    bigSep_sep' _ (fun s : Fin (grid0.bound 1) => XSh d m (tok c s)) (fun s => TileNew d m (tileAt c s))]
  iintro ⟨Hx, Ho⟩
  ihave H := (Transfers.pointsTo_toks_split (half c) 16) $$ Hx
  icases H with ⟨Hd, Ht⟩
  isplitl [Ht Ho]
  · isplitl [Ht]; · iexact Ht
    iexact Ho
  iintro ⟨Ht, Ho⟩
  isplitl [Hd Ht]
  · iapply (Transfers.pointsTo_toks_join (half c) 16)
    isplitl [Hd]; · iexact Hd
    iexact Ht
  iexact Ho

theorem halves : (bigSep Finset.univ fun c : Fin (grid0.bound 0) => XSh d m (half c)) = iprop(XSh d m fullShare.left ∗ XSh d m fullShare.right) :=
  bigSep_fin_two (fun c : Fin 2 => XSh d m (half c))

/-- The two arrays, dealt to the SparseCores and taken back from them. -/
theorem cores_in : iprop((xLoc d ↦{fullShare} m (xLoc d)) ∗ oLoc d ↦{fullShare} m (oLoc d)) ⊢ bigSep Finset.univ fun c : Fin (grid0.bound 0) => CoreIn d m c := by
  rw [old_deal]
  unfold CoreIn
  rw [bigSep_sep']
  iintro ⟨Hx, Ho⟩
  ihave H := (pointsTo_share (PosShare.mem_left_op_right fullShare)).1 $$ Hx
  isplitl [H]
  · rw [halves]; iexact H
  iexact Ho
theorem cores_out : (bigSep Finset.univ fun c : Fin (grid0.bound 0) => CoreOut d m c)
    ⊢ iprop((xLoc d ↦{fullShare} m (xLoc d)) ∗ oLoc d ↦{fullShare} (unpool (xv d m) : Buf (Elt F) (oLoc d))) := by
  rw [new_deal]
  unfold CoreOut
  rw [bigSep_sep']
  iintro ⟨Hx, Ho⟩
  ihave H := (Entails.of_eq (halves d m)) $$ Hx
  isplitl [H]
  · iapply (pointsTo_share (PosShare.mem_left_op_right fullShare)).2; iexact H
  iexact Ho

end Arrays

end Cert.Proof.Unpool

end
-- ==== Proof.Tile.lean ====
/-
  The task of one tile, from what the launch hands it — a read share of the input, its blocks of the result, its four
  scratch buffers and its four counters — to what it brings back: the same, its blocks of the result written.
-/
module

public import proofs.«01_k».proof.Proof.Split

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

section Tile

variable (d : Dev nD) (i : grid0.Coords) (m : (ℓ : Loc nD τ sig) → Buf (Elt F) ℓ)

/-- The counter of one of the tile's own semaphores. -/
abbrev cell (s : DmaSems sig S_) : GSem nD τ sig := (thr d i, SemLoc.dma s.sem)

theorem cell_mem (s : DmaSems sig S_) (h : (SemLoc.dma s.sem : SemLoc sig).isScoped .scVector = true) : cell d i s ∈ ownCells (thr d i) :=
  mem_ownCells.mpr ⟨rfl, h⟩

theorem cell_ne {s s' : DmaSems sig S_} (h : (SemLoc.dma s.sem : SemLoc sig) ≠ SemLoc.dma s'.sem) : cell d i s ≠ cell d i s' :=
  fun e => h (Prod.mk.inj e).2

/-- The four counters are among the tile's own. -/
theorem ownSems0_tile :
    (ownSems0 (thr d i) : sProp (MM F))
      = iprop(Zero d i cc0_scratch4.sem ∗ Zero d i cc0_scratch5.sem ∗ Zero d i cc0_scratch6.sem ∗ Zero d i cc0_scratch7.sem
          ∗ bigSep (((((ownCells (thr d i)).erase (cell d i cc0_scratch4)).erase (cell d i cc0_scratch5)).erase (cell d i cc0_scratch6)).erase (cell d i cc0_scratch7))
              fun g => semVal g 0) := by
  have n1 : cell d i cc0_scratch5 ≠ cell d i cc0_scratch4 := cell_ne d i (by decide)
  have n2 : cell d i cc0_scratch6 ≠ cell d i cc0_scratch4 := cell_ne d i (by decide)
  have n3 : cell d i cc0_scratch6 ≠ cell d i cc0_scratch5 := cell_ne d i (by decide)
  have n4 : cell d i cc0_scratch7 ≠ cell d i cc0_scratch4 := cell_ne d i (by decide)
  have n5 : cell d i cc0_scratch7 ≠ cell d i cc0_scratch5 := cell_ne d i (by decide)
  have n6 : cell d i cc0_scratch7 ≠ cell d i cc0_scratch6 := cell_ne d i (by decide)
  unfold SparseCore.Cfg.ownSems0
  rw [SparseCore.bigSep_erase' (cell_mem d i cc0_scratch4 (by decide)),
    SparseCore.bigSep_erase' (Finset.mem_erase.mpr ⟨n1, cell_mem d i cc0_scratch5 (by decide)⟩),
    SparseCore.bigSep_erase' (Finset.mem_erase.mpr ⟨n3, Finset.mem_erase.mpr ⟨n2, cell_mem d i cc0_scratch6 (by decide)⟩⟩),
    SparseCore.bigSep_erase' (Finset.mem_erase.mpr ⟨n6, Finset.mem_erase.mpr ⟨n5, Finset.mem_erase.mpr ⟨n4, cell_mem d i cc0_scratch7 (by decide)⟩⟩⟩)]

/-- One of the tile's own buffers, among all of them. -/
abbrev ref (b : Ref sig .scVector) : DevRef τ sig := (Proc.scVector (cV i) (sV i)).devRef b

theorem ref_ne {b b' : Ref sig .scVector} (h : b ≠ b') : ref i b ≠ ref i b' := fun e => h (Proc.devRef_injective _ e)

/-- The four scratch buffers are among the tile's own. -/
theorem ownBufs_tile :
    (ownBufs (thr d i) : sProp (MM F))
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (((((ownRefs (τ := τ) (.scVector (cV i) (sV i))).erase (ref i cc0_scratch0)).erase (ref i cc0_scratch1)).erase (ref i cc0_scratch2)).erase (ref i cc0_scratch3))
              fun b => iprop(∃ f, ((d, b) : Loc nD τ sig) ↦{fullShare} f)) := by
  have n1 : ref i cc0_scratch1 ≠ ref i cc0_scratch0 := ref_ne i (by decide)
  have n2 : ref i cc0_scratch2 ≠ ref i cc0_scratch0 := ref_ne i (by decide)
  have n3 : ref i cc0_scratch2 ≠ ref i cc0_scratch1 := ref_ne i (by decide)
  have n4 : ref i cc0_scratch3 ≠ ref i cc0_scratch0 := ref_ne i (by decide)
  have n5 : ref i cc0_scratch3 ≠ ref i cc0_scratch1 := ref_ne i (by decide)
  have n6 : ref i cc0_scratch3 ≠ ref i cc0_scratch2 := ref_ne i (by decide)
  unfold SparseCore.Cfg.ownBufs
  refine (SparseCore.bigSep_erase' (SparseCore.Cfg.mem_ownRefs_of_owner (p := Proc.scVector (cV i) (sV i)) (b := ref i cc0_scratch0) rfl)).trans ?_
  rw [SparseCore.bigSep_erase' (Finset.mem_erase.mpr ⟨n1, SparseCore.Cfg.mem_ownRefs_of_owner (p := Proc.scVector (cV i) (sV i)) (b := ref i cc0_scratch1) rfl⟩),
    SparseCore.bigSep_erase' (Finset.mem_erase.mpr ⟨n3, Finset.mem_erase.mpr ⟨n2,
      SparseCore.Cfg.mem_ownRefs_of_owner (p := Proc.scVector (cV i) (sV i)) (b := ref i cc0_scratch2) rfl⟩⟩),
    SparseCore.bigSep_erase' (Finset.mem_erase.mpr ⟨n6, Finset.mem_erase.mpr ⟨n5, Finset.mem_erase.mpr ⟨n4,
      SparseCore.Cfg.mem_ownRefs_of_owner (p := Proc.scVector (cV i) (sV i)) (b := ref i cc0_scratch3) rfl⟩⟩⟩)]

/-- The task, from what the launch deals the tile to what it hands back. -/
theorem tile_task (q : PosShare TreeShare) (O : CellTallies nD τ sig (HIx 1)) (W : Waits sig (HIx 1)) (hO : ∀ g, O g none = 0) :
    iprop(levAts (K (F := F)).L (K (F := F)).lev ∗ emp ∗ (XSh d m q ∗ TileOld d m i) ∗ scopedBufs (thr d i) ∗ scopedSems0 (thr d i) ∗ owes (thr d i) O W)
      ⊢ tileWp d i (cc0__unpool_body i xV (Memref.isWhole_whole _) oV (Memref.isWhole_whole _) in0 (Memref.isWhole_whole _) in1 (Memref.isWhole_whole _)
          out0 (Memref.isWhole_whole _) out1 (Memref.isWhole_whole _) cc0_scratch4 cc0_scratch5 cc0_scratch6 cc0_scratch7)
          fun _ => iprop((XSh d m q ∗ TileNew d m i) ∗ scopedBufs (thr d i) ∗ scopedSems0 (thr d i)
            ∗ ∃ W', ⌜∀ p ∈ W', p ∈ W ∨ p.2 = none⌝ ∗ owes (thr d i) O W') := by
  rw [(K (F := F)).scopedBufs_V facts d (cV i) (sV i), SparseCore.Cfg.scopedSems0_V (Val := Elt F) d (cV i) (sV i), ownSems0_tile, ownBufs_tile]
  iintro ⟨#Hlv, -, ⟨Hx, Ht0, Ht1⟩, ⟨Hb0, Hb1, Hb2, Hb3, Hbufs⟩, ⟨Hz0, Hz1, Hz2, Hz3, Hsems⟩, HO⟩
  ihave Hx := (pointsTo_share (PosShare.mem_left_op_right q)).1 $$ Hx
  icases Hx with ⟨Hx0, Hx1⟩
  iapply (body_spec d i m (Memref.isWhole_whole _) (Memref.isWhole_whole _) in0 (Memref.isWhole_whole _) in1 (Memref.isWhole_whole _)
    out0 (Memref.isWhole_whole _) out1 (Memref.isWhole_whole _) cc0_scratch4 cc0_scratch5 cc0_scratch6 cc0_scratch7 q.left q.right (O := O) (W := W) _)
    $$ [Hx0 Hx1 Ht0 Ht1 Hb0 Hb1 Hb2 Hb3 Hz0 Hz1 Hz2 Hz3 HO]
  · isplitl [Hx0 Hb0 Hz0]
    · isplitl [Hx0]; · iexact Hx0
      isplitl [Hb0]; · iexact Hb0
      iexact Hz0
    isplitl [Hb2 Hz2]
    · isplitl [Hb2]; · iexact Hb2
      iexact Hz2
    isplitl [Ht0]; · iexact Ht0
    isplitl [Hx1 Hb1 Hz1]
    · isplitl [Hx1]; · iexact Hx1
      isplitl [Hb1]; · iexact Hb1
      iexact Hz1
    isplitl [Hb3 Hz3]
    · isplitl [Hb3]; · iexact Hb3
      iexact Hz3
    isplitl [Ht1]; · iexact Ht1
    unfold Ow
    isplitr
    · iapply ((K (F := F)).mayWaits_none (thr := thr d i) hO); iexact Hlv
    iexists W
    isplitr
    · ipureintro; exact fun p hp => .inl hp
    iexact HO
  iintro ⟨⟨Hx0, Hb0, Hz0⟩, ⟨Hb2, Hz2⟩, Hw0, ⟨Hx1, Hb1, Hz1⟩, ⟨Hb3, Hz3⟩, Hw1, HO⟩
  unfold Ow
  icases HO with ⟨-, HO⟩
  isplitl [Hx0 Hx1 Hw0 Hw1]
  · isplitl [Hx0 Hx1]
    · iapply (pointsTo_share (PosShare.mem_left_op_right q)).2
      isplitl [Hx0]; · iexact Hx0
      iexact Hx1
    isplitl [Hw0]; · iexact Hw0
    iexact Hw1
  isplitl [Hb0 Hb1 Hb2 Hb3 Hbufs]
  · isplitl [Hb0]; · iexact Hb0
    isplitl [Hb1]; · iexact Hb1
    isplitl [Hb2]; · iexact Hb2
    isplitl [Hb3]; · iexact Hb3
    iexact Hbufs
  isplitl [Hz0 Hz1 Hz2 Hz3 Hsems]
  · isplitl [Hz0]; · iexact Hz0
    isplitl [Hz1]; · iexact Hz1
    isplitl [Hz2]; · iexact Hz2
    isplitl [Hz3]; · iexact Hz3
    iexact Hsems
  iexact HO

end Tile

end Cert.Proof.Unpool

end
-- ==== Proof.Launch.lean ====
/-
  The run of the whole program: what the call hands to the SparseCores and their tiles, and the launch theorem. The run
  ends with the result array at the input unpooled, the input unchanged and every counter at zero.
-/
module

public import proofs.«01_k».proof.Proof.Tile

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## What the handshakes carry -/

/-- The one call hands each SparseCore its part of the arrays, and each tile its part of that. -/
def P : (K (F := F)).Pay (nD := nD) (Val := Elt F) (Name := ℕ) (U := UU) where
  st := fun q d c => match q with | 0 => CoreIn d m c
  dn := fun q d c => match q with | 0 => CoreOut d m c
  go := fun q d c s => match q with | 0 => Go d m c s
  td := fun q d c s => match q with | 0 => Td d m c s
  x := fun _ _ => iprop(emp)

instance todo_storable (d : Dev nD) (i : grid0.Coords) (p t : ℕ) : BI.Storable (upEmb : UEmb _ (MM F)) (Todo d i m p t) := by
  unfold Todo; infer_instance
instance written_storable (d : Dev nD) (i : grid0.Coords) (p t : ℕ) : BI.Storable (upEmb : UEmb _ (MM F)) (Written d i m p t) := by
  unfold Written; infer_instance

instance P_storable : (P (F := F) m).IsStorable where
  st q d c := match q with | 0 => (inferInstance : BI.Storable (upEmb : UEmb _ (MM F)) (CoreIn d m c))
  dn q d c := match q with | 0 => (inferInstance : BI.Storable (upEmb : UEmb _ (MM F)) (CoreOut d m c))
  go q d c s := match q with | 0 => (inferInstance : BI.Storable (upEmb : UEmb _ (MM F)) (Go d m c s))
  td q d c s := match q with | 0 => (inferInstance : BI.Storable (upEmb : UEmb _ (MM F)) (Td d m c s))

/-! ## The tiles and the SparseCores -/

theorem defs₀_tile (c : Fin τ.nSC) (s : Fin τ.nSub) :
    defs₀ (F := F) (.scVector c s) 0 ()
      = SparseCore.onTile hcore0 hsub0 (fun c s => cc0__unpool_body (tileAt c s) xV (Memref.isWhole_whole _) oV (Memref.isWhole_whole _)
          in0 (Memref.isWhole_whole _) in1 (Memref.isWhole_whole _) out0 (Memref.isWhole_whole _) out1 (Memref.isWhole_whole _)
          cc0_scratch4 cc0_scratch5 cc0_scratch6 cc0_scratch7) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_tile]; simp only [SparseCore.onTile, hc, and_self, ↓reduceDIte]
  exact (tile_task d (tileAt ⟨_, hc.1⟩ ⟨_, hc.2⟩) m (tok ⟨_, hc.1⟩ ⟨_, hc.2⟩) O W hO).trans (wp_mono frame _ _ fun _ => obl_post)

theorem vecSplit : (K (F := F)).VecSplit' (P m) 0 := by
  intro d c
  refine (core_deal d m c).trans ?_
  iintro H
  imodintro
  iexact H

/-! ## The launch element: the handshakes' rounds; nothing of the kernel's own -/

def u₀ : UU := (initOf (K (F := F)).hsCells (K (F := F)).hsToks, 1)

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr
  · rw [show (bigSep Finset.univ fun _ : Dev nD => (iprop(emp) : sProp (MM F))) = iprop(emp) from bigSep_emp_const _]
    iempintro
  rw [show (bigSep Finset.univ fun thr : Thread nD τ => bigSep Finset.univ fun q : Fin 1 => (P m).x q thr) = (iprop(emp) : sProp (MM F)) from
    (bigSep_congr fun _ _ => bigSep_emp_const _).trans (bigSep_emp_const _)]
  iempintro

/-! ## @main on the TensorCore -/

theorem unscopedBufs_eq (d : Dev nD) (W : (b : Ref sig .tc) → Buf (Elt F) ((d.tc : Thread nD τ).loc b)) :
    (unscopedBufs d W : sProp (MM F)) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What @main ends with: the input as it was, the result unpooled. -/
abbrev FIN (d : Dev nD) : sProp (MM F) :=
  iprop((xLoc d ↦{fullShare} m (xLoc d)) ∗ oLoc d ↦{fullShare} (unpool (xv d m) : Buf (Elt F) (oLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Ha, Hts, -⟩, -⟩
  iapply ((K (F := F)).wp_run (D (F := F)) 𝒱 (EH := EH) (P := P m) κ d 0) $$ [Hst Ha Hb Hts]
  isplitr; · iexact Hctx
  isplitl [Hst]; · iexact Hst
  isplitl [Ha]
  · iapply (cores_in d m); iexact Ha
  iintro ⟨Hst, Hdn⟩
  ihave Hfin := (show (bigSep Finset.univ fun c : Fin ((K (F := F)).nCore 0) => (P m).dn 0 d c) ⊢ FIN m d from cores_out d m) $$ Hdn
  imodintro
  isplitl [Hst]; · iexact Hst
  isplitl [Hfin]; · iexact Hfin
  isplitl [Hb] <;> iassumption

/-- The final memory of a device. -/
def Final (d : Dev nD) (s' : Phys nD τ sig (Elt F)) : Prop :=
  s'.mem.mem (xLoc d) = m (xLoc d) ∧ s'.mem.mem (oLoc d) = (unpool (xv d m) : Buf (Elt F) (oLoc d))

theorem hfin (d : Dev nD) (s' : Phys nD τ sig (Elt F)) : iprop(FIN m d ∗ SI s') ⊢ (⌜Final m d s'⌝ : sProp (MM F)) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := (unpool (xv d m) : Buf (Elt F) (oLoc d)))) $$ [HSI Ho]
  · isplitl [HSI] <;> iassumption
  icases H with %h2
  ipureintro; exact ⟨funext fun i => h1 i (Finset.mem_univ i), funext fun i => h2 i (Finset.mem_univ i)⟩

/-! ## The run -/

def Post : PUnit × MemSt nD τ sig (Elt F) → Prop := fun r =>
  (∀ d : Dev nD, r.2.mem (xLoc d) = m (xLoc d) ∧ r.2.mem (oLoc d) = (unpool (xv d m) : Buf (Elt F) (oLoc d))) ∧ r.2.sem = fun _ => 0

theorem run_main [∀ e, Nonempty (Elt F e)] :
    θ_run (Cert.KernelIdeal.defs (F := F)) (Cert.KernelIdeal.threads (F := F)) ⟨m, fun _ => 0, ρ⟩ (Post m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (Final m) (hfin m) (Post m) (fun _ h hz => ⟨h, hz⟩)

end Cert.Proof.Unpool

end
-- ==== Proof.RefWords.lean ====
/-
  The two integer operations that the reference's index arithmetic is made of, on words that hold small natural
  numbers: a division rounded down and the remainder that goes with it. Both are written out on the host as a
  truncating operation and a correction for operands of different signs; for a non-negative dividend and a positive
  divisor the correction never acts, so the words hold `n / k` and `n % k`.
-/
module

public import Idealize.ShloMosaic.PureOps.Vector
public import Idealize.ShloMosaic.Lib.WordArith

@[expose] public section

noncomputable section

namespace Cert.Proof.Unpool

open Idealize.ShloMosaic

/-- A small natural number's word has a clear sign bit. -/
theorem msb_small (n : ℕ) (h : n < 2 ^ 31) : (BitVec.ofNat 32 n).msb = false := by
  rw [BitVec.msb_eq_decide, BitVec.toNat_ofNat, decide_eq_false_iff_not]
  omega

/-- Small natural numbers are told apart by their words. -/
theorem ofNat_small_inj (n k : ℕ) (hn : n < 2 ^ 31) (hk : k < 2 ^ 31) :
    BitVec.ofNat 32 n = BitVec.ofNat 32 k ↔ n = k := by
  constructor
  · intro h
    have := congrArg BitVec.toNat h
    rw [BitVec.toNat_ofNat, BitVec.toNat_ofNat] at this
    omega
  · rintro rfl; rfl

/-- No small word is below zero. -/
theorem slt_zero_small (n : ℕ) (h : n < 2 ^ 31) : IntOp.cmpi .slt (BitVec.ofNat 32 n) 0#32 = 0#1 := by
  show BitVec.ofBool ((BitVec.ofNat 32 n).slt 0#32) = 0#1
  have e : (BitVec.ofNat 32 n).slt 0#32 = false := by
    rw [BitVec.slt_eq_decide, decide_eq_false_iff_not, WordArith.toInt_ofNat_small n h, BitVec.toInt_zero]
    omega
  rw [e]; rfl

/-- A positive small divisor is none of the division's corners. -/
theorem not_corner (n k : ℕ) (hk0 : 0 < k) (hk : k < 2 ^ 31) :
    ¬ IntOp.SDivCorner (BitVec.ofNat 32 n) (BitVec.ofNat 32 k) := by
  rintro (h | ⟨-, h⟩)
  · exact absurd ((ofNat_small_inj k 0 hk (by omega)).1 h) (by omega)
  · have := congrArg BitVec.msb h
    rw [msb_small k hk] at this
    exact absurd this (by decide)

/-- The truncating remainder of small words. -/
theorem remsi_small (n k : ℕ) (hn : n < 2 ^ 31) (hk0 : 0 < k) (hk : k < 2 ^ 31) :
    IntOp.remsi .host (BitVec.ofNat 32 n) (BitVec.ofNat 32 k) = BitVec.ofNat 32 (n % k) := by
  unfold IntOp.remsi
  rw [if_neg (not_corner n k hk0 hk), BitVec.srem_eq, msb_small n hn, msb_small k hk]
  apply BitVec.eq_of_toNat_eq
  show (BitVec.ofNat 32 n % BitVec.ofNat 32 k).toNat = _
  have hlt : n % k < k := Nat.mod_lt n hk0
  rw [BitVec.toNat_umod, BitVec.toNat_ofNat, BitVec.toNat_ofNat, BitVec.toNat_ofNat,
    Nat.mod_eq_of_lt (show n < 2 ^ 32 by omega), Nat.mod_eq_of_lt (show k < 2 ^ 32 by omega),
    Nat.mod_eq_of_lt (show n % k < 2 ^ 32 by omega)]

/-- The truncating quotient of small words. -/
theorem divsi_small (n k : ℕ) (hn : n < 2 ^ 31) (hk0 : 0 < k) (hk : k < 2 ^ 31) :
    IntOp.divsi .host (BitVec.ofNat 32 n) (BitVec.ofNat 32 k) = BitVec.ofNat 32 (n / k) := by
  unfold IntOp.divsi
  rw [if_neg (not_corner n k hk0 hk), BitVec.sdiv_eq, msb_small n hn, msb_small k hk]
  apply BitVec.eq_of_toNat_eq
  show (BitVec.ofNat 32 n / BitVec.ofNat 32 k).toNat = _
  have hle : n / k ≤ n := Nat.div_le_self n k
  rw [BitVec.toNat_udiv, BitVec.toNat_ofNat, BitVec.toNat_ofNat, BitVec.toNat_ofNat,
    Nat.mod_eq_of_lt (show n < 2 ^ 32 by omega), Nat.mod_eq_of_lt (show k < 2 ^ 32 by omega),
    Nat.mod_eq_of_lt (show n / k < 2 ^ 32 by omega)]

/-- The divisor of a remainder as the host guards it: one in place of zero. -/
def guardW (k : BitVec 32) : BitVec 32 := Scalar.select (IntOp.cmpi .eq k 0#32) 1#32 k

/-- The remainder with the divisor's sign, from the truncating one. -/
def modW (x k : BitVec 32) : BitVec 32 :=
  Scalar.select
    (IntOp.andi (IntOp.cmpi .ne (IntOp.cmpi .slt (IntOp.remsi .host x k) 0#32) (IntOp.cmpi .slt k 0#32))
      (IntOp.cmpi .ne (IntOp.remsi .host x k) 0#32))
    (IntOp.addi (IntOp.remsi .host x k) k) (IntOp.remsi .host x k)

/-- A word's sign: zero, one or minus one. -/
def signW (x : BitVec 32) : BitVec 32 := if x = 0 then 0 else if x.msb then -1 else 1

/-- The quotient rounded down, from the truncating one. -/
def divW (x k : BitVec 32) : BitVec 32 :=
  Scalar.select
    (IntOp.andi (IntOp.cmpi .ne (signW x) (signW k)) (IntOp.cmpi .ne (IntOp.remsi .host x k) 0#32))
    (IntOp.subi (IntOp.divsi .host x k) 1#32) (IntOp.divsi .host x k)

/-- The guard leaves a positive divisor. -/
theorem guardW_small (k : ℕ) (hk0 : 0 < k) (hk : k < 2 ^ 31) : guardW (BitVec.ofNat 32 k) = BitVec.ofNat 32 k := by
  have h : (BitVec.ofNat 32 k == 0#32) = false := by
    rw [beq_eq_false_iff_ne]
    exact fun h => absurd ((ofNat_small_inj k 0 hk (by omega)).1 h) (by omega)
  show Scalar.select (BitVec.ofBool (BitVec.ofNat 32 k == 0#32)) 1#32 (BitVec.ofNat 32 k) = _
  rw [h]; rfl

/-- The remainder of small numbers. -/
theorem modW_small (n k : ℕ) (hn : n < 2 ^ 31) (hk0 : 0 < k) (hk : k < 2 ^ 31) :
    modW (BitVec.ofNat 32 n) (BitVec.ofNat 32 k) = BitVec.ofNat 32 (n % k) := by
  have hlt : n % k < k := Nat.mod_lt n hk0
  unfold modW
  rw [remsi_small n k hn hk0 hk, slt_zero_small (n % k) (by omega), slt_zero_small k hk]
  have e : ∀ c : BitVec 1, IntOp.andi (IntOp.cmpi .ne 0#1 0#1) c = 0#1 := by decide
  rw [e]; rfl

/-- The sign of a positive small number. -/
theorem signW_pos (n : ℕ) (h0 : 0 < n) (h : n < 2 ^ 31) : signW (BitVec.ofNat 32 n) = 1 := by
  unfold signW
  have hne : ¬ (BitVec.ofNat 32 n = (0 : BitVec 32)) :=
    fun e => absurd ((ofNat_small_inj n 0 h (by omega)).1 e) (by omega)
  rw [if_neg hne, msb_small n h]
  rfl

/-- The quotient of small numbers. -/
theorem divW_small (n k : ℕ) (hn : n < 2 ^ 31) (hk0 : 0 < k) (hk : k < 2 ^ 31) :
    divW (BitVec.ofNat 32 n) (BitVec.ofNat 32 k) = BitVec.ofNat 32 (n / k) := by
  unfold divW
  rw [remsi_small n k hn hk0 hk, divsi_small n k hn hk0 hk, signW_pos k hk0 hk]
  rcases Nat.eq_zero_or_pos n with rfl | h0
  · rw [Nat.zero_mod, show IntOp.cmpi .ne (BitVec.ofNat 32 0) 0#32 = 0#1 from by decide]
    have e : ∀ c : BitVec 1, IntOp.andi c 0#1 = 0#1 := by decide
    rw [e]; rfl
  · rw [signW_pos n h0 hn, show IntOp.cmpi .ne (1 : BitVec 32) 1 = 0#1 from by decide]
    have e : ∀ c : BitVec 1, IntOp.andi 0#1 c = 0#1 := by decide
    rw [e]; rfl

end Cert.Proof.Unpool

end
-- ==== Proof.RefIndex.lean ====
/-
  The reference's table of source positions. Its word at position `v` is built from `v` by remainders and divisions
  rounded down — the column, the row and the plane of the source — and is the word of `gsrc v`.
-/
module

public import proofs.«01_k».proof.Proof.Blocks
public import proofs.«01_k».proof.Proof.RefWords
public import proofs.«01_k».proof.Proof.Gen.ReferenceIdeal.Run

@[expose] public section

noncomputable section

namespace Cert.Proof.Unpool

open Idealize.ShloMosaic Cert.ReferenceIdeal Cert.ReferenceIdeal.Gen Cert.ReferenceIdeal.Value

variable {F : FTy → Type} [FloatOps F]
variable (V0 : Valuation τ sig (Elt F))

/-- The source position from the three parts the reference computes. -/
theorem gsrc_parts (v : ℕ) :
    v % 12544 % 112 / 2 + 56 * (v % 12544 / 224) + 3136 * (v / 12544) = gsrc v := by
  unfold gsrc
  omega

/-- The positions themselves. -/
theorem pos_at (i : S100352.Idx) : (res_main_v0 V0 : IVec S100352 32) i = BitVec.ofNat 32 (i 0).val := rfl

theorem pos_lt (i : S100352.Idx) : (i 0).val < 100352 := (i 0).isLt

/-- The position within a plane, as the reference computes it for the column. -/
def plane1 : IVec S100352 32 :=
  select (andi (cmpi .ne (cmpi .slt (res_main_call0_v4 V0) (broadcastInDim S100352 ![] bcast_S_S100352 (constantI S_ 32 0#32))) (broadcastInDim S100352 ![] bcast_S_S100352 (cmpi .slt (res_main_call0_v2 V0) (constantI S_ 32 0#32)))) (cmpi .ne (res_main_call0_v4 V0) (broadcastInDim S100352 ![] bcast_S_S100352 (constantI S_ 32 0#32)))) (addi (res_main_call0_v4 V0) (broadcastInDim S100352 ![] bcast_S_S100352 (res_main_call0_v2 V0))) (res_main_call0_v4 V0)

/-- It is `v % 12544`. -/
theorem plane1_at (i : S100352.Idx) : plane1 V0 i = BitVec.ofNat 32 ((i 0).val % 12544) := by
  have hv := pos_lt i
  have h : plane1 V0 i = modW (BitVec.ofNat 32 (i 0).val) (guardW 12544#32) := rfl
  rw [h, guardW_small 12544 (by decide) (by decide), modW_small _ _ (by omega) (by decide) (by decide)]

/-- The doubled column, `v % 12544 % 112`. -/
theorem col_at (i : S100352.Idx) :
    (res_main_v2 V0 : IVec S100352 32) i = BitVec.ofNat 32 ((i 0).val % 12544 % 112) := by
  have hv := pos_lt i
  have h : (res_main_v2 V0 : IVec S100352 32) i = modW (plane1 V0 i) (guardW 112#32) := rfl
  rw [h, plane1_at, guardW_small 112 (by decide) (by decide), modW_small _ _ (by omega) (by decide) (by decide)]

/-- The position within a plane, as the reference computes it for the row. -/
theorem plane2_at (i : S100352.Idx) :
    (res_main_v4 V0 : IVec S100352 32) i = BitVec.ofNat 32 ((i 0).val % 12544) := by
  have hv := pos_lt i
  have h : (res_main_v4 V0 : IVec S100352 32) i = modW (BitVec.ofNat 32 (i 0).val) (guardW 12544#32) := rfl
  rw [h, guardW_small 12544 (by decide) (by decide), modW_small _ _ (by omega) (by decide) (by decide)]

/-- The quotient rounded down of a vector of words by one word, as the host writes it. -/
def floorV (x : IVec S100352 32) (k : IVec S_ 32) : IVec S100352 32 :=
  select (andi (cmpi .ne (signi x) (broadcastInDim S100352 ![] bcast_S_S100352 (signi k))) (cmpi .ne (Host.remsi x (broadcastInDim S100352 ![] bcast_S_S100352 k)) (broadcastInDim S100352 ![] bcast_S_S100352 (constantI S_ 32 0#32)))) (subi (Host.divsi x (broadcastInDim S100352 ![] bcast_S_S100352 k)) (broadcastInDim S100352 ![] bcast_S_S100352 (constantI S_ 32 1#32))) (Host.divsi x (broadcastInDim S100352 ![] bcast_S_S100352 k))

/-- Its entry, for a constant divisor. -/
theorem floorV_at (x : IVec S100352 32) (w : BitVec 32) (i : S100352.Idx) :
    floorV x (id (constantI S_ 32 w)) i = divW (x i) w := rfl

/-- A constant vector of the table's length. -/
def constV (w : BitVec 32) : IVec S100352 32 := broadcastInDim S100352 ![] bcast_S_S100352 (constantI S_ 32 w)

/-- The table before it is laid out as a column. -/
def tableV : IVec S100352 32 :=
  addi (addi (floorV (res_main_v2 V0) (id (constantI S_ 32 2#32)))
      (muli (constV 56#32) (floorV (res_main_v4 V0) (id (constantI S_ 32 224#32)))))
    (muli (constV 3136#32) (floorV (res_main_v0 V0) (id (constantI S_ 32 12544#32))))

/-- The reference's table is that vector as a column. -/
theorem table_eq : (res_main_v13 V0 : IVec S100352x1 32)
    = broadcastInDim S100352x1 ![0] bcast_S100352_S100352x1_0 (tableV V0) := by
  unfold res_main_v13 res_main_call2_v2 res_main_call4_v2 res_main_call5_v2 res_main_call2_v0 res_main_call4_v0
    res_main_call5_v0 tableV floorV constV
  rfl

/-- The vector's word at position `v` is `gsrc v`'s. -/
theorem tableV_at (i : S100352.Idx) : tableV V0 i = BitVec.ofNat 32 (gsrc (i 0).val) := by
  have hv := pos_lt i
  have h : tableV V0 i
      = (floorV (res_main_v2 V0) (id (constantI S_ 32 2#32)) i
          + 56#32 * floorV (res_main_v4 V0) (id (constantI S_ 32 224#32)) i)
          + 3136#32 * floorV (res_main_v0 V0) (id (constantI S_ 32 12544#32)) i := rfl
  rw [h, floorV_at, floorV_at, floorV_at, col_at, plane2_at, pos_at, divW_small _ 2 (by omega) (by decide) (by decide),
    divW_small _ 224 (by omega) (by decide) (by decide), divW_small _ 12544 (by omega) (by decide) (by decide),
    ← BitVec.ofNat_mul, ← BitVec.ofNat_mul, ← BitVec.ofNat_add, ← BitVec.ofNat_add, gsrc_parts]

/-- The table's word at row `v` is `gsrc v`'s. -/
theorem table_at (j : S100352x1.Idx) :
    (res_main_v13 V0 : IVec S100352x1 32) j = BitVec.ofNat 32 (gsrc (j 0).val) := by
  rw [table_eq]
  exact tableV_at V0 _

end Cert.Proof.Unpool

end
-- ==== Proof.RefValue.lean ====
/-
  The reference's value. It gathers, for every position of the result, the one input element its table names, sums
  that one element along an axis of length one starting from zero, and divides by one: over the extended reals the
  result is the input repeated, `unpool`.
-/
module

public import proofs.«01_k».proof.Proof.RefIndex
public import Idealize.ShloMosaic.Lib.Pointwise
public import Idealize.ShloMosaic.Lib.IdealHost

@[expose] public section

noncomputable section

namespace Cert.Proof.Unpool

open Idealize.ShloMosaic Cert.ReferenceIdeal Cert.ReferenceIdeal.Gen Cert.ReferenceIdeal.Value

/-- The start indices the gather is given: the table with negative words moved up by the table's range, and a last
    axis of length one. -/
def starts {F : FTy → Type} [FloatOps F] (V0 : Valuation τ sig (Elt F)) : IVec S100352x1x1 32 :=
  broadcastInDim S100352x1x1 ![0, 1] bcast_S100352x1_S100352x1x1_0_1 (select (cmpi .slt (res_main_v13 V0) (broadcastInDim S100352x1 ![] bcast_S_S100352x1 (constantI S_ 32 0#32))) (addi (res_main_v13 V0) (broadcastInDim S100352x1 ![] bcast_S_S100352x1 (constantI S_ 32 25088#32))) (res_main_v13 V0))

/-- The table's row of a start index. -/
def rowIdx (k : S100352x1x1.Idx) : S100352x1.Idx
  | ⟨0, _⟩ => (k 0 : Fin 100352)
  | ⟨1, _⟩ => (0 : Fin 1)

/-- No word is negative, so the start index of row `v` is `gsrc v`. -/
theorem starts_at {F : FTy → Type} [FloatOps F] (V0 : Valuation τ sig (Elt F)) (k : S100352x1x1.Idx) :
    starts V0 k = BitVec.ofNat 32 (gsrc (k 0).val) := by
  have hv : (k 0).val < 100352 := (k 0).isLt
  have hg := gsrc_lt hv
  have hrow : (fun a => if h1 : S100352x1.size a = 1 then ⟨0, by omega⟩
      else ⟨(k ((![0, 1] : Fin 2 → Fin 3) a)).val, by
        match a with
        | ⟨0, _⟩ => exact (k 0).isLt
        | ⟨1, _⟩ => exact absurd rfl h1⟩ : S100352x1.Idx) = rowIdx k := by
    funext a
    match a with
    | ⟨0, _⟩ => rfl
    | ⟨1, _⟩ => rfl
  have hw : (res_main_v13 V0 : IVec S100352x1 32) (rowIdx k) = BitVec.ofNat 32 (gsrc (k 0).val) := table_at V0 _
  have h : starts V0 k = Scalar.select (IntOp.cmpi .slt ((res_main_v13 V0 : IVec S100352x1 32) (rowIdx k)) 0#32)
      (IntOp.addi ((res_main_v13 V0 : IVec S100352x1 32) (rowIdx k)) 25088#32)
      ((res_main_v13 V0 : IVec S100352x1 32) (rowIdx k)) := by
    rw [← hrow]; rfl
  rw [h, hw, slt_zero_small _ (by omega)]
  rfl

/-- The gather's record, under a short name. -/
abbrev gd : GatherDims S4x192x25088 S100352x1x1 S4x192x100352x1 :=
  gather_S4x192x25088_S100352x1x1_S4x192x100352x1_01_2_n_n_2_2_41921

/-- The result index without its last coordinate. -/
def front (j : S4x192x100352x1.Idx) : S4x192x100352.Idx
  | ⟨0, _⟩ => (j 0 : Fin 4)
  | ⟨1, _⟩ => (j 1 : Fin 192)
  | ⟨2, _⟩ => (j 2 : Fin 100352)

/-- The gather reads, for result position `v`, the input element `gsrc v` of the same batch entry and channel. -/
theorem gather_at {α : Type} (f : S4x192x25088.Idx → α) (idx : IVec S100352x1x1 32)
    (hidx : ∀ k, idx k = BitVec.ofNat 32 (gsrc (k 0).val)) (j : S4x192x100352x1.Idx) :
    Host.gather gd f idx j = f (gIdx (front j)) := by
  unfold Host.gather
  congr 1
  have hb : ∀ a, a ∉ gd.operandBatchingDims := fun _ => List.not_mem_nil
  funext a
  apply Fin.ext
  match a with
  | ⟨0, _⟩ =>
    have h0 : (⟨0, by decide⟩ : Fin 3) ∉ gd.startIndexMap := by show _ ∉ [(2 : Fin 3)]; decide
    have hk : (⟨0, by decide⟩ : Fin 3) ∈ gd.sKept := by show _ ∈ [(0 : Fin 3), 1]; decide
    simp only [GatherDims.operandIdx, GatherDims.batchCoord_eq_zero _ _ _ (hb _), GatherDims.start, dif_neg h0,
      GatherDims.offCoord, dif_pos hk, Nat.zero_add]
    rfl
  | ⟨1, _⟩ =>
    have h0 : (⟨1, by decide⟩ : Fin 3) ∉ gd.startIndexMap := by show _ ∉ [(2 : Fin 3)]; decide
    have hk : (⟨1, by decide⟩ : Fin 3) ∈ gd.sKept := by show _ ∈ [(0 : Fin 3), 1]; decide
    simp only [GatherDims.operandIdx, GatherDims.batchCoord_eq_zero _ _ _ (hb _), GatherDims.start, dif_neg h0,
      GatherDims.offCoord, dif_pos hk, Nat.zero_add]
    rfl
  | ⟨2, _⟩ =>
    have h0 : (⟨2, by decide⟩ : Fin 3) ∈ gd.startIndexMap := by show _ ∈ [(2 : Fin 3)]; decide
    have hk : (⟨2, by decide⟩ : Fin 3) ∉ gd.sKept := by show _ ∉ [(0 : Fin 3), 1]; decide
    have hv : (j 2).val < 100352 := (j 2).isLt
    have hg := gsrc_lt hv
    simp only [GatherDims.operandIdx, GatherDims.batchCoord_eq_zero _ _ _ (hb _),
      GatherDims.offCoord_eq_zero _ _ _ hk, Nat.add_zero, GatherDims.start, dif_pos h0, hidx]
    show min (BitVec.ofNat 32 (gsrc (j 2).val)).toInt.toNat (25088 - 1) = gsrc (j 2).val
    rw [WordArith.toInt_ofNat_small _ (by omega)]
    omega

/-- Division by one changes nothing. -/
theorem div_one_ideal (x : EReal) : Ideal.div x 1 = x := by
  unfold Ideal.div
  rw [if_neg one_ne_zero, inv_one, mul_one]

/-- The whole of the reference's arithmetic, from its argument. -/
def refOut (V0 : Valuation τ sig (Elt Ideal)) : FVec Ideal S4x192x100352 .f32 :=
  Host.divf (Host.reduceAdd (Host.gather gd (V0 (Proc.devRef .tc main_arg0)) (starts V0)) (constant S_ .f32 0x00000000#32) reducesTo_S4x192x100352x1_S4x192x100352_d3 h_S_) (broadcastInDim S4x192x100352 ![] bcast_S_S4x192x100352 (constant S_ .f32 0x3F800000#32))

/-- It is the input repeated. -/
theorem refOut_eq (V0 : Valuation τ sig (Elt Ideal)) :
    refOut V0 = unpool (F := Ideal) (V0 (Proc.devRef .tc main_arg0)) := by
  funext j
  have h : refOut V0 j = Ideal.div (Ideal.hostReduceAdd reducesTo_S4x192x100352x1_S4x192x100352_d3
      (Host.gather gd (V0 (Proc.devRef .tc main_arg0)) (starts V0)) (Ideal.ofBits .f32 0x00000000#32) j)
      (Ideal.ofBits .f32 0x3F800000#32) := rfl
  rw [h, Ideal.ofBits_one_f32, div_one_ideal, Ideal.hostReduceAdd_r4_a3, Ideal.ofBits_zero_f32, zero_add,
    Fin.sum_univ_one, gather_at _ _ (starts_at V0)]
  show _ = (V0 (Proc.devRef .tc main_arg0) : FVec Ideal S4x192x25088 .f32) (gIdx j)
  congr 1

end Cert.Proof.Unpool

end
-- ==== Proof.RefRun.lean ====
/-
  The reference's run, with its result named: `unpool` of the argument.
-/
module

public import proofs.«01_k».proof.Proof.RefValue

@[expose] public section

noncomputable section

namespace Cert.Proof.Unpool

open Idealize.ShloMosaic Idealize.ShloMosaic.StableHlo Idealize.SL.Sem Cert.ReferenceIdeal

/-- The reference ends with its result at `unpool` of its argument, and the argument unchanged. -/
theorem run_reference (m : (ℓ : Loc nD τ sig) → Buf (Elt Ideal) ℓ) (ρ : Dev nD → PrngReg) :
    θ_run (Cert.ReferenceIdeal.defs (F := Ideal)) (onTc (τ := τ) (Cert.ReferenceIdeal.main (F := Ideal)))
      ⟨m, fun _ => 0, ρ⟩ fun r => ∀ d : Dev nD,
        r.2.mem ((d.tc : Thread nD τ).loc main_v23)
          = unpool (F := Ideal) (m ((d.tc : Thread nD τ).loc main_arg0) : FVec Ideal S4x192x25088 .f32)
        ∧ r.2.mem ((d.tc : Thread nD τ).loc main_arg0) = m ((d.tc : Thread nD τ).loc main_arg0) := by
  refine (θ_run Cert.ReferenceIdeal.defs _ _).mono (fun r h d => ⟨?_, (h d).2⟩) (Value.run (F := Ideal) m ρ)
  exact (h d).1.trans (refOut_eq (launchContents m d))

end Cert.Proof.Unpool

end
-- ==== Proof.lean ====
/-
  The proof of `Cert.Claim`. One run of the kernel, proved for any floats (`run_main`, Proof/Launch.lean), gives the
  kernel's frames and its value; the reference's run (`run_reference`, Proof/RefRun.lean) gives its frame and
  its value. Both values are `unpool` of the argument.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.RefRun
public import Idealize.ShloMosaic.Adequacy
public import Idealize.ShloMosaic.Init

@[expose] public section

noncomputable section

namespace Cert.Proof

open Idealize.ShloMosaic Idealize.SL.Sem Cert.Proof.Unpool

/-- The kernel as printed runs, leaves its argument alone and ends with every counter at zero. -/
theorem frame_kernel : Cert.quiescent_Kernel := fun m ρ _ =>
  (θ_run Cert.KernelIdeal.defs _ _).mono (fun _ h => ⟨fun d => (h.1 d).1, h.2⟩) (run_main (F := Bits) m ρ)

/-- So does its idealization. -/
theorem frame_ideal : Cert.quiescent_KernelIdeal := fun m ρ _ =>
  (θ_run Cert.KernelIdeal.defs _ _).mono (fun _ h => ⟨fun d => (h.1 d).1, h.2⟩) (run_main (F := Ideal) m ρ)

/-- So does the reference, which has no semaphores. -/
theorem frame_reference : Cert.quiescent_ReferenceIdeal := fun m ρ _ =>
  (θ_run Cert.ReferenceIdeal.defs _ _).mono
    (fun r h => ⟨fun d => (h d).2, sem_eq_zero_of_no_sems (by decide) r.2⟩)
    (run_reference m ρ)

/-- From equal arguments the idealized kernel and reference end with the same result, `unpool` of the argument. -/
theorem values_agree : Cert.algebraic_KernelIdeal_ReferenceIdeal := fun m ρ m' ρ' _ hm =>
  ⟨fun d => (unpool (xv d m) : FVec Ideal Cert.KernelIdeal.S4x192x100352 .f32),
    (θ_run Cert.KernelIdeal.defs _ _).mono (fun _ h d => ⟨(h.1 d).2, (h.1 d).1⟩) (run_main (F := Ideal) m ρ),
    (θ_run Cert.ReferenceIdeal.defs _ _).mono
      (fun _ h d => ⟨(h d).1.trans (congrArg (unpool (F := Ideal)) (hm d)), (h d).2⟩) (run_reference m' ρ')⟩

theorem claim : Cert.Claim := ⟨Cert.Kernel.Gen.facts, Cert.KernelIdeal.Gen.facts, Cert.ReferenceIdeal.Gen.facts,
  frame_kernel, frame_ideal, frame_reference, trivial, values_agree⟩

end Cert.Proof

end
